-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_attend [hPre_finite_attend : Cert.Pre_finite_attend.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_attend.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))).1 = (fun _ => 1#1)
    ∧ (Cert.Pre_finite_attend.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))).2 = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_attend [hPre_finite_attend : Cert.Pre_finite_attend.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_attend.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))).1 = (fun _ => 1#1)
    ∧ (Cert.Pre_finite_attend.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))).2 = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite_attend [hKernel26Ideal : Cert.Kernel26Ideal.Facts] [hPre_finite_attend : Cert.Pre_finite_attend.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_attend m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite_attend [hReference26Ideal : Cert.Reference26Ideal.Facts] [hPre_finite_attend : Cert.Pre_finite_attend.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_attend m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v10) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v10) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v5) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v28) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite_attend [hKernel26Ideal : Cert.Kernel26Ideal.Facts] [hReference26Ideal : Cert.Reference26Ideal.Facts] [hPre_finite_attend : Cert.Pre_finite_attend.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_attend m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v76) = v0 c
          ∧ r.2.mem ((c.tc : Thread Cert.Reference26Ideal.nD Cert.Reference26Ideal.τ).loc Cert.Reference26Ideal.main_v78) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v16) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v16) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v19) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v17) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v17) = v0 c
          ∧ r.2.mem ((c.tc : Thread Cert.Reference32Ideal.nD Cert.Reference32Ideal.τ).loc Cert.Reference32Ideal.main_v18) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg0) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v46) = v0 c
          ∧ r.2.mem ((c.tc : Thread Cert.Reference34Ideal.nD Cert.Reference34Ideal.τ).loc Cert.Reference34Ideal.main_v44) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v42) = v0 c
          ∧ r.2.mem ((c.tc : Thread Cert.Reference35Ideal.nD Cert.Reference35Ideal.τ).loc Cert.Reference35Ideal.main_v40) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v44) = v0 c
          ∧ r.2.mem ((c.tc : Thread Cert.Reference36Ideal.nD Cert.Reference36Ideal.τ).loc Cert.Reference36Ideal.main_v43) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v46) = v0 c
          ∧ r.2.mem ((c.tc : Thread Cert.Reference37Ideal.nD Cert.Reference37Ideal.τ).loc Cert.Reference37Ideal.main_v45) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v42) = v0 c
          ∧ r.2.mem ((c.tc : Thread Cert.Reference38Ideal.nD Cert.Reference38Ideal.τ).loc Cert.Reference38Ideal.main_v41) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts) (hPre_finite_attend : Cert.Pre_finite_attend.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_attend (hKernel26Ideal := hKernel26Ideal) (hPre_finite_attend := hPre_finite_attend)
    ∧ quiescent_Reference26Ideal (hReference26Ideal := hReference26Ideal)
    ∧ quiescent_Reference26Ideal_pre_finite_attend (hReference26Ideal := hReference26Ideal) (hPre_finite_attend := hPre_finite_attend)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_attend (hKernel26Ideal := hKernel26Ideal) (hReference26Ideal := hReference26Ideal) (hPre_finite_attend := hPre_finite_attend)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite.lean ====
abbrev S1x5632x2048 : Shape := ⟨3, ![1, 5632, 2048]⟩
abbrev S2048x2048 : Shape := ⟨2, ![2048, 2048]⟩
abbrev S8x2048x1408 : Shape := ⟨3, ![8, 2048, 1408]⟩
abbrev S4x2048x1408 : Shape := ⟨3, ![4, 2048, 1408]⟩
abbrev S_ : Shape := ⟨0, ![]⟩

class Facts : Prop where
  slices_S8x2048x1408_S4x2048x1408_4_0_0 : S8x2048x1408.Slices ![4, 0, 0] S4x2048x1408
  bitsLt_bf16_f32 : FTy.bits .bf16 < FTy.bits .f32
  bcast_S_S1x5632x2048 : S_.BroadcastsInDim S1x5632x2048 (![] : Fin 0 → Fin S1x5632x2048.rank)
  bcast_S_S2048x2048 : S_.BroadcastsInDim S2048x2048 (![] : Fin 0 → Fin S2048x2048.rank)
  bcast_S_S4x2048x1408 : S_.BroadcastsInDim S4x2048x1408 (![] : Fin 0 → Fin S4x2048x1408.rank)

variable [Facts]

def fn {F : FTy → Type} [FloatOps F] (main_arg0 : FVec F S1x5632x2048 .bf16) (main_arg1 : FVec F S2048x2048 .bf16) (main_arg2 : FVec F S8x2048x1408 .bf16) : IVec S1x5632x2048 1 × IVec S2048x2048 1 × IVec S4x2048x1408 1 :=
  let main_v0 : FVec F S4x2048x1408 .bf16 := (extractStridedSlice S4x2048x1408 ![4, 0, 0] · slices_S8x2048x1408_S4x2048x1408_4_0_0) main_arg2
  let main_v1 : FVec F S1x5632x2048 .f32 := (extf .f32 · bitsLt_bf16_f32) main_arg0
  let main_v2 : FVec F S1x5632x2048 .f32 := Host.absf main_v1
  let main_cst : FVec F S_ .f32 := constant S_ .f32 0x7F800000#32
  let main_v3 : FVec F S1x5632x2048 .f32 := broadcastInDim S1x5632x2048 ![] bcast_S_S1x5632x2048 main_cst
  let main_v4 : IVec S1x5632x2048 1 := cmpf .olt main_v2 main_v3
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_v9 : FVec F S4x2048x1408 .f32 := (extf .f32 · bitsLt_bf16_f32) main_v0
  let main_v10 : FVec F S4x2048x1408 .f32 := Host.absf main_v9
  let main_cst_1 : FVec F S_ .f32 := constant S_ .f32 0x7F800000#32
  let main_v11 : FVec F S4x2048x1408 .f32 := broadcastInDim S4x2048x1408 ![] bcast_S_S4x2048x1408 main_cst_1
  let main_v12 : IVec S4x2048x1408 1 := cmpf .olt main_v10 main_v11
  (main_v4, main_v8, main_v12)
-- ==== Pre_finite_attend.lean ====
abbrev S2048x2048 : Shape := ⟨2, ![2048, 2048]⟩
abbrev S8x256x512 : Shape := ⟨3, ![8, 256, 512]⟩
abbrev S1x2048x2048 : Shape := ⟨3, ![1, 2048, 2048]⟩
abbrev S4x256x512 : Shape := ⟨3, ![4, 256, 512]⟩
abbrev S_ : Shape := ⟨0, ![]⟩

class Facts : Prop where
  slices_S8x256x512_S4x256x512_4_0_0 : S8x256x512.Slices ![4, 0, 0] S4x256x512
  bitsLt_bf16_f32 : FTy.bits .bf16 < FTy.bits .f32
  bcast_S_S4x256x512 : S_.BroadcastsInDim S4x256x512 (![] : Fin 0 → Fin S4x256x512.rank)
  bcast_S_S1x2048x2048 : S_.BroadcastsInDim S1x2048x2048 (![] : Fin 0 → Fin S1x2048x2048.rank)

variable [Facts]

def fn {F : FTy → Type} [FloatOps F] (main_arg0 : FVec F S2048x2048 .bf16) (main_arg1 : FVec F S8x256x512 .bf16) (main_arg2 : FVec F S1x2048x2048 .bf16) : IVec S4x256x512 1 × IVec S1x2048x2048 1 :=
  let main_v0 : FVec F S4x256x512 .bf16 := (extractStridedSlice S4x256x512 ![4, 0, 0] · slices_S8x256x512_S4x256x512_4_0_0) main_arg1
  let main_v1 : FVec F S4x256x512 .f32 := (extf .f32 · bitsLt_bf16_f32) main_v0
  let main_v2 : FVec F S4x256x512 .f32 := Host.absf main_v1
  let main_cst : FVec F S_ .f32 := constant S_ .f32 0x7F800000#32
  let main_v3 : FVec F S4x256x512 .f32 := broadcastInDim S4x256x512 ![] bcast_S_S4x256x512 main_cst
  let main_v4 : IVec S4x256x512 1 := cmpf .olt main_v2 main_v3
  let main_v5 : FVec F S1x2048x2048 .f32 := (extf .f32 · bitsLt_bf16_f32) main_arg2
  let main_v6 : FVec F S1x2048x2048 .f32 := Host.absf main_v5
  let main_cst_0 : FVec F S_ .f32 := constant S_ .f32 0x7F800000#32
  let main_v7 : FVec F S1x2048x2048 .f32 := broadcastInDim S1x2048x2048 ![] bcast_S_S1x2048x2048 main_cst_0
  let main_v8 : IVec S1x2048x2048 1 := cmpf .olt main_v6 main_v7
  (main_v4, main_v8)
-- ==== Kernel.lean ====
abbrev S2048x6144 : Shape := ⟨2, ![2048, 6144]⟩
abbrev S8x128x128 : Shape := ⟨3, ![8, 128, 128]⟩
abbrev S8x128 : Shape := ⟨2, ![8, 128]⟩
abbrev S1024 : Shape := ⟨1, ![1024]⟩
abbrev S2x2048x1024 : Shape := ⟨3, ![2, 2048, 1024]⟩
abbrev S8x128x1 : Shape := ⟨3, ![8, 128, 1]⟩
abbrev S1x1024 : Shape := ⟨2, ![1, 1024]⟩
abbrev S128x1024 : Shape := ⟨2, ![128, 1024]⟩
abbrev S1x128x1024 : Shape := ⟨3, ![1, 128, 1024]⟩
abbrev S128x2048 : Shape := ⟨2, ![128, 2048]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S1x128 : Shape := ⟨2, ![1, 128]⟩
abbrev S128 : Shape := ⟨1, ![128]⟩

abbrev nBuf : Space → Nat
  | .hbm => 15
  | .vmem => 16
  | .smem => 0
  | _ => 0

abbrev bufTy : (tb : Table) → Fin (tcTables nBuf tb) → BufTy
  | .hbm, ⟨0, _⟩ => ⟨S2048x6144, .f32⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S2x2048x1024, .bf16⟩
  | .hbm, ⟨6, _⟩ => ⟨S2048x6144, .bf16⟩
  | .hbm, ⟨7, _⟩ => ⟨S8x128x1, .f32⟩
  | .hbm, ⟨8, _⟩ => ⟨S1x1024, .f32⟩
  | .hbm, ⟨9, _⟩ => ⟨S1x1024, .f32⟩
  | .hbm, ⟨10, _⟩ => ⟨S2048x6144, .bf16⟩
  | .hbm, ⟨11, _⟩ => ⟨S8x128x128, .f32⟩
  | .hbm, ⟨12, _⟩ => ⟨S8x128x1, .f32⟩
  | .hbm, ⟨13, _⟩ => ⟨S1x1024, .f32⟩
  | .hbm, ⟨14, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128x128, .f32⟩
  | .local _ .vmem, ⟨5, _⟩ => ⟨S8x128x1, .f32⟩
  | .local _ .vmem, ⟨6, _⟩ => ⟨S1x1024, .f32⟩
  | .local _ .vmem, ⟨7, _⟩ => ⟨S1x1024, .f32⟩
  | .local _ .vmem, ⟨8, _⟩ => ⟨S1x128x1024, .bf16⟩
  | .local _ .vmem, ⟨9, _⟩ => ⟨S1x128x1024, .bf16⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S8x128x1, .f32⟩
  | .local _ .vmem, ⟨14, _⟩ => ⟨S1x1024, .f32⟩
  | .local _ .vmem, ⟨15, _⟩ => ⟨S1x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x6144 : Shape := ⟨2, ![2048, 6144]⟩
abbrev S8x128x128 : Shape := ⟨3, ![8, 128, 128]⟩
abbrev S8x128 : Shape := ⟨2, ![8, 128]⟩
abbrev S1024 : Shape := ⟨1, ![1024]⟩
abbrev S2x2048x1024 : Shape := ⟨3, ![2, 2048, 1024]⟩
abbrev S2048x1024 : Shape := ⟨2, ![2048, 1024]⟩
abbrev S1x2048x1024 : Shape := ⟨3, ![1, 2048, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S2048 : Shape := ⟨1, ![2048]⟩
abbrev S2048x4096 : Shape := ⟨2, ![2048, 4096]⟩
abbrev S8x128x1 : Shape := ⟨3, ![8, 128, 1]⟩

abbrev nBuf : Space → Nat
  | .hbm => 207
  | .vmem => 0
  | .smem => 0
  | _ => 0

abbrev hbmTy0_0 (i : Nat) : BufTy := match i % 128 with
  | 0 => ⟨S2048x6144, .f32⟩
  | 1 => ⟨S8x128x128, .f32⟩
  | 2 => ⟨S8x128, .f32⟩
  | 3 => ⟨S1024, .f32⟩
  | 4 => ⟨S1024, .f32⟩
  | 5 => ⟨S2x2048x1024, .bf16⟩
  | 6 => ⟨S2048x6144, .bf16⟩
  | 7 => ⟨S2048x1024, .f32⟩
  | 8 => ⟨S2048x1024, .f32⟩
  | 9 => ⟨S1x2048x1024, .f32⟩
  | 10 => ⟨S1x2048x1024, .f32⟩
  | 11 => ⟨S_, .f32⟩
  | 12 => ⟨S1x2048x1024, .f32⟩
  | 13 => ⟨S1x2048x1024, .f32⟩
  | 14 => ⟨S1x2048x1024, .f32⟩
  | 15 => ⟨S_, .f32⟩
  | 16 => ⟨S1x2048x1024, .f32⟩
  | 17 => ⟨S1x2048x1024, .f32⟩
  | 18 => ⟨S1x2048x1024, .f32⟩
  | 19 => ⟨S1x2048x1024, .f32⟩
  | 20 => ⟨S1x2048x1024, .f32⟩
  | 21 => ⟨S1x2048x1024, .f32⟩
  | 22 => ⟨S1x2048x1024, .f32⟩
  | 23 => ⟨S_, .f32⟩
  | 24 => ⟨S1x2048x1024, .f32⟩
  | 25 => ⟨S1x2048x1024, .f32⟩
  | 26 => ⟨S1x2048x1024, .f32⟩
  | 27 => ⟨S_, .f32⟩
  | 28 => ⟨S1x2048x1024, .f32⟩
  | 29 => ⟨S1x2048x1024, .f32⟩
  | 30 => ⟨S1x2048x1024, .f32⟩
  | 31 => ⟨S1x2048x1024, .f32⟩
  | 32 => ⟨S1x2048x1024, .f32⟩
  | 33 => ⟨S1x2048x1024, .f32⟩
  | 34 => ⟨S1x2048x1024, .f32⟩
  | 35 => ⟨S_, .f32⟩
  | 36 => ⟨S1x2048, .f32⟩
  | 37 => ⟨S1x2048x1, .f32⟩
  | 38 => ⟨S_, .f32⟩
  | 39 => ⟨S1x2048x1, .f32⟩
  | 40 => ⟨S1x2048x1, .f32⟩
  | 41 => ⟨S1x2048x1024, .f32⟩
  | 42 => ⟨S1x2048x1024, .f32⟩
  | 43 => ⟨S1x2048x1024, .f32⟩
  | 44 => ⟨S_, .f32⟩
  | 45 => ⟨S1x2048x1024, .f32⟩
  | 46 => ⟨S1x2048x1024, .f32⟩
  | 47 => ⟨S_, .f32⟩
  | 48 => ⟨S1x2048, .f32⟩
  | 49 => ⟨S1x2048x1, .f32⟩
  | 50 => ⟨S_, .f32⟩
  | 51 => ⟨S1x2048x1, .f32⟩
  | 52 => ⟨S1x2048x1, .f32⟩
  | 53 => ⟨S1x2048x1024, .f32⟩
  | 54 => ⟨S1x2048x1024, .f32⟩
  | 55 => ⟨S_, .f32⟩
  | 56 => ⟨S1x2048x1, .f32⟩
  | 57 => ⟨S1x2048x1, .f32⟩
  | 58 => ⟨S1x2048x1, .f32⟩
  | 59 => ⟨S1x2048x1, .f32⟩
  | 60 => ⟨S_, .f32⟩
  | 61 => ⟨S1x2048x1, .f32⟩
  | 62 => ⟨S1x2048x1, .f32⟩
  | 63 => ⟨S1x2048x1024, .f32⟩
  | 64 => ⟨S1x2048x1024, .f32⟩
  | 65 => ⟨S1x1x1024, .f32⟩
  | 66 => ⟨S1x2048x1024, .f32⟩
  | 67 => ⟨S1x2048x1024, .f32⟩
  | 68 => ⟨S1x1x1024, .f32⟩
  | 69 => ⟨S1x2048x1024, .f32⟩
  | 70 => ⟨S1x2048x1024, .f32⟩
  | 71 => ⟨S1x16x128x8x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S_, .i32⟩
  | 84 => ⟨S_, .f32⟩
  | 85 => ⟨S8x128x128, .i1⟩
  | 86 => ⟨S8x128x128, .f32⟩
  | 87 => ⟨S8x128x128, .f32⟩
  | 88 => ⟨S_, .f32⟩
  | 89 => ⟨S8x128x128, .f32⟩
  | 90 => ⟨S8x1x16x128x128, .f32⟩
  | 91 => ⟨S1x16x128x8x128, .f32⟩
  | 92 => ⟨S128x8, .f32⟩
  | 93 => ⟨S1x1x128x8x1, .f32⟩
  | 94 => ⟨S1x16x128x8x128, .f32⟩
  | 95 => ⟨S1x16x128x8x128, .f32⟩
  | 96 => ⟨S1x16x128x8x128, .f32⟩
  | 97 => ⟨S1x16x128x8x128, .f32⟩
  | 98 => ⟨S1x2048x1024, .f32⟩
  | 99 => ⟨S2048x1024, .f32⟩
  | 100 => ⟨S1x2048x1024, .bf16⟩
  | 101 => ⟨S2048x1024, .bf16⟩
  | 102 => ⟨S2048x1024, .f32⟩
  | 103 => ⟨S1x2048x1024, .f32⟩
  | 104 => ⟨S1x16x128x8x128, .f32⟩
  | 105 => ⟨S1x16x128x8x128, .f32⟩
  | 106 => ⟨S1x16x128x8x128, .f32⟩
  | 107 => ⟨S1x2048x1024, .f32⟩
  | 108 => ⟨S_, .f32⟩
  | 109 => ⟨S1x128x8, .f32⟩
  | 110 => ⟨S1x1x128x8x1, .f32⟩
  | 111 => ⟨S_, .f32⟩
  | 112 => ⟨S128x8, .f32⟩
  | 113 => ⟨S8x128, .f32⟩
  | 114 => ⟨S8x1x16x128x128, .f32⟩
  | 115 => ⟨S8x128x128, .f32⟩
  | 116 => ⟨S8x1x16x128x128, .f32⟩
  | 117 => ⟨S1x16x128x8x128, .f32⟩
  | 118 => ⟨S_, .f32⟩
  | 119 => ⟨S8x128x128, .f32⟩
  | 120 => ⟨S8x128x128, .f32⟩
  | 121 => ⟨S1x2048x1024, .f32⟩
  | 122 => ⟨S_, .f32⟩
  | 123 => ⟨S1x1024, .f32⟩
  | 124 => ⟨S1x1x1024, .f32⟩
  | 125 => ⟨S_, .f32⟩
  | 126 => ⟨S1024, .f32⟩
  | 127 => ⟨S1x2048x1024, .f32⟩
  | _ => ⟨S2048x6144, .f32⟩

abbrev hbmTy0_1 (i : Nat) : BufTy := match i % 128 with
  | 0 => ⟨S_, .f32⟩
  | 1 => ⟨S1x1024, .f32⟩
  | 2 => ⟨S1x1x1024, .f32⟩
  | 3 => ⟨S1x2048x1024, .f32⟩
  | 4 => ⟨S1x2048x1024, .f32⟩
  | 5 => ⟨S_, .f32⟩
  | 6 => ⟨S1024, .f32⟩
  | 7 => ⟨S1x2048x1024, .f32⟩
  | 8 => ⟨S_, .f32⟩
  | 9 => ⟨S1x2048, .f32⟩
  | 10 => ⟨S1x2048x1, .f32⟩
  | 11 => ⟨S1x2048x1024, .f32⟩
  | 12 => ⟨S1x2048x1024, .f32⟩
  | 13 => ⟨S1x2048x1, .f32⟩
  | 14 => ⟨S1x2048x1024, .f32⟩
  | 15 => ⟨S_, .f32⟩
  | 16 => ⟨S1x2048, .f32⟩
  | 17 => ⟨S1x2048x1, .f32⟩
  | 18 => ⟨S_, .f32⟩
  | 19 => ⟨S1x2048x1, .f32⟩
  | 20 => ⟨S1x2048x1, .f32⟩
  | 21 => ⟨S_, .f32⟩
  | 22 => ⟨S2048, .f32⟩
  | 23 => ⟨S1x2048, .f32⟩
  | 24 => ⟨S1x2048x1024, .f32⟩
  | 25 => ⟨S1x2048x1024, .f32⟩
  | 26 => ⟨S1x2048x1024, .f32⟩
  | 27 => ⟨S_, .f32⟩
  | 28 => ⟨S1x2048, .f32⟩
  | 29 => ⟨S1x2048x1, .f32⟩
  | 30 => ⟨S1x2048x1024, .f32⟩
  | 31 => ⟨S1x2048x1, .f32⟩
  | 32 => ⟨S_, .f32⟩
  | 33 => ⟨S1x2048x1, .f32⟩
  | 34 => ⟨S1x2048x1, .f32⟩
  | 35 => ⟨S_, .f32⟩
  | 36 => ⟨S2048, .f32⟩
  | 37 => ⟨S1x2048, .f32⟩
  | 38 => ⟨S1x2048x1024, .f32⟩
  | 39 => ⟨S1x2048x1024, .f32⟩
  | 40 => ⟨S1x2048x1024, .f32⟩
  | 41 => ⟨S1x2048x1024, .f32⟩
  | 42 => ⟨S_, .f32⟩
  | 43 => ⟨S1x2048x1024, .f32⟩
  | 44 => ⟨S1x2048x1024, .f32⟩
  | 45 => ⟨S1x2048x1024, .f32⟩
  | 46 => ⟨S_, .f32⟩
  | 47 => ⟨S1x2048x1024, .f32⟩
  | 48 => ⟨S1x2048x1024, .f32⟩
  | 49 => ⟨S1x2048x1024, .f32⟩
  | 50 => ⟨S_, .f32⟩
  | 51 => ⟨S1x2048x1024, .f32⟩
  | 52 => ⟨S1x2048x1024, .f32⟩
  | 53 => ⟨S1x2048x1024, .f32⟩
  | 54 => ⟨S1x2048x1024, .f32⟩
  | 55 => ⟨S1x2048x1024, .f32⟩
  | 56 => ⟨S_, .f32⟩
  | 57 => ⟨S1x2048x1024, .f32⟩
  | 58 => ⟨S1x2048x1024, .f32⟩
  | 59 => ⟨S1x2048x1024, .f32⟩
  | 60 => ⟨S_, .f32⟩
  | 61 => ⟨S1x2048x1024, .f32⟩
  | 62 => ⟨S1x2048x1024, .f32⟩
  | 63 => ⟨S1x2048x1024, .f32⟩
  | 64 => ⟨S_, .f32⟩
  | 65 => ⟨S1x2048x1024, .f32⟩
  | 66 => ⟨S1x2048x1024, .f32⟩
  | 67 => ⟨S1x2048x1024, .f32⟩
  | 68 => ⟨S_, .f32⟩
  | 69 => ⟨S2048x1024, .f32⟩
  | 70 => ⟨S_, .f32⟩
  | 71 => ⟨S2048x1024, .f32⟩
  | 72 => ⟨S2048x1024, .bf16⟩
  | 73 => ⟨S2048x1024, .bf16⟩
  | 74 => ⟨S2048x4096, .bf16⟩
  | 75 => ⟨S2048x6144, .bf16⟩
  | 76 => ⟨S8x128x1, .f32⟩
  | 77 => ⟨S1x1024, .f32⟩
  | 78 => ⟨S1x1024, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_c_10 : Ref sig .tc := ⟨.hbm, 83, rfl⟩
abbrev main_call1_v0 : Ref sig .tc := ⟨.hbm, 84, rfl⟩
abbrev main_v56_1 : Ref sig .tc := ⟨.hbm, 85, rfl⟩
abbrev main_call1_v2 : Ref sig .tc := ⟨.hbm, 86, rfl⟩
abbrev main_v56_0 : Ref sig .tc := ⟨.hbm, 87, rfl⟩
abbrev main_call1_cst : Ref sig .tc := ⟨.hbm, 88, rfl⟩
abbrev main_v56_2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call2_cst : Ref sig .tc := ⟨.hbm, 118, rfl⟩
abbrev main_call2_v0 : Ref sig .tc := ⟨.hbm, 119, rfl⟩
abbrev main_v83 : Ref sig .tc := ⟨.hbm, 120, rfl⟩
abbrev main_v84 : Ref sig .tc := ⟨.hbm, 121, rfl⟩
abbrev main_cst_13 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_21 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_v115 : Ref sig .tc := ⟨.hbm, 162, rfl⟩
abbrev main_cst_23 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_24 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_26 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_27 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_28 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_29 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_30 : Ref sig .tc := ⟨.hbm, 196, rfl⟩
abbrev main_v142 : Ref sig .tc := ⟨.hbm, 197, rfl⟩
abbrev main_cst_31 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩

abbrev nD : Nat := 1
abbrev τ : Topo := Topo.v7x

variable {F : FTy → Type} [FloatOps F]
-- ==== Kernel2.lean ====
abbrev S1x5632x2048 : Shape := ⟨3, ![1, 5632, 2048]⟩
abbrev S2048x2048 : Shape := ⟨2, ![2048, 2048]⟩
abbrev S8x2048x1408 : Shape := ⟨3, ![8, 2048, 1408]⟩
abbrev S1x2048x2048 : Shape := ⟨3, ![1, 2048, 2048]⟩
abbrev S2x4x2048x1408 : Shape := ⟨4, ![2, 4, 2048, 1408]⟩
abbrev S1x512x2048 : Shape := ⟨3, ![1, 512, 2048]⟩
abbrev S1x1408x2048 : Shape := ⟨3, ![1, 1408, 2048]⟩
abbrev S1x512x1408 : Shape := ⟨3, ![1, 512, 1408]⟩
abbrev S2x1x512x1408 : Shape := ⟨4, ![2, 1, 512, 1408]⟩
abbrev S512x2048 : Shape := ⟨2, ![512, 2048]⟩
abbrev S1408x2048 : Shape := ⟨2, ![1408, 2048]⟩
abbrev S512x1408 : Shape := ⟨2, ![512, 1408]⟩
abbrev S1x1x512x1408 : Shape := ⟨4, ![1, 1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S1x5632x2048, .bf16⟩
  | .hbm, ⟨1, _⟩ => ⟨S2048x2048, .bf16⟩
  | .hbm, ⟨2, _⟩ => ⟨S8x2048x1408, .bf16⟩
  | .hbm, ⟨3, _⟩ => ⟨S1x2048x2048, .bf16⟩
  | .hbm, ⟨4, _⟩ => ⟨S2x4x2048x1408, .bf16⟩
  | .hbm, ⟨5, _⟩ => ⟨S8x2048x1408, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S2x1x512x1408, .bf16⟩
  | .local _ .vmem, ⟨9, _⟩ => ⟨S2x1x512x1408, .bf16⟩
  | _, _ => ⟨S1x5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S1x5632x2048 : Shape := ⟨3, ![1, 5632, 2048]⟩
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x5632x2048, .bf16⟩
  | .hbm, ⟨1, _⟩ => ⟨S2048x2048, .bf16⟩
  | .hbm, ⟨2, _⟩ => ⟨S8x2048x1408, .bf16⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S5632x2048, .bf16⟩
  | .hbm, ⟨7, _⟩ => ⟨S5632x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x2048, .f32⟩
  | .hbm, ⟨25, _⟩ => ⟨S2048x2048, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x11264, .f32⟩
  | .hbm, ⟨34, _⟩ => ⟨S2048x11264, .bf16⟩
  | .hbm, ⟨35, _⟩ => ⟨S2048x8x1408, .bf16⟩
  | .hbm, ⟨36, _⟩ => ⟨S8x2048x1408, .bf16⟩
  | _, _ => ⟨S1x5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Kernel3.lean ====
abbrev S2048x2048 : Shape := ⟨2, ![2048, 2048]⟩
abbrev S8x2048x1408 : Shape := ⟨3, ![8, 2048, 1408]⟩
abbrev S1x2048x2048 : Shape := ⟨3, ![1, 2048, 2048]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S1x2048x2048, .bf16⟩
  | .hbm, ⟨3, _⟩ => ⟨S8x2048x1408, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S_, .f32⟩
  | .hbm, ⟨6, _⟩ => ⟨S2048x11264, .f32⟩
  | .hbm, ⟨7, _⟩ => ⟨S2048x2048, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | .hbm, ⟨12, _⟩ => ⟨S2048x8x1408, .bf16⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x2048x1408 : Shape := ⟨3, ![8, 2048, 1408]⟩
abbrev S1x2048x2048 : Shape := ⟨3, ![1, 2048, 2048]⟩
abbrev S1x2048x1408 : Shape := ⟨3, ![1, 2048, 1408]⟩
abbrev S1x1024x1408 : Shape := ⟨3, ![1, 1024, 1408]⟩
abbrev S1x2048x1024 : Shape := ⟨3, ![1, 2048, 1024]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S1x2048x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S_, .f32⟩
  | .hbm, ⟨9, _⟩ => ⟨S2048x2048, .f32⟩
  | .hbm, ⟨10, _⟩ => ⟨S2048x11264, .f32⟩
  | .hbm, ⟨11, _⟩ => ⟨S2048x2048, .f32⟩
  | .hbm, ⟨12, _⟩ => ⟨S2048x2048, .bf16⟩
  | .hbm, ⟨13, _⟩ => ⟨S1x2048x2048, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4x2048x1408 : Shape := ⟨3, ![4, 2048, 1408]⟩
abbrev S2048x2048 : Shape := ⟨2, ![2048, 2048]⟩
abbrev S1x2048x2048 : Shape := ⟨3, ![1, 2048, 2048]⟩
abbrev S1x5632x2048 : Shape := ⟨3, ![1, 5632, 2048]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x1408, .bf16⟩
  | .hbm, ⟨1, _⟩ => ⟨S2048x2048, .bf16⟩
  | .hbm, ⟨2, _⟩ => ⟨S1x2048x2048, .bf16⟩
  | .hbm, ⟨3, _⟩ => ⟨S1x5632x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .bf16⟩
  | .local _ .vmem, ⟨5, _⟩ => ⟨S1x1408x1024, .bf16⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x2048x1408 : Shape := ⟨3, ![4, 2048, 1408]⟩
abbrev S2048x2048 : Shape := ⟨2, ![2048, 2048]⟩
abbrev S2048x4x1408 : Shape := ⟨3, ![2048, 4, 1408]⟩
abbrev S2048x5632 : Shape := ⟨2, ![2048, 5632]⟩
abbrev S_ : Shape := ⟨0, ![]⟩
abbrev S5632x2048 : Shape := ⟨2, ![5632, 2048]⟩
abbrev S1x5632x2048 : Shape := ⟨3, ![1, 5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S2048x2048, .bf16⟩
  | .hbm, ⟨2, _⟩ => ⟨S4x2048x1408, .f32⟩
  | .hbm, ⟨3, _⟩ => ⟨S2048x4x1408, .f32⟩
  | .hbm, ⟨4, _⟩ => ⟨S2048x5632, .f32⟩
  | .hbm, ⟨5, _⟩ => ⟨S_, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | .hbm, ⟨12, _⟩ => ⟨S1x5632x2048, .bf16⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S2048x2048 : Shape := ⟨2, ![2048, 2048]⟩
abbrev S8x2048x1408 : Shape := ⟨3, ![8, 2048, 1408]⟩
abbrev S1x2048x2048 : Shape := ⟨3, ![1, 2048, 2048]⟩
abbrev S1x1024x2048 : Shape := ⟨3, ![1, 1024, 2048]⟩
abbrev S1x2048x1408 : Shape := ⟨3, ![1, 2048, 1408]⟩
abbrev S1x1024x1408 : Shape := ⟨3, ![1, 1024, 1408]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S1x2048x2048, .bf16⟩
  | .hbm, ⟨3, _⟩ => ⟨S8x2048x1408, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg2 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S2048x2048, .f32⟩
  | .hbm, ⟨6, _⟩ => ⟨S2048x11264, .f32⟩
  | .hbm, ⟨7, _⟩ => ⟨S2048x11264, .bf16⟩
  | .hbm, ⟨8, _⟩ => ⟨S2048x8x1408, .bf16⟩
  | .hbm, ⟨9, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S4x2048x1408 : Shape := ⟨3, ![4, 2048, 1408]⟩
abbrev S1x5632x2048 : Shape := ⟨3, ![1, 5632, 2048]⟩
abbrev S1x2048x2048 : Shape := ⟨3, ![1, 2048, 2048]⟩
abbrev S1x2048x1408 : Shape := ⟨3, ![1, 2048, 1408]⟩
abbrev S1x1408x1024 : Shape := ⟨3, ![1, 1408, 1024]⟩
abbrev S1x2048x1024 : Shape := ⟨3, ![1, 2048, 1024]⟩
abbrev S2048x1024 : Shape := ⟨2, ![2048, 1024]⟩
abbrev S2048x1408 : Shape := ⟨2, ![2048, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x1408, .bf16⟩
  | .hbm, ⟨1, _⟩ => ⟨S1x5632x2048, .bf16⟩
  | .hbm, ⟨2, _⟩ => ⟨S1x2048x2048, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S2048x1024, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x2048x1408 : Shape := ⟨3, ![4, 2048, 1408]⟩
abbrev S1x5632x2048 : Shape := ⟨3, ![1, 5632, 2048]⟩
abbrev S2048x4x1408 : Shape := ⟨3, ![2048, 4, 1408]⟩
abbrev S2048x5632 : Shape := ⟨2, ![2048, 5632]⟩
abbrev S5632x2048 : Shape := ⟨2, ![5632, 2048]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S1x5632x2048, .bf16⟩
  | .hbm, ⟨2, _⟩ => ⟨S4x2048x1408, .f32⟩
  | .hbm, ⟨3, _⟩ => ⟨S2048x4x1408, .f32⟩
  | .hbm, ⟨4, _⟩ => ⟨S2048x5632, .f32⟩
  | .hbm, ⟨5, _⟩ => ⟨S5632x2048, .bf16⟩
  | .hbm, ⟨6, _⟩ => ⟨S5632x2048, .f32⟩
  | .hbm, ⟨7, _⟩ => ⟨S2048x2048, .f32⟩
  | .hbm, ⟨8, _⟩ => ⟨S1x2048x2048, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S1x6160x2048 : Shape := ⟨3, ![1, 6160, 2048]⟩
abbrev S1x2048x2048 : Shape := ⟨3, ![1, 2048, 2048]⟩
abbrev S1x2048x6144 : Shape := ⟨3, ![1, 2048, 6144]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x6160x2048, .bf16⟩
  | .hbm, ⟨2, _⟩ => ⟨S1x2048x2048, .bf16⟩
  | .hbm, ⟨3, _⟩ => ⟨S1x2048x6144, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c6_i32_5 : BitVec 32 := 6#32
  let c0_i32_6 : BitVec 32 := 0#32
  let v18 : BitVec 1 := Scalar.cmpi .eq c6_i32_5 c0_i32_6
  let c1_i32_7 : BitVec 32 := 1#32
  let v19 : BitVec 32 := Scalar.select v18 c1_i32_7 c6_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S1x6160x2048 : Shape := ⟨3, ![1, 6160, 2048]⟩
abbrev S6160x2048 : Shape := ⟨2, ![6160, 2048]⟩
abbrev S2048x6160 : Shape := ⟨2, ![2048, 6160]⟩
abbrev S2048x6144 : Shape := ⟨2, ![2048, 6144]⟩
abbrev S1x2048x6144 : Shape := ⟨3, ![1, 2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x6160x2048, .bf16⟩
  | .hbm, ⟨2, _⟩ => ⟨S6160x2048, .bf16⟩
  | .hbm, ⟨3, _⟩ => ⟨S6160x2048, .f32⟩
  | .hbm, ⟨4, _⟩ => ⟨S2048x6160, .f32⟩
  | .hbm, ⟨5, _⟩ => ⟨S2048x2048, .f32⟩
  | .hbm, ⟨6, _⟩ => ⟨S2048x6160, .f32⟩
  | .hbm, ⟨7, _⟩ => ⟨S2048x6144, .f32⟩
  | .hbm, ⟨8, _⟩ => ⟨S1x2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S2048x2048 : Shape := ⟨2, ![2048, 2048]⟩
abbrev S1x6160x2048 : Shape := ⟨3, ![1, 6160, 2048]⟩
abbrev S1x2048x2048 : Shape := ⟨3, ![1, 2048, 2048]⟩
abbrev S1x2048x16 : Shape := ⟨3, ![1, 2048, 16]⟩
abbrev S1x1024x2048 : Shape := ⟨3, ![1, 1024, 2048]⟩
abbrev S1x16x2048 : Shape := ⟨3, ![1, 16, 2048]⟩
abbrev S1x1024x16 : Shape := ⟨3, ![1, 1024, 16]⟩
abbrev S1024x2048 : Shape := ⟨2, ![1024, 2048]⟩
abbrev S16x2048 : Shape := ⟨2, ![16, 2048]⟩
abbrev S1024x16 : Shape := ⟨2, ![1024, 16]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x6160x2048, .bf16⟩
  | .hbm, ⟨2, _⟩ => ⟨S1x2048x2048, .bf16⟩
  | .hbm, ⟨3, _⟩ => ⟨S1x2048x16, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x16x2048, .bf16⟩
  | .local _ .vmem, ⟨3, _⟩ => ⟨S1x1024x16, .f32⟩
  | .local _ .vmem, ⟨4, _⟩ => ⟨S1x1024x16, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c384_i32 : BitVec 32 := 384#32
  let v17 : BitVec 32 := Scalar.addi arg1 c384_i32
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S1x6160x2048 : Shape := ⟨3, ![1, 6160, 2048]⟩
abbrev S6160x2048 : Shape := ⟨2, ![6160, 2048]⟩
abbrev S2048x6160 : Shape := ⟨2, ![2048, 6160]⟩
abbrev S2048x16 : Shape := ⟨2, ![2048, 16]⟩
abbrev S1x2048x16 : Shape := ⟨3, ![1, 2048, 16]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x6160x2048, .bf16⟩
  | .hbm, ⟨2, _⟩ => ⟨S6160x2048, .bf16⟩
  | .hbm, ⟨3, _⟩ => ⟨S6160x2048, .f32⟩
  | .hbm, ⟨4, _⟩ => ⟨S2048x6160, .f32⟩
  | .hbm, ⟨5, _⟩ => ⟨S2048x2048, .f32⟩
  | .hbm, ⟨6, _⟩ => ⟨S2048x6160, .f32⟩
  | .hbm, ⟨7, _⟩ => ⟨S2048x16, .f32⟩
  | .hbm, ⟨8, _⟩ => ⟨S1x2048x16, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel10.lean ====
abbrev S2048x6144 : Shape := ⟨2, ![2048, 6144]⟩
abbrev S1x6160x2048 : Shape := ⟨3, ![1, 6160, 2048]⟩
abbrev S1x2048x6144 : Shape := ⟨3, ![1, 2048, 6144]⟩
abbrev S1x2048x2048 : Shape := ⟨3, ![1, 2048, 2048]⟩
abbrev S1x2048x512 : Shape := ⟨3, ![1, 2048, 512]⟩
abbrev S1x512x1024 : Shape := ⟨3, ![1, 512, 1024]⟩
abbrev S1x2048x1024 : Shape := ⟨3, ![1, 2048, 1024]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S1x6160x2048, .bf16⟩
  | .hbm, ⟨2, _⟩ => ⟨S1x2048x6144, .bf16⟩
  | .hbm, ⟨3, _⟩ => ⟨S1x2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 12], ![false, false, false]⟩

def k0_cond2 (i : grid0.Coords) : BitVec 1 :=
  let arg2 : BitVec 32 := BitVec.ofNat 32 (i 2).val
  let c11_i32 : BitVec 32 := 11#32
  let v13 : BitVec 1 := Scalar.cmpi .eq arg2 c11_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg2 c12_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg2 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x6144 : Shape := ⟨2, ![2048, 6144]⟩
abbrev S1x6160x2048 : Shape := ⟨3, ![1, 6160, 2048]⟩
abbrev S6160x2048 : Shape := ⟨2, ![6160, 2048]⟩
abbrev S2048x6160 : Shape := ⟨2, ![2048, 6160]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x6160x2048, .bf16⟩
  | .hbm, ⟨2, _⟩ => ⟨S6160x2048, .bf16⟩
  | .hbm, ⟨3, _⟩ => ⟨S6160x2048, .f32⟩
  | .hbm, ⟨4, _⟩ => ⟨S2048x6160, .f32⟩
  | .hbm, ⟨5, _⟩ => ⟨S_, .f32⟩
  | .hbm, ⟨6, _⟩ => ⟨S2048x2048, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S2048x2048, .f32⟩
  | .hbm, ⟨11, _⟩ => ⟨S2048x2048, .bf16⟩
  | .hbm, ⟨12, _⟩ => ⟨S1x2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel11.lean ====
abbrev S2048x16 : Shape := ⟨2, ![2048, 16]⟩
abbrev S1x6160x2048 : Shape := ⟨3, ![1, 6160, 2048]⟩
abbrev S1x2048x16 : Shape := ⟨3, ![1, 2048, 16]⟩
abbrev S1x2048x2048 : Shape := ⟨3, ![1, 2048, 2048]⟩
abbrev S1x1024x16 : Shape := ⟨3, ![1, 1024, 16]⟩
abbrev S1x16x1024 : Shape := ⟨3, ![1, 16, 1024]⟩
abbrev S1x1024x1024 : Shape := ⟨3, ![1, 1024, 1024]⟩
abbrev S1024x16 : Shape := ⟨2, ![1024, 16]⟩
abbrev S16x1024 : Shape := ⟨2, ![16, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x16, .f32⟩
  | .hbm, ⟨1, _⟩ => ⟨S1x6160x2048, .bf16⟩
  | .hbm, ⟨2, _⟩ => ⟨S1x2048x16, .f32⟩
  | .hbm, ⟨3, _⟩ => ⟨S1x2048x2048, .bf16⟩
  | .local _ .vmem, ⟨0, _⟩ => ⟨S1x1024x16, .f32⟩
  | .local _ .vmem, ⟨1, _⟩ => ⟨S1x1024x16, .f32⟩
  | .local _ .vmem, ⟨2, _⟩ => ⟨S1x16x1024, .bf16⟩
  | .local _ .vmem, ⟨3, _⟩ => ⟨S1x16x1024, .bf16⟩
  | .local _ .vmem, ⟨4, _⟩ => ⟨S1x1024x1024, .bf16⟩
  | .local _ .vmem, ⟨5, _⟩ => ⟨S1x1024x1024, .bf16⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c384_i32 : BitVec 32 := 384#32
  let v17 : BitVec 32 := Scalar.addi arg2 c384_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x16 : Shape := ⟨2, ![2048, 16]⟩
abbrev S1x6160x2048 : Shape := ⟨3, ![1, 6160, 2048]⟩
abbrev S6160x2048 : Shape := ⟨2, ![6160, 2048]⟩
abbrev S2048x6160 : Shape := ⟨2, ![2048, 6160]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S1x6160x2048, .bf16⟩
  | .hbm, ⟨2, _⟩ => ⟨S6160x2048, .bf16⟩
  | .hbm, ⟨3, _⟩ => ⟨S6160x2048, .f32⟩
  | .hbm, ⟨4, _⟩ => ⟨S2048x6160, .f32⟩
  | .hbm, ⟨5, _⟩ => ⟨S_, .f32⟩
  | .hbm, ⟨6, _⟩ => ⟨S2048x2048, .f32⟩
  | .hbm, ⟨7, _⟩ => ⟨S2048x16, .f32⟩
  | .hbm, ⟨8, _⟩ => ⟨S2048x16, .f32⟩
  | .hbm, ⟨9, _⟩ => ⟨S2048x2048, .f32⟩
  | .hbm, ⟨10, _⟩ => ⟨S2048x2048, .bf16⟩
  | .hbm, ⟨11, _⟩ => ⟨S1x2048x2048, .bf16⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S2x2048x1024 : Shape := ⟨3, ![2, 2048, 1024]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S1x2048x2048, .bf16⟩
  | .hbm, ⟨2, _⟩ => ⟨S1x2048x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S2048x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2x2048x1024 : Shape := ⟨3, ![2, 2048, 1024]⟩
abbrev S1x2048x2048 : Shape := ⟨3, ![1, 2048, 2048]⟩
abbrev S1x2048x1024 : Shape := ⟨3, ![1, 2048, 1024]⟩
abbrev S2048x1024 : Shape := ⟨2, ![2048, 1024]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1x2048x2048, .bf16⟩
  | .hbm, ⟨2, _⟩ => ⟨S2x2048x1024, .f32⟩
  | .hbm, ⟨3, _⟩ => ⟨S1x2048x1024, .f32⟩
  | .hbm, ⟨4, _⟩ => ⟨S2048x1024, .f32⟩
  | .hbm, ⟨5, _⟩ => ⟨S1x2048x1024, .f32⟩
  | .hbm, ⟨6, _⟩ => ⟨S2048x1024, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S1x2048x2048, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel13.lean ====
abbrev S2x2048x1024 : Shape := ⟨3, ![2, 2048, 1024]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S1x2048x2048, .bf16⟩
  | .hbm, ⟨3, _⟩ => ⟨S1x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2x2048x1024 : Shape := ⟨3, ![2, 2048, 1024]⟩
abbrev S2048x2048 : Shape := ⟨2, ![2048, 2048]⟩
abbrev S1x2048x1024 : Shape := ⟨3, ![1, 2048, 1024]⟩
abbrev S2048x1024 : Shape := ⟨2, ![2048, 1024]⟩
abbrev S_ : Shape := ⟨0, ![]⟩
abbrev S1x2048x2048 : Shape := ⟨3, ![1, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2x2048x1024, .f32⟩
  | .hbm, ⟨3, _⟩ => ⟨S1x2048x1024, .f32⟩
  | .hbm, ⟨4, _⟩ => ⟨S2048x1024, .f32⟩
  | .hbm, ⟨5, _⟩ => ⟨S1x2048x1024, .f32⟩
  | .hbm, ⟨6, _⟩ => ⟨S2048x1024, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S1x2048x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel14.lean ====
abbrev S2048x2048 : Shape := ⟨2, ![2048, 2048]⟩
abbrev S1x2048x2048 : Shape := ⟨3, ![1, 2048, 2048]⟩
abbrev S2x2048x1024 : Shape := ⟨3, ![2, 2048, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .hbm, ⟨3, _⟩ => ⟨S2x2048x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S1x2048x2048 : Shape := ⟨3, ![1, 2048, 2048]⟩
abbrev S_ : Shape := ⟨0, ![]⟩
abbrev S2048x1024 : Shape := ⟨2, ![2048, 1024]⟩
abbrev S1x2048x1024 : Shape := ⟨3, ![1, 2048, 1024]⟩
abbrev S2x2048x1024 : Shape := ⟨3, ![2, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S1x2048x1024, .f32⟩
  | .hbm, ⟨13, _⟩ => ⟨S1x2048x1024, .f32⟩
  | .hbm, ⟨14, _⟩ => ⟨S2x2048x1024, .f32⟩
  | .hbm, ⟨15, _⟩ => ⟨S2x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel15.lean ====
abbrev S2048x2048 : Shape := ⟨2, ![2048, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .hbm, ⟨3, _⟩ => ⟨S1x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x2048 : Shape := ⟨2, ![2048, 2048]⟩
abbrev S1x2048x2048 : Shape := ⟨3, ![1, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S2048x2048 : Shape := ⟨2, ![2048, 2048]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S1x2048x2048, .bf16⟩
  | .hbm, ⟨4, _⟩ => ⟨S1x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S2048x2048 : Shape := ⟨2, ![2048, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .hbm, ⟨3, _⟩ => ⟨S1x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S2048x2048 : Shape := ⟨2, ![2048, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .hbm, ⟨3, _⟩ => ⟨S1x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg2 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S1x2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S2048x2048 : Shape := ⟨2, ![2048, 2048]⟩
abbrev S1x2048x2048 : Shape := ⟨3, ![1, 2048, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S1x2048x2048, .bf16⟩
  | .hbm, ⟨4, _⟩ => ⟨S1x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S2048x2048 : Shape := ⟨2, ![2048, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S1x2048x2048, .bf16⟩
  | .hbm, ⟨3, _⟩ => ⟨S1x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S256x2048 : Shape := ⟨2, ![256, 2048]⟩
abbrev S8x2048x512 : Shape := ⟨3, ![8, 2048, 512]⟩
abbrev S1x256x2048 : Shape := ⟨3, ![1, 256, 2048]⟩
abbrev S8x256x512 : Shape := ⟨3, ![8, 256, 512]⟩
abbrev S1x2048x512 : Shape := ⟨3, ![1, 2048, 512]⟩
abbrev S1x256x512 : Shape := ⟨3, ![1, 256, 512]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S8x2048x512, .bf16⟩
  | .hbm, ⟨2, _⟩ => ⟨S1x256x2048, .bf16⟩
  | .hbm, ⟨3, _⟩ => ⟨S8x256x512, .bf16⟩
  | .local _ .vmem, ⟨0, _⟩ => ⟨S1x256x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x256x512, .bf16⟩
  | .local _ .vmem, ⟨4, _⟩ => ⟨S1x256x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg2 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S256x4096 : Shape := ⟨2, ![256, 4096]⟩
abbrev S256x8x512 : Shape := ⟨3, ![256, 8, 512]⟩
abbrev S8x256x512 : Shape := ⟨3, ![8, 256, 512]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x2048x512, .bf16⟩
  | .hbm, ⟨2, _⟩ => ⟨S8x2048x512, .f32⟩
  | .hbm, ⟨3, _⟩ => ⟨S2048x8x512, .f32⟩
  | .hbm, ⟨4, _⟩ => ⟨S2048x4096, .f32⟩
  | .hbm, ⟨5, _⟩ => ⟨S256x2048, .f32⟩
  | .hbm, ⟨6, _⟩ => ⟨S256x4096, .f32⟩
  | .hbm, ⟨7, _⟩ => ⟨S256x4096, .bf16⟩
  | .hbm, ⟨8, _⟩ => ⟨S256x8x512, .bf16⟩
  | .hbm, ⟨9, _⟩ => ⟨S8x256x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel22.lean ====
abbrev S256x2048 : Shape := ⟨2, ![256, 2048]⟩
abbrev S8x256x512 : Shape := ⟨3, ![8, 256, 512]⟩
abbrev S1x256x2048 : Shape := ⟨3, ![1, 256, 2048]⟩
abbrev S8x2048x512 : Shape := ⟨3, ![8, 2048, 512]⟩
abbrev S1x256x1024 : Shape := ⟨3, ![1, 256, 1024]⟩
abbrev S1x256x512 : Shape := ⟨3, ![1, 256, 512]⟩
abbrev S1x1024x512 : Shape := ⟨3, ![1, 1024, 512]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S8x256x512, .bf16⟩
  | .hbm, ⟨2, _⟩ => ⟨S1x256x2048, .bf16⟩
  | .hbm, ⟨3, _⟩ => ⟨S8x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x1024x512, .bf16⟩
  | .local _ .vmem, ⟨5, _⟩ => ⟨S1x1024x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg0 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S256x2048 : Shape := ⟨2, ![256, 2048]⟩
abbrev S8x256x512 : Shape := ⟨3, ![8, 256, 512]⟩
abbrev S256x8x512 : Shape := ⟨3, ![256, 8, 512]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x256x512, .bf16⟩
  | .hbm, ⟨2, _⟩ => ⟨S256x2048, .f32⟩
  | .hbm, ⟨3, _⟩ => ⟨S8x256x512, .f32⟩
  | .hbm, ⟨4, _⟩ => ⟨S256x8x512, .f32⟩
  | .hbm, ⟨5, _⟩ => ⟨S256x4096, .f32⟩
  | .hbm, ⟨6, _⟩ => ⟨S_, .f32⟩
  | .hbm, ⟨7, _⟩ => ⟨S2048x4096, .f32⟩
  | .hbm, ⟨8, _⟩ => ⟨S256x4096, .f32⟩
  | .hbm, ⟨9, _⟩ => ⟨S4096x2048, .f32⟩
  | .hbm, ⟨10, _⟩ => ⟨S2048x4096, .f32⟩
  | .hbm, ⟨11, _⟩ => ⟨S2048x4096, .bf16⟩
  | .hbm, ⟨12, _⟩ => ⟨S2048x8x512, .bf16⟩
  | .hbm, ⟨13, _⟩ => ⟨S8x2048x512, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel23.lean ====
abbrev S8x256x512 : Shape := ⟨3, ![8, 256, 512]⟩
abbrev S8x2048x512 : Shape := ⟨3, ![8, 2048, 512]⟩
abbrev S1x256x2048 : Shape := ⟨3, ![1, 256, 2048]⟩
abbrev S1x256x512 : Shape := ⟨3, ![1, 256, 512]⟩
abbrev S1x1024x512 : Shape := ⟨3, ![1, 1024, 512]⟩
abbrev S1x256x1024 : Shape := ⟨3, ![1, 256, 1024]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x256x512, .bf16⟩
  | .hbm, ⟨1, _⟩ => ⟨S8x2048x512, .bf16⟩
  | .hbm, ⟨2, _⟩ => ⟨S1x256x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8x256x512 : Shape := ⟨3, ![8, 256, 512]⟩
abbrev S8x2048x512 : Shape := ⟨3, ![8, 2048, 512]⟩
abbrev S256x8x512 : Shape := ⟨3, ![256, 8, 512]⟩
abbrev S256x4096 : Shape := ⟨2, ![256, 4096]⟩
abbrev S2048x8x512 : Shape := ⟨3, ![2048, 8, 512]⟩
abbrev S2048x4096 : Shape := ⟨2, ![2048, 4096]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S8x2048x512, .bf16⟩
  | .hbm, ⟨2, _⟩ => ⟨S8x256x512, .f32⟩
  | .hbm, ⟨3, _⟩ => ⟨S256x8x512, .f32⟩
  | .hbm, ⟨4, _⟩ => ⟨S256x4096, .f32⟩
  | .hbm, ⟨5, _⟩ => ⟨S8x2048x512, .f32⟩
  | .hbm, ⟨6, _⟩ => ⟨S2048x8x512, .f32⟩
  | .hbm, ⟨7, _⟩ => ⟨S2048x4096, .f32⟩
  | .hbm, ⟨8, _⟩ => ⟨S_, .f32⟩
  | .hbm, ⟨9, _⟩ => ⟨S256x2048, .f32⟩
  | .hbm, ⟨10, _⟩ => ⟨S256x4096, .f32⟩
  | .hbm, ⟨11, _⟩ => ⟨S256x2048, .f32⟩
  | .hbm, ⟨12, _⟩ => ⟨S256x2048, .bf16⟩
  | .hbm, ⟨13, _⟩ => ⟨S1x256x2048, .bf16⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel24.lean ====
abbrev S2048x6144 : Shape := ⟨2, ![2048, 6144]⟩
abbrev S2048x16 : Shape := ⟨2, ![2048, 16]⟩
abbrev S2048x2048 : Shape := ⟨2, ![2048, 2048]⟩
abbrev S1x2048x6144 : Shape := ⟨3, ![1, 2048, 6144]⟩
abbrev S1x2048x2048 : Shape := ⟨3, ![1, 2048, 2048]⟩
abbrev S1x6160x2048 : Shape := ⟨3, ![1, 6160, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S1x2048x16 : Shape := ⟨3, ![1, 2048, 16]⟩
abbrev S1x16x1024 : Shape := ⟨3, ![1, 16, 1024]⟩
abbrev S16x1024 : Shape := ⟨2, ![16, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x6144, .bf16⟩
  | .hbm, ⟨1, _⟩ => ⟨S2048x16, .f32⟩
  | .hbm, ⟨2, _⟩ => ⟨S2048x2048, .bf16⟩
  | .hbm, ⟨3, _⟩ => ⟨S1x2048x6144, .bf16⟩
  | .hbm, ⟨4, _⟩ => ⟨S1x2048x2048, .bf16⟩
  | .hbm, ⟨5, _⟩ => ⟨S1x6160x2048, .bf16⟩
  | .hbm, ⟨6, _⟩ => ⟨S1x2048x16, .f32⟩
  | .hbm, ⟨7, _⟩ => ⟨S1x2048x2048, .bf16⟩
  | .hbm, ⟨8, _⟩ => ⟨S1x6160x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x2048x16, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x16x1024, .bf16⟩
  | .local _ .vmem, ⟨10, _⟩ => ⟨S1x16x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi arg0 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c384_i32 : BitVec 32 := 384#32
  let v17 : BitVec 32 := Scalar.addi arg0 c384_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v16.toNat, v17.toNat, v27.toNat]

abbrev stage1_0 : Fin 1 → Memref sig .tc .vmem S1x2048x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x16x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference24Ideal.lean ====
abbrev S2048x6144 : Shape := ⟨2, ![2048, 6144]⟩
abbrev S2048x16 : Shape := ⟨2, ![2048, 16]⟩
abbrev S2048x2048 : Shape := ⟨2, ![2048, 2048]⟩
abbrev S2048x6160 : Shape := ⟨2, ![2048, 6160]⟩
abbrev S_ : Shape := ⟨0, ![]⟩
abbrev S6160x2048 : Shape := ⟨2, ![6160, 2048]⟩
abbrev S1x6160x2048 : Shape := ⟨3, ![1, 6160, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x16, .f32⟩
  | .hbm, ⟨2, _⟩ => ⟨S2048x2048, .bf16⟩
  | .hbm, ⟨3, _⟩ => ⟨S2048x2048, .f32⟩
  | .hbm, ⟨4, _⟩ => ⟨S2048x6144, .f32⟩
  | .hbm, ⟨5, _⟩ => ⟨S2048x6160, .f32⟩
  | .hbm, ⟨6, _⟩ => ⟨S_, .f32⟩
  | .hbm, ⟨7, _⟩ => ⟨S2048x6160, .f32⟩
  | .hbm, ⟨8, _⟩ => ⟨S2048x6160, .f32⟩
  | .hbm, ⟨9, _⟩ => ⟨S6160x2048, .f32⟩
  | .hbm, ⟨10, _⟩ => ⟨S2048x6160, .f32⟩
  | .hbm, ⟨11, _⟩ => ⟨S2048x6160, .bf16⟩
  | .hbm, ⟨12, _⟩ => ⟨S6160x2048, .bf16⟩
  | .hbm, ⟨13, _⟩ => ⟨S1x6160x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel25.lean ====
abbrev S2048x2048 : Shape := ⟨2, ![2048, 2048]⟩
abbrev S8x256x512 : Shape := ⟨3, ![8, 256, 512]⟩
abbrev S512x2048 : Shape := ⟨2, ![512, 2048]⟩
abbrev S512x512 : Shape := ⟨2, ![512, 512]⟩
abbrev S1x256x512 : Shape := ⟨3, ![1, 256, 512]⟩
abbrev S256x512 : Shape := ⟨2, ![256, 512]⟩
abbrev S1x512x512 : Shape := ⟨3, ![1, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8x256x512, .bf16⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S8x256x512, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S2048x2048 : Shape := ⟨2, ![2048, 2048]⟩
abbrev S8x256x512 : Shape := ⟨3, ![8, 256, 512]⟩
abbrev S256x8x512 : Shape := ⟨3, ![256, 8, 512]⟩
abbrev S256x4096 : Shape := ⟨2, ![256, 4096]⟩
abbrev S1x2048x4x512 : Shape := ⟨4, ![1, 2048, 4, 512]⟩
abbrev S1x256x2x4x512 : Shape := ⟨5, ![1, 256, 2, 4, 512]⟩
abbrev S1x256x1x4x512 : Shape := ⟨5, ![1, 256, 1, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x2048x2048 : Shape := ⟨3, ![1, 2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x512, .bf16⟩
  | .hbm, ⟨2, _⟩ => ⟨S2048x2048, .f32⟩
  | .hbm, ⟨3, _⟩ => ⟨S8x256x512, .f32⟩
  | .hbm, ⟨4, _⟩ => ⟨S256x8x512, .f32⟩
  | .hbm, ⟨5, _⟩ => ⟨S256x4096, .f32⟩
  | .hbm, ⟨6, _⟩ => ⟨S1x2048x4x512, .f32⟩
  | .hbm, ⟨7, _⟩ => ⟨S1x256x2x4x512, .f32⟩
  | .hbm, ⟨8, _⟩ => ⟨S1x256x1x4x512, .f32⟩
  | .hbm, ⟨9, _⟩ => ⟨S1x256x4x512, .f32⟩
  | .hbm, ⟨10, _⟩ => ⟨S1x256x1x4x512, .f32⟩
  | .hbm, ⟨11, _⟩ => ⟨S1x256x4x512, .f32⟩
  | .hbm, ⟨12, _⟩ => ⟨S1x4x2048x256, .f32⟩
  | .hbm, ⟨13, _⟩ => ⟨S_, .f32⟩
  | .hbm, ⟨14, _⟩ => ⟨S1x4x2048x256, .f32⟩
  | .hbm, ⟨15, _⟩ => ⟨S1x4x2048x256, .f32⟩
  | .hbm, ⟨16, _⟩ => ⟨S_, .f32⟩
  | .hbm, ⟨17, _⟩ => ⟨S1x4x2048, .f32⟩
  | .hbm, ⟨18, _⟩ => ⟨S_, .f32⟩
  | .hbm, ⟨19, _⟩ => ⟨S1x4x2048, .f32⟩
  | .hbm, ⟨20, _⟩ => ⟨S1x4x2048, .f32⟩
  | .hbm, ⟨21, _⟩ => ⟨S1x4x2048x1, .f32⟩
  | .hbm, ⟨22, _⟩ => ⟨S1x4x2048x256, .f32⟩
  | .hbm, ⟨23, _⟩ => ⟨S1x4x2048x256, .f32⟩
  | .hbm, ⟨24, _⟩ => ⟨S1x4x2048x256, .f32⟩
  | .hbm, ⟨25, _⟩ => ⟨S_, .f32⟩
  | .hbm, ⟨26, _⟩ => ⟨S1x4x2048, .f32⟩
  | .hbm, ⟨27, _⟩ => ⟨S1x4x2048x1, .f32⟩
  | .hbm, ⟨28, _⟩ => ⟨S1x4x2048x256, .f32⟩
  | .hbm, ⟨29, _⟩ => ⟨S1x4x2048x256, .f32⟩
  | .hbm, ⟨30, _⟩ => ⟨S1x4x512x2048, .f32⟩
  | .hbm, ⟨31, _⟩ => ⟨S1x2048x4x512, .f32⟩
  | .hbm, ⟨32, _⟩ => ⟨S1x2048x2048, .f32⟩
  | .hbm, ⟨33, _⟩ => ⟨S2048x2048, .f32⟩
  | .hbm, ⟨34, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel26.lean ====
abbrev S2048x2048 : Shape := ⟨2, ![2048, 2048]⟩
abbrev S8x256x512 : Shape := ⟨3, ![8, 256, 512]⟩
abbrev S1x2048x2048 : Shape := ⟨3, ![1, 2048, 2048]⟩
abbrev S512x2048 : Shape := ⟨2, ![512, 2048]⟩
abbrev S1x512x2048 : Shape := ⟨3, ![1, 512, 2048]⟩
abbrev S512x512 : Shape := ⟨2, ![512, 512]⟩
abbrev S1x256x512 : Shape := ⟨3, ![1, 256, 512]⟩
abbrev S256x512 : Shape := ⟨2, ![256, 512]⟩
abbrev S1x512x512 : Shape := ⟨3, ![1, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8x256x512, .bf16⟩
  | .hbm, ⟨2, _⟩ => ⟨S1x2048x2048, .bf16⟩
  | .hbm, ⟨3, _⟩ => ⟨S2048x2048, .bf16⟩
  | .hbm, ⟨4, _⟩ => ⟨S8x256x512, .f32⟩
  | .local _ .vmem, ⟨0, _⟩ => ⟨S512x2048, .bf16⟩
  | .local _ .vmem, ⟨1, _⟩ => ⟨S512x2048, .bf16⟩
  | .local _ .vmem, ⟨2, _⟩ => ⟨S8x256x512, .bf16⟩
  | .local _ .vmem, ⟨3, _⟩ => ⟨S1x512x2048, .bf16⟩
  | .local _ .vmem, ⟨4, _⟩ => ⟨S1x512x2048, .bf16⟩
  | .local _ .vmem, ⟨5, _⟩ => ⟨S512x2048, .bf16⟩
  | .local _ .vmem, ⟨6, _⟩ => ⟨S512x2048, .bf16⟩
  | .local _ .vmem, ⟨7, _⟩ => ⟨S8x256x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S2048x2048 : Shape := ⟨2, ![2048, 2048]⟩
abbrev S8x256x512 : Shape := ⟨3, ![8, 256, 512]⟩
abbrev S1x2048x2048 : Shape := ⟨3, ![1, 2048, 2048]⟩
abbrev S256x8x512 : Shape := ⟨3, ![256, 8, 512]⟩
abbrev S256x4096 : Shape := ⟨2, ![256, 4096]⟩
abbrev S1x2048x4x512 : Shape := ⟨4, ![1, 2048, 4, 512]⟩
abbrev S1x256x2x4x512 : Shape := ⟨5, ![1, 256, 2, 4, 512]⟩
abbrev S1x256x1x4x512 : Shape := ⟨5, ![1, 256, 1, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x4x512x256 : Shape := ⟨4, ![1, 4, 512, 256]⟩
abbrev S4x2048 : Shape := ⟨2, ![4, 2048]⟩
abbrev S1x4x256x512 : Shape := ⟨4, ![1, 4, 256, 512]⟩
abbrev S1x4x2048x512 : Shape := ⟨4, ![1, 4, 2048, 512]⟩

abbrev nBuf : Space → Nat
  | .hbm => 98
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x256x512, .bf16⟩
  | .hbm, ⟨2, _⟩ => ⟨S1x2048x2048, .bf16⟩
  | .hbm, ⟨3, _⟩ => ⟨S2048x2048, .f32⟩
  | .hbm, ⟨4, _⟩ => ⟨S8x256x512, .f32⟩
  | .hbm, ⟨5, _⟩ => ⟨S256x8x512, .f32⟩
  | .hbm, ⟨6, _⟩ => ⟨S256x4096, .f32⟩
  | .hbm, ⟨7, _⟩ => ⟨S1x2048x4x512, .f32⟩
  | .hbm, ⟨8, _⟩ => ⟨S1x256x2x4x512, .f32⟩
  | .hbm, ⟨9, _⟩ => ⟨S1x256x1x4x512, .f32⟩
  | .hbm, ⟨10, _⟩ => ⟨S1x256x4x512, .f32⟩
  | .hbm, ⟨11, _⟩ => ⟨S1x256x1x4x512, .f32⟩
  | .hbm, ⟨12, _⟩ => ⟨S1x256x4x512, .f32⟩
  | .hbm, ⟨13, _⟩ => ⟨S1x4x2048x256, .f32⟩
  | .hbm, ⟨14, _⟩ => ⟨S_, .f32⟩
  | .hbm, ⟨15, _⟩ => ⟨S1x4x2048x256, .f32⟩
  | .hbm, ⟨16, _⟩ => ⟨S1x4x2048x256, .f32⟩
  | .hbm, ⟨17, _⟩ => ⟨S_, .f32⟩
  | .hbm, ⟨18, _⟩ => ⟨S1x4x2048, .f32⟩
  | .hbm, ⟨19, _⟩ => ⟨S1x4x2048x1, .f32⟩
  | .hbm, ⟨20, _⟩ => ⟨S1x4x2048x256, .f32⟩
  | .hbm, ⟨21, _⟩ => ⟨S1x4x2048x256, .i1⟩
  | .hbm, ⟨22, _⟩ => ⟨S1x4x2048x256, .f32⟩
  | .hbm, ⟨23, _⟩ => ⟨S_, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .f32⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S1x4x2048, .i1⟩
  | .hbm, ⟨34, _⟩ => ⟨S_, .f32⟩
  | .hbm, ⟨35, _⟩ => ⟨S1x4x2048, .f32⟩
  | .hbm, ⟨36, _⟩ => ⟨S_, .f32⟩
  | .hbm, ⟨37, _⟩ => ⟨S1x4x2048, .f32⟩
  | .hbm, ⟨38, _⟩ => ⟨S_, .f32⟩
  | .hbm, ⟨39, _⟩ => ⟨S1x4x2048, .f32⟩
  | .hbm, ⟨40, _⟩ => ⟨S1x4x2048, .f32⟩
  | .hbm, ⟨41, _⟩ => ⟨S1x4x2048, .f32⟩
  | .hbm, ⟨42, _⟩ => ⟨S1x4x2048x1, .f32⟩
  | .hbm, ⟨43, _⟩ => ⟨S1x4x2048x256, .f32⟩
  | .hbm, ⟨44, _⟩ => ⟨S1x4x2048x256, .f32⟩
  | .hbm, ⟨45, _⟩ => ⟨S1x4x2048x256, .f32⟩
  | .hbm, ⟨46, _⟩ => ⟨S_, .f32⟩
  | .hbm, ⟨47, _⟩ => ⟨S1x4x2048, .f32⟩
  | .hbm, ⟨48, _⟩ => ⟨S1x4x2048x1, .f32⟩
  | .hbm, ⟨49, _⟩ => ⟨S1x4x2048x256, .f32⟩
  | .hbm, ⟨50, _⟩ => ⟨S1x4x2048x256, .f32⟩
  | .hbm, ⟨51, _⟩ => ⟨S1x4x2048x1, .f32⟩
  | .hbm, ⟨52, _⟩ => ⟨S_, .f32⟩
  | .hbm, ⟨53, _⟩ => ⟨S1x4x2048x1, .f32⟩
  | .hbm, ⟨54, _⟩ => ⟨S1x4x2048x1, .f32⟩
  | .hbm, ⟨55, _⟩ => ⟨S1x4x512x2048, .f32⟩
  | .hbm, ⟨56, _⟩ => ⟨S1x2048x4x512, .f32⟩
  | .hbm, ⟨57, _⟩ => ⟨S1x2048x2048, .f32⟩
  | .hbm, ⟨58, _⟩ => ⟨S1x2048x2048, .f32⟩
  | .hbm, ⟨59, _⟩ => ⟨S1x2048x4x512, .f32⟩
  | .hbm, ⟨60, _⟩ => ⟨S1x4x512x2048, .f32⟩
  | .hbm, ⟨61, _⟩ => ⟨S1x4x2048x256, .f32⟩
  | .hbm, ⟨62, _⟩ => ⟨S1x4x512x256, .f32⟩
  | .hbm, ⟨63, _⟩ => ⟨S1x256x4x512, .f32⟩
  | .hbm, ⟨64, _⟩ => ⟨S1x4x2048x256, .f32⟩
  | .hbm, ⟨65, _⟩ => ⟨S1x4x2048x256, .f32⟩
  | .hbm, ⟨66, _⟩ => ⟨S1x4x2048x256, .f32⟩
  | .hbm, ⟨67, _⟩ => ⟨S_, .f32⟩
  | .hbm, ⟨68, _⟩ => ⟨S1x4x2048, .f32⟩
  | .hbm, ⟨69, _⟩ => ⟨S1x4x2048x1, .f32⟩
  | .hbm, ⟨70, _⟩ => ⟨S1x4x2048x1, .f32⟩
  | .hbm, ⟨71, _⟩ => ⟨S1x4x2048x256, .f32⟩
  | .hbm, ⟨72, _⟩ => ⟨S1x4x2048x256, .f32⟩
  | .hbm, ⟨73, _⟩ => ⟨S_, .f32⟩
  | .hbm, ⟨74, _⟩ => ⟨S4x2048, .f32⟩
  | .hbm, ⟨75, _⟩ => ⟨S1x4x2048, .f32⟩
  | .hbm, ⟨76, _⟩ => ⟨S1x4x2048x256, .f32⟩
  | .hbm, ⟨77, _⟩ => ⟨S1x4x2048x256, .f32⟩
  | .hbm, ⟨78, _⟩ => ⟨S1x4x2048x256, .f32⟩
  | .hbm, ⟨79, _⟩ => ⟨S_, .f32⟩
  | .hbm, ⟨80, _⟩ => ⟨S1x4x2048x256, .f32⟩
  | .hbm, ⟨81, _⟩ => ⟨S1x4x2048x256, .f32⟩
  | .hbm, ⟨82, _⟩ => ⟨S1x4x256x512, .f32⟩
  | .hbm, ⟨83, _⟩ => ⟨S1x256x4x512, .f32⟩
  | .hbm, ⟨84, _⟩ => ⟨S1x4x2048x512, .f32⟩
  | .hbm, ⟨85, _⟩ => ⟨S1x2048x4x512, .f32⟩
  | .hbm, ⟨86, _⟩ => ⟨S1x256x1x4x512, .f32⟩
  | .hbm, ⟨87, _⟩ => ⟨S_, .f32⟩
  | .hbm, ⟨88, _⟩ => ⟨S1x256x2x4x512, .f32⟩
  | .hbm, ⟨89, _⟩ => ⟨S1x256x1x4x512, .f32⟩
  | .hbm, ⟨90, _⟩ => ⟨S_, .f32⟩
  | .hbm, ⟨91, _⟩ => ⟨S1x256x2x4x512, .f32⟩
  | .hbm, ⟨92, _⟩ => ⟨S1x256x2x4x512, .f32⟩
  | .hbm, ⟨93, _⟩ => ⟨S256x4096, .f32⟩
  | .hbm, ⟨94, _⟩ => ⟨S2048x2048, .f32⟩
  | .hbm, ⟨95, _⟩ => ⟨S2048x2048, .bf16⟩
  | .hbm, ⟨96, _⟩ => ⟨S256x8x512, .f32⟩
  | .hbm, ⟨97, _⟩ => ⟨S8x256x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel27.lean ====
abbrev S8x2048x1408 : Shape := ⟨3, ![8, 2048, 1408]⟩
abbrev S4x2048x1408 : Shape := ⟨3, ![4, 2048, 1408]⟩
abbrev S1x512x1408 : Shape := ⟨3, ![1, 512, 1408]⟩
abbrev S512x1408 : Shape := ⟨2, ![512, 1408]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S8x2048x1408 : Shape := ⟨3, ![8, 2048, 1408]⟩
abbrev S2048x8x1408 : Shape := ⟨3, ![2048, 8, 1408]⟩
abbrev S2048x11264 : Shape := ⟨2, ![2048, 11264]⟩
abbrev S2048x5632 : Shape := ⟨2, ![2048, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .f32⟩
  | .hbm, ⟨2, _⟩ => ⟨S2048x8x1408, .f32⟩
  | .hbm, ⟨3, _⟩ => ⟨S2048x11264, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .bf16⟩
  | .hbm, ⟨17, _⟩ => ⟨S2048x4x1408, .bf16⟩
  | .hbm, ⟨18, _⟩ => ⟨S4x2048x1408, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Kernel28.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S1x2048x2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x2048, .f32⟩
  | .hbm, ⟨16, _⟩ => ⟨S1x2048x2048, .f32⟩
  | .hbm, ⟨17, _⟩ => ⟨S1x1x2048, .f32⟩
  | .hbm, ⟨18, _⟩ => ⟨S1x2048x2048, .f32⟩
  | .hbm, ⟨19, _⟩ => ⟨S1x2048x2048, .f32⟩
  | .hbm, ⟨20, _⟩ => ⟨S2048x2048, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel29.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference29Ideal.lean ====
abbrev S256x2048 : Shape := ⟨2, ![256, 2048]⟩
abbrev S1x2048 : Shape := ⟨2, ![1, 2048]⟩
abbrev S1x256x2048 : Shape := ⟨3, ![1, 256, 2048]⟩
abbrev S2048 : Shape := ⟨1, ![2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x256x2048, .f32⟩
  | .hbm, ⟨3, _⟩ => ⟨S2048, .f32⟩
  | .hbm, ⟨4, _⟩ => ⟨S1x256x2048, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x2048, .f32⟩
  | .hbm, ⟨16, _⟩ => ⟨S1x256x2048, .f32⟩
  | .hbm, ⟨17, _⟩ => ⟨S1x1x2048, .f32⟩
  | .hbm, ⟨18, _⟩ => ⟨S1x256x2048, .f32⟩
  | .hbm, ⟨19, _⟩ => ⟨S1x256x2048, .f32⟩
  | .hbm, ⟨20, _⟩ => ⟨S256x2048, .f32⟩
  | .hbm, ⟨21, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel30.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S_, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel31.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S1x2048x2048, .f32⟩
  | .hbm, ⟨23, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel32.lean ====
abbrev S2048x2048 : Shape := ⟨2, ![2048, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference32Ideal.lean ====
abbrev S2048x2048 : Shape := ⟨2, ![2048, 2048]⟩
abbrev S1x2048x2048 : Shape := ⟨3, ![1, 2048, 2048]⟩
abbrev S_ : Shape := ⟨0, ![]⟩
abbrev S1x2048 : Shape := ⟨2, ![1, 2048]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048x2048, .f32⟩
  | .hbm, ⟨26, _⟩ => ⟨S1x2048x2048, .f32⟩
  | .hbm, ⟨27, _⟩ => ⟨S2048x2048, .f32⟩
  | .hbm, ⟨28, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel33.lean ====
abbrev S2432x128 : Shape := ⟨2, ![2432, 128]⟩

abbrev nBuf : Space → Nat
  | .hbm => 8
  | .vmem => 8
  | .smem => 0
  | _ => 0

abbrev bufTy : (tb : Table) → Fin (tcTables nBuf tb) → BufTy
  | .hbm, ⟨0, _⟩ => ⟨S2432x128, .f32⟩
  | .hbm, ⟨1, _⟩ => ⟨S2432x128, .f32⟩
  | .hbm, ⟨2, _⟩ => ⟨S2432x128, .f32⟩
  | .hbm, ⟨3, _⟩ => ⟨S2432x128, .f32⟩
  | .hbm, ⟨4, _⟩ => ⟨S2432x128, .f32⟩
  | .hbm, ⟨5, _⟩ => ⟨S2432x128, .f32⟩
  | .hbm, ⟨6, _⟩ => ⟨S2432x128, .f32⟩
  | .hbm, ⟨7, _⟩ => ⟨S2432x128, .f32⟩
  | .local _ .vmem, ⟨0, _⟩ => ⟨S2432x128, .f32⟩
  | .local _ .vmem, ⟨1, _⟩ => ⟨S2432x128, .f32⟩
  | .local _ .vmem, ⟨2, _⟩ => ⟨S2432x128, .f32⟩
  | .local _ .vmem, ⟨3, _⟩ => ⟨S2432x128, .f32⟩
  | .local _ .vmem, ⟨4, _⟩ => ⟨S2432x128, .f32⟩
  | .local _ .vmem, ⟨5, _⟩ => ⟨S2432x128, .f32⟩
  | .local _ .vmem, ⟨6, _⟩ => ⟨S2432x128, .f32⟩
  | .local _ .vmem, ⟨7, _⟩ => ⟨S2432x128, .f32⟩
  | _, _ => ⟨S2432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2432x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2432x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2432x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2432x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2432x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference33Ideal.lean ====
abbrev S2432x128 : Shape := ⟨2, ![2432, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2432x128, .f32⟩
  | .hbm, ⟨1, _⟩ => ⟨S2432x128, .f32⟩
  | .hbm, ⟨2, _⟩ => ⟨S2432x128, .f32⟩
  | .hbm, ⟨3, _⟩ => ⟨S2432x128, .f32⟩
  | .hbm, ⟨4, _⟩ => ⟨S_, .f32⟩
  | .hbm, ⟨5, _⟩ => ⟨S2432x128, .f32⟩
  | .hbm, ⟨6, _⟩ => ⟨S2432x128, .f32⟩
  | .hbm, ⟨7, _⟩ => ⟨S_, .f32⟩
  | .hbm, ⟨8, _⟩ => ⟨S2432x128, .f32⟩
  | .hbm, ⟨9, _⟩ => ⟨S2432x128, .f32⟩
  | .hbm, ⟨10, _⟩ => ⟨S2432x128, .f32⟩
  | .hbm, ⟨11, _⟩ => ⟨S_, .f32⟩
  | .hbm, ⟨12, _⟩ => ⟨S2432x128, .f32⟩
  | .hbm, ⟨13, _⟩ => ⟨S2432x128, .f32⟩
  | .hbm, ⟨14, _⟩ => ⟨S2432x128, .f32⟩
  | .hbm, ⟨15, _⟩ => ⟨S_, .f32⟩
  | .hbm, ⟨16, _⟩ => ⟨S2432x128, .f32⟩
  | .hbm, ⟨17, _⟩ => ⟨S2432x128, .f32⟩
  | .hbm, ⟨18, _⟩ => ⟨S2432x128, .f32⟩
  | .hbm, ⟨19, _⟩ => ⟨S_, .f32⟩
  | .hbm, ⟨20, _⟩ => ⟨S2432x128, .f32⟩
  | .hbm, ⟨21, _⟩ => ⟨S2432x128, .f32⟩
  | .hbm, ⟨22, _⟩ => ⟨S_, .f32⟩
  | .hbm, ⟨23, _⟩ => ⟨S2432x128, .f32⟩
  | .hbm, ⟨24, _⟩ => ⟨S2432x128, .f32⟩
  | .hbm, ⟨25, _⟩ => ⟨S2432x128, .f32⟩
  | .hbm, ⟨26, _⟩ => ⟨S_, .f32⟩
  | .hbm, ⟨27, _⟩ => ⟨S2432x128, .f32⟩
  | .hbm, ⟨28, _⟩ => ⟨S2432x128, .f32⟩
  | .hbm, ⟨29, _⟩ => ⟨S2432x128, .f32⟩
  | .hbm, ⟨30, _⟩ => ⟨S_, .f32⟩
  | .hbm, ⟨31, _⟩ => ⟨S2432x128, .f32⟩
  | .hbm, ⟨32, _⟩ => ⟨S2432x128, .f32⟩
  | .hbm, ⟨33, _⟩ => ⟨S2432x128, .f32⟩
  | .hbm, ⟨34, _⟩ => ⟨S_, .f32⟩
  | .hbm, ⟨35, _⟩ => ⟨S2432x128, .f32⟩
  | .hbm, ⟨36, _⟩ => ⟨S2432x128, .f32⟩
  | _, _ => ⟨S2432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference34Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x2048x2048, .f32⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S_, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S_, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S1x2048, .f32⟩
  | .hbm, ⟨35, _⟩ => ⟨S1x1x2048, .f32⟩
  | .hbm, ⟨36, _⟩ => ⟨S1x2048x2048, .f32⟩
  | .hbm, ⟨37, _⟩ => ⟨S1x2048x2048, .f32⟩
  | .hbm, ⟨38, _⟩ => ⟨S_, .f32⟩
  | .hbm, ⟨39, _⟩ => ⟨S2048, .f32⟩
  | .hbm, ⟨40, _⟩ => ⟨S1x2048x2048, .f32⟩
  | .hbm, ⟨41, _⟩ => ⟨S_, .f32⟩
  | .hbm, ⟨42, _⟩ => ⟨S1x2048, .f32⟩
  | .hbm, ⟨43, _⟩ => ⟨S1x2048x1, .f32⟩
  | .hbm, ⟨44, _⟩ => ⟨S1x2048x2048, .f32⟩
  | .hbm, ⟨45, _⟩ => ⟨S1x2048x2048, .f32⟩
  | .hbm, ⟨46, _⟩ => ⟨S1x2048x1, .f32⟩
  | .hbm, ⟨47, _⟩ => ⟨S_, .f32⟩
  | .hbm, ⟨48, _⟩ => ⟨S1x2048x1, .f32⟩
  | .hbm, ⟨49, _⟩ => ⟨S1x2048x1, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S1x2048x2048, .f32⟩
  | .hbm, ⟨54, _⟩ => ⟨S1x2048x2048, .f32⟩
  | .hbm, ⟨55, _⟩ => ⟨S1x2048x2048, .f32⟩
  | .hbm, ⟨56, _⟩ => ⟨S1x2048x2048, .f32⟩
  | .hbm, ⟨57, _⟩ => ⟨S1x2048x2048, .f32⟩
  | .hbm, ⟨58, _⟩ => ⟨S1x2048, .f32⟩
  | .hbm, ⟨59, _⟩ => ⟨S2048x2048, .f32⟩
  | .hbm, ⟨60, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel35.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference35Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S1x2048x2048, .f32⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048, .f32⟩
  | .hbm, ⟨29, _⟩ => ⟨S1x1x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S2048, .f32⟩
  | .hbm, ⟨34, _⟩ => ⟨S1x2048x2048, .f32⟩
  | .hbm, ⟨35, _⟩ => ⟨S_, .f32⟩
  | .hbm, ⟨36, _⟩ => ⟨S1x2048, .f32⟩
  | .hbm, ⟨37, _⟩ => ⟨S1x2048x1, .f32⟩
  | .hbm, ⟨38, _⟩ => ⟨S1x2048x2048, .f32⟩
  | .hbm, ⟨39, _⟩ => ⟨S1x2048x2048, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S1x2048x2048, .f32⟩
  | .hbm, ⟨48, _⟩ => ⟨S1x2048x2048, .f32⟩
  | .hbm, ⟨49, _⟩ => ⟨S1x2048x2048, .f32⟩
  | .hbm, ⟨50, _⟩ => ⟨S1x2048x2048, .f32⟩
  | .hbm, ⟨51, _⟩ => ⟨S1x2048x2048, .f32⟩
  | .hbm, ⟨52, _⟩ => ⟨S1x2048, .f32⟩
  | .hbm, ⟨53, _⟩ => ⟨S2048x2048, .f32⟩
  | .hbm, ⟨54, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel36.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x2048, .f32⟩
  | .hbm, ⟨22, _⟩ => ⟨S1x2048x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S2048x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S2048, .f32⟩
  | .hbm, ⟨37, _⟩ => ⟨S1x2048x2048, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S1x2048x2048, .f32⟩
  | .hbm, ⟨55, _⟩ => ⟨S1x2048x2048, .f32⟩
  | .hbm, ⟨56, _⟩ => ⟨S1x2048, .f32⟩
  | .hbm, ⟨57, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel37.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference37Ideal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S2048, .f32⟩
  | .hbm, ⟨10, _⟩ => ⟨S1x2048x2048, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x2048, .f32⟩
  | .hbm, ⟨26, _⟩ => ⟨S1x2048x2048, .f32⟩
  | .hbm, ⟨27, _⟩ => ⟨S1x1x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S1x2048, .f32⟩
  | .hbm, ⟨35, _⟩ => ⟨S1x1x2048, .f32⟩
  | .hbm, ⟨36, _⟩ => ⟨S1x2048x2048, .f32⟩
  | .hbm, ⟨37, _⟩ => ⟨S1x2048x2048, .f32⟩
  | .hbm, ⟨38, _⟩ => ⟨S_, .f32⟩
  | .hbm, ⟨39, _⟩ => ⟨S2048, .f32⟩
  | .hbm, ⟨40, _⟩ => ⟨S1x2048x2048, .f32⟩
  | .hbm, ⟨41, _⟩ => ⟨S_, .f32⟩
  | .hbm, ⟨42, _⟩ => ⟨S1x2048, .f32⟩
  | .hbm, ⟨43, _⟩ => ⟨S1x2048x1, .f32⟩
  | .hbm, ⟨44, _⟩ => ⟨S1x2048x2048, .f32⟩
  | .hbm, ⟨45, _⟩ => ⟨S1x2048x2048, .f32⟩
  | .hbm, ⟨46, _⟩ => ⟨S1x2048x2048, .f32⟩
  | .hbm, ⟨47, _⟩ => ⟨S1x2048x1, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S1x2048x2048, .f32⟩
  | .hbm, ⟨55, _⟩ => ⟨S1x2048x2048, .f32⟩
  | .hbm, ⟨56, _⟩ => ⟨S1x2048x2048, .f32⟩
  | .hbm, ⟨57, _⟩ => ⟨S1x2048x2048, .f32⟩
  | .hbm, ⟨58, _⟩ => ⟨S1x2048x2048, .f32⟩
  | .hbm, ⟨59, _⟩ => ⟨S1x2048, .f32⟩
  | .hbm, ⟨60, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel38.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S_, .f32⟩
  | .hbm, ⟨4, _⟩ => ⟨S256x2048, .f32⟩
  | .hbm, ⟨5, _⟩ => ⟨S256x2048, .f32⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference38Ideal.lean ====
abbrev S256x2048 : Shape := ⟨2, ![256, 2048]⟩
abbrev S1x2048 : Shape := ⟨2, ![1, 2048]⟩
abbrev S1x256x2048 : Shape := ⟨3, ![1, 256, 2048]⟩
abbrev S2048 : Shape := ⟨1, ![2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S256 : Shape := ⟨1, ![256]⟩

abbrev nBuf : Space → Nat
  | .hbm => 55
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S1x256x2048, .f32⟩
  | .hbm, ⟨4, _⟩ => ⟨S2048, .f32⟩
  | .hbm, ⟨5, _⟩ => ⟨S1x256x2048, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x1, .f32⟩
  | .hbm, ⟨17, _⟩ => ⟨S_, .f32⟩
  | .hbm, ⟨18, _⟩ => ⟨S1x256x1, .f32⟩
  | .hbm, ⟨19, _⟩ => ⟨S1x256x1, .f32⟩
  | .hbm, ⟨20, _⟩ => ⟨S1x256x2048, .f32⟩
  | .hbm, ⟨21, _⟩ => ⟨S1x256x2048, .f32⟩
  | .hbm, ⟨22, _⟩ => ⟨S1x1x2048, .f32⟩
  | .hbm, ⟨23, _⟩ => ⟨S1x256x2048, .f32⟩
  | .hbm, ⟨24, _⟩ => ⟨S1x256x2048, .f32⟩
  | .hbm, ⟨25, _⟩ => ⟨S256x2048, .f32⟩
  | .hbm, ⟨26, _⟩ => ⟨S1x256x2048, .f32⟩
  | .hbm, ⟨27, _⟩ => ⟨S1x256x2048, .f32⟩
  | .hbm, ⟨28, _⟩ => ⟨S_, .f32⟩
  | .hbm, ⟨29, _⟩ => ⟨S1x2048, .f32⟩
  | .hbm, ⟨30, _⟩ => ⟨S1x1x2048, .f32⟩
  | .hbm, ⟨31, _⟩ => ⟨S1x256x2048, .f32⟩
  | .hbm, ⟨32, _⟩ => ⟨S1x256x2048, .f32⟩
  | .hbm, ⟨33, _⟩ => ⟨S_, .f32⟩
  | .hbm, ⟨34, _⟩ => ⟨S2048, .f32⟩
  | .hbm, ⟨35, _⟩ => ⟨S1x256x2048, .f32⟩
  | .hbm, ⟨36, _⟩ => ⟨S_, .f32⟩
  | .hbm, ⟨37, _⟩ => ⟨S1x256, .f32⟩
  | .hbm, ⟨38, _⟩ => ⟨S1x256x1, .f32⟩
  | .hbm, ⟨39, _⟩ => ⟨S1x256x2048, .f32⟩
  | .hbm, ⟨40, _⟩ => ⟨S1x256x2048, .f32⟩
  | .hbm, ⟨41, _⟩ => ⟨S1x256x1, .f32⟩
  | .hbm, ⟨42, _⟩ => ⟨S_, .f32⟩
  | .hbm, ⟨43, _⟩ => ⟨S1x256x1, .f32⟩
  | .hbm, ⟨44, _⟩ => ⟨S1x256x1, .f32⟩
  | .hbm, ⟨45, _⟩ => ⟨S_, .f32⟩
  | .hbm, ⟨46, _⟩ => ⟨S256, .f32⟩
  | .hbm, ⟨47, _⟩ => ⟨S1x256, .f32⟩
  | .hbm, ⟨48, _⟩ => ⟨S1x256x2048, .f32⟩
  | .hbm, ⟨49, _⟩ => ⟨S1x256x2048, .f32⟩
  | .hbm, ⟨50, _⟩ => ⟨S1x256x2048, .f32⟩
  | .hbm, ⟨51, _⟩ => ⟨S1x256x2048, .f32⟩
  | .hbm, ⟨52, _⟩ => ⟨S1x256x2048, .f32⟩
  | .hbm, ⟨53, _⟩ => ⟨S1x2048, .f32⟩
  | .hbm, ⟨54, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Block.lean ====
/- What one grid point of the gradient kernel computes, head by head, as vector expressions: the same operations
   in the same order as the printed body, but with the head a variable instead of eight copies. -/
module

public import proofs.«01_k».proof.Proof.Gen.KernelIdeal

@[expose] public section

noncomputable section

namespace Cert.Block

open Cert.KernelIdeal Cert.KernelIdeal.Gen Idealize.ShloMosaic

variable {F : FTy → Type} [FloatOps F]

/-- The numbers one grid point works from: its 128 rows of the gate branch `u`, the value branch `v` and the
    incoming gradient `dy`, with the whole mixing weights `w`, offsets `b`, and the gain and offset `g`, `l` of the
    normalisation. -/
structure In (F : FTy → Type) where
  u : FVec F S128x1024 .f32
  v : FVec F S128x1024 .f32
  w : FVec F S8x128x128 .f32
  b : FVec F S8x128x1 .f32
  g : FVec F S1x1024 .f32
  l : FVec F S1x1024 .f32
  dy : FVec F S128x1024 .bf16

/-! ## Small vector operations -/

/-- A constant 128 × 128 block. -/
def kk (bits : BitVec 32) : FVec F S128x128 .f32 := broadcast S128x128 (Scalar.ofBits .f32 bits)

/-- A constant column. -/
def kc (bits : BitVec 32) : FVec F S128x1 .f32 := broadcast S128x1 (Scalar.ofBits .f32 bits)

/-- A column repeated over 128 lanes. -/
def wide (x : FVec F S128x1 .f32) : FVec F S128x128 .f32 := broadcastTo S128x128 x broadcasts_S128x1_S128x128

/-- A row repeated over 128 rows. -/
def tall (x : FVec F S1x128 .f32) : FVec F S128x128 .f32 := broadcastTo S128x128 x broadcasts_S1x128_S128x128

theorem headOk : ∀ h : Fin 8, S128x1024.Slices ![0, 128 * h.val] S128x128 := by decide
theorem laneOk : ∀ h : Fin 8, S1x1024.Slices ![0, 128 * h.val] S1x128 := by decide
theorem matOk : ∀ h : Fin 8, S8x128x128.Slices ![h.val, 0, 0] S1x128x128 := by decide
theorem offOk : ∀ h : Fin 8, S8x128x1.Slices ![h.val, 0, 0] S1x128x1 := by decide

/-- The 128 lanes of head `h`. -/
def head (x : FVec F S128x1024 .f32) (h : Fin 8) : FVec F S128x128 .f32 :=
  extractStridedSlice S128x128 ![0, 128 * h.val] x (headOk h)

/-- The 128 lanes of head `h` of a row vector. -/
def lane (x : FVec F S1x1024 .f32) (h : Fin 8) : FVec F S1x128 .f32 :=
  extractStridedSlice S1x128 ![0, 128 * h.val] x (laneOk h)

/-- Head `h`'s matrix of mixing weights. -/
def mat (x : FVec F S8x128x128 .f32) (h : Fin 8) : FVec F S128x128 .f32 :=
  shapeCast S128x128 (extractStridedSlice S1x128x128 ![h.val, 0, 0] x (matOk h)) shapeCasts_S1x128x128_S128x128

/-- Head `h`'s column of offsets. -/
def off (x : FVec F S8x128x1 .f32) (h : Fin 8) : FVec F S128x1 .f32 :=
  shapeCast S128x1 (extractStridedSlice S1x128x1 ![h.val, 0, 0] x (offOk h)) shapeCasts_S1x128x1_S128x1

/-- The sum of each row. -/
def rowSum (x : FVec F S128x128 .f32) : FVec F S128x1 .f32 :=
  shapeCast S128x1 (multiReduction .add [1] S128 x 0x00000000#32 reduces_S128x128_S128 (.inl rfl) rfl) shapeCasts_S128_S128x1

/-- The sum of each row of one number. -/
def rowSum1 (x : FVec F S128x1 .f32) : FVec F S128x1 .f32 :=
  shapeCast S128x1 (multiReduction .add [1] S128 x 0x00000000#32 reduces_S128x1_S128 (.inl rfl) rfl) shapeCasts_S128_S128x1

/-- The sum of each column. -/
def colSum (x : FVec F S128x128 .f32) : FVec F S1x128 .f32 :=
  shapeCast S1x128 (multiReduction .add [0] S128 x 0x00000000#32 reduces_S128x128_S128_2 (.inl rfl) rfl) shapeCasts_S128_S1x128

/-- A leading axis of one added. -/
def lift3 (x : FVec F S128x128 .f32) : FVec F S1x128x128 .f32 := shapeCast S1x128x128 x shapeCasts_S128x128_S1x128x128

/-- A leading axis of one summed away. -/
def drop3 (x : FVec F S1x128x128 .f32) : FVec F S128x128 .f32 :=
  multiReduction .add [0] S128x128 x 0x00000000#32 reduces_S1x128x128_S128x128 (.inl rfl) rfl

/-- The zero the products are added to. -/
def zero3 : FVec F S1x128x128 .f32 := constant S1x128x128 .f32 0x00000000#32

/-- Rounded to the narrow format. -/
def low (x : FVec F S1x128x128 .f32) : FVec F S1x128x128 .bf16 := truncf .bf16 x bitsLt_bf16_f32

/-! ## The activation and its derivative -/

def half (x : FVec F S128x128 .f32) : FVec F S128x128 .f32 := mulf (kk 0x3F000000#32) x
def arg (x : FVec F S128x128 .f32) : FVec F S128x128 .f32 := mulf x (kk 0x3F3504F3#32)
def onePlus (x : FVec F S128x128 .f32) : FVec F S128x128 .f32 := addf (kk 0x3F800000#32) (erf (arg x))
def bell (x : FVec F S128x128 .f32) : FVec F S128x128 .f32 := exp (subf (kk 0x00000000#32) (mulf (arg x) (arg x)))
def act (x : FVec F S128x128 .f32) : FVec F S128x128 .f32 := mulf (half x) (onePlus x)

/-- The activation's derivative at `x` applied to the incoming gradient `d`. -/
def actT (x d : FVec F S128x128 .f32) : FVec F S128x128 .f32 :=
  addf (mulf (mulf (mulf (kk 0x3F906EBB#32) (mulf (half x) d)) (bell x)) (kk 0x3F3504F3#32))
    (mulf (kk 0x3F000000#32) (mulf d (onePlus x)))

/-! ## The forward values -/

/-- The sum over the heads in the order 0 to 7, from zero. -/
def up (f : Fin 8 → FVec F S128x1 .f32) : FVec F S128x1 .f32 :=
  addf (addf (addf (addf (addf (addf (addf (addf (kc 0x00000000#32) (f 0)) (f 1)) (f 2)) (f 3)) (f 4)) (f 5)) (f 6)) (f 7)

def mean (f : Fin 8 → FVec F S128x1 .f32) : FVec F S128x1 .f32 := divf (up f) (kc 0x44800000#32)

variable (X : In F)

def va (h : Fin 8) : FVec F S128x128 .f32 := act (head X.v h)
def mu : FVec F S128x1 .f32 := mean fun h => rowSum (va X h)
def dev (h : Fin 8) : FVec F S128x128 .f32 := subf (va X h) (wide (mu X))
def var : FVec F S128x1 .f32 := addf (mean fun h => rowSum (mulf (dev X h) (dev X h))) (kc 0x358637BD#32)
def rs : FVec F S128x1 .f32 := rsqrt (var X)
def nrm (h : Fin 8) : FVec F S128x128 .f32 := mulf (dev X h) (wide (rs X))
def vn (h : Fin 8) : FVec F S128x128 .f32 := addf (mulf (nrm X h) (tall (lane X.g h))) (tall (lane X.l h))

/-- Which pairs (row, column) have the row not before the column. -/
def mask : IVec S128x128 1 :=
  cmpi .sge (iota .tc S128x128 32 [0] iota_S128x128_d0_w32) (iota .tc S128x128 32 [1] iota_S128x128_d1_w32)

def wm (h : Fin 8) : FVec F S128x128 .f32 := select mask (mat X.w h) (kk 0x00000000#32)

def mixed (h : Fin 8) : FVec F S128x128 .f32 :=
  addf (shapeCast S128x128 (matmul dot_S1x128x128_S1x128x128_S1x128x128_2_1_1_2_0_0 none (low (lift3 (wm X h))) (low (lift3 (vn X h))) zero3)
    shapeCasts_S1x128x128_S128x128) (wide (off X.b h))

/-! ## The gradients -/

def dyh (h : Fin 8) : FVec F S128x128 .f32 := head (extf .f32 X.dy bitsLt_bf16_f32) h

/-- The gradient reaching the mixed values. -/
def dm (h : Fin 8) : FVec F S128x128 .f32 := mulf (act (head X.u h)) (dyh X h)

def du (h : Fin 8) : FVec F S128x128 .f32 := actT (head X.u h) (mulf (dyh X h) (mixed X h))
def db (h : Fin 8) : FVec F S128x1 .f32 := rowSum (dm X h)

def dw (h : Fin 8) : FVec F S128x128 .f32 :=
  select mask (drop3 (matmul dot_S1x128x128_S1x128x128_S1x128x128_2_2_1_1_0_0 none (low (lift3 (dm X h))) (low (lift3 (vn X h))) zero3))
    (kk 0x00000000#32)

/-- The gradient reaching the normalised values. -/
def dvn (h : Fin 8) : FVec F S128x128 .f32 :=
  drop3 (matmul dot_S1x128x128_S1x128x128_S1x128x128_1_1_2_2_0_0 none (low (lift3 (wm X h))) (low (lift3 (dm X h))) zero3)

def dl (h : Fin 8) : FVec F S1x128 .f32 := colSum (dvn X h)
def dg (h : Fin 8) : FVec F S1x128 .f32 := colSum (mulf (nrm X h) (dvn X h))
def q (h : Fin 8) : FVec F S128x128 .f32 := mulf (dvn X h) (tall (lane X.g h))
def p (h : Fin 8) : FVec F S128x128 .f32 := mulf (q X h) (wide (rs X))

/-- A sum over the heads in the order 7 to 0. -/
def down (f : Fin 8 → FVec F S128x1 .f32) : FVec F S128x1 .f32 :=
  addf (addf (addf (addf (addf (addf (addf (f 7) (f 6)) (f 5)) (f 4)) (f 3)) (f 2)) (f 1)) (f 0)

/-- The same sum continued from `s`. -/
def downFrom (s : FVec F S128x1 .f32) (f : Fin 8 → FVec F S128x1 .f32) : FVec F S128x1 .f32 :=
  addf (addf (addf (addf (addf (addf (addf (addf s (f 7)) (f 6)) (f 5)) (f 4)) (f 3)) (f 2)) (f 1)) (f 0)

def neg (x : FVec F S128x128 .f32) : FVec F S128x128 .f32 := subf (kk 0x00000000#32) x

/-- The gradient reaching the variance, over the number of lanes. -/
def dvar : FVec F S128x1 .f32 :=
  divf (mulf (down fun h => rowSum (mulf (dev X h) (q X h))) (mulf (kc 0xBF000000#32) (divf (rs X) (var X)))) (kc 0x44800000#32)

def e (h : Fin 8) : FVec F S128x128 .f32 := mulf (wide (rowSum1 (dvar X))) (mulf (kk 0x40000000#32) (dev X h))

/-- The gradient reaching the mean, over the number of lanes. -/
def dmu : FVec F S128x1 .f32 :=
  divf (downFrom (down fun h => rowSum (neg (p X h))) fun h => rowSum (neg (e X h))) (kc 0x44800000#32)

def dv (h : Fin 8) : FVec F S128x128 .f32 :=
  actT (head X.v h) (addf (addf (p X h) (e X h)) (wide (rowSum1 (dmu X))))

/-! ## What the point stores -/

/-- Two branches side by side, head after head. -/
def pack (f g : Fin 8 → FVec F S128x128 .f32) : FVec F S128x2048 .bf16 :=
  truncf .bf16 (concatenate S128x2048 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩,
    ⟨S128x128, g 0⟩, ⟨S128x128, g 1⟩, ⟨S128x128, g 2⟩, ⟨S128x128, g 3⟩, ⟨S128x128, g 4⟩, ⟨S128x128, g 5⟩, ⟨S128x128, g 6⟩, ⟨S128x128, g 7⟩]
    concatenates_S128x128_S128x128_S128x128_S128x128_S128x128_S128x128_S128x128_S128x128_S128x128_S128x128_S128x128_S128x128_S128x128_S128x128_S128x128_S128x128_S128x2048_d1) bitsLt_bf16_f32

/-- The two branches' gradients side by side. -/
def outX : FVec F S128x2048 .bf16 := pack (du X) (dv X)

def stack (f : Fin 8 → FVec F S128x128 .f32) : FVec F S8x128x128 .f32 :=
  concatenate S8x128x128 0 [⟨S1x128x128, lift3 (f 0)⟩, ⟨S1x128x128, lift3 (f 1)⟩, ⟨S1x128x128, lift3 (f 2)⟩, ⟨S1x128x128, lift3 (f 3)⟩, ⟨S1x128x128, lift3 (f 4)⟩, ⟨S1x128x128, lift3 (f 5)⟩, ⟨S1x128x128, lift3 (f 6)⟩, ⟨S1x128x128, lift3 (f 7)⟩]
    concatenates_S1x128x128_S1x128x128_S1x128x128_S1x128x128_S1x128x128_S1x128x128_S1x128x128_S1x128x128_S8x128x128_d0

def liftc (x : FVec F S128x1 .f32) : FVec F S1x128x1 .f32 := shapeCast S1x128x1 x shapeCasts_S128x1_S1x128x1

def stackc (f : Fin 8 → FVec F S128x1 .f32) : FVec F S8x128x1 .f32 :=
  concatenate S8x128x1 0 [⟨S1x128x1, liftc (f 0)⟩, ⟨S1x128x1, liftc (f 1)⟩, ⟨S1x128x1, liftc (f 2)⟩, ⟨S1x128x1, liftc (f 3)⟩, ⟨S1x128x1, liftc (f 4)⟩, ⟨S1x128x1, liftc (f 5)⟩, ⟨S1x128x1, liftc (f 6)⟩, ⟨S1x128x1, liftc (f 7)⟩]
    concatenates_S1x128x1_S1x128x1_S1x128x1_S1x128x1_S1x128x1_S1x128x1_S1x128x1_S1x128x1_S8x128x1_d0

def line (f : Fin 8 → FVec F S1x128 .f32) : FVec F S1x1024 .f32 :=
  concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S1x1024_d1

def outW (a : FVec F S8x128x128 .f32) : FVec F S8x128x128 .f32 := addf a (stack (dw X))
def outB (a : FVec F S8x128x1 .f32) : FVec F S8x128x1 .f32 := addf a (stackc (db X))
def outG (a : FVec F S1x1024 .f32) : FVec F S1x1024 .f32 := addf a (line (dg X))
def outL (a : FVec F S1x1024 .f32) : FVec F S1x1024 .f32 := addf a (line (dl X))

end Cert.Block

end
-- ==== Proof.Points.lean ====
/- What the kernel's run leaves after each grid point, as the block expressions at the point's input blocks. -/
module

public import proofs.«01_k».proof.Proof.Gen.KernelIdeal.Value
public import proofs.«01_k».proof.Proof.Block
public import Idealize.ShloMosaic.Lib.Pipeline.ValueKit

@[expose] public section

set_option maxRecDepth 16384
set_option maxHeartbeats 4000000

noncomputable section

namespace Cert.Points

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The blocks grid point `t` works on. -/
def Xin (c : Dev nD) (t : Fin cfg0.N) : Block.In F :=
  ⟨iblk m c 0 t, iblk m c 1 t, iblk m c 2 t, k0_pay5 (iblk m c 3 t), k0_pay6 (iblk m c 4 t), k0_pay7 (iblk m c 5 t), k0_pay8 (iblk m c 6 t)⟩

theorem first_x (c : Dev nD) (t : Fin cfg0.N) (h0 : t.val % 16 = 0) : (outsAt0 m c t.val t.isLt).1 = Block.outX (Xin m c t) := by
  rw [outsAt0_A m c t h0]; frame_out; sl_kernel_rfl
theorem first_w (c : Dev nD) (t : Fin cfg0.N) (h0 : t.val % 16 = 0) : (outsAt0 m c t.val t.isLt).2.1 = Block.outW (Xin m c t) (k0_pay9 k0_pay1) := by
  rw [outsAt0_A m c t h0]; frame_out; sl_kernel_rfl
theorem first_b (c : Dev nD) (t : Fin cfg0.N) (h0 : t.val % 16 = 0) : (outsAt0 m c t.val t.isLt).2.2.1 = Block.outB (Xin m c t) (k0_pay10 k0_pay2) := by
  rw [outsAt0_A m c t h0]; frame_out; sl_kernel_rfl
theorem first_g (c : Dev nD) (t : Fin cfg0.N) (h0 : t.val % 16 = 0) : (outsAt0 m c t.val t.isLt).2.2.2.1 = Block.outG (Xin m c t) (k0_pay11 k0_pay3) := by
  rw [outsAt0_A m c t h0]; frame_out; sl_kernel_rfl
theorem first_l (c : Dev nD) (t : Fin cfg0.N) (h0 : t.val % 16 = 0) : (outsAt0 m c t.val t.isLt).2.2.2.2 = Block.outL (Xin m c t) (k0_pay12 k0_pay4) := by
  rw [outsAt0_A m c t h0]; frame_out; sl_kernel_rfl

theorem next_x (c : Dev nD) (t : Fin cfg0.N) (h0 : ¬t.val % 16 = 0) : (outsAt0 m c t.val t.isLt).1 = Block.outX (Xin m c t) := by
  rw [outsAt0_B m c t h0]; frame_out; sl_kernel_rfl
theorem next_w (c : Dev nD) (t : Fin cfg0.N) (h0 : ¬t.val % 16 = 0) :
    (outsAt0 m c t.val t.isLt).2.1 = Block.outW (Xin m c t) (k0_pay9 (outsAt0 m c (t.val - 1) (by omega)).2.1) := by
  rw [outsAt0_B m c t h0]; frame_out; sl_kernel_rfl
theorem next_b (c : Dev nD) (t : Fin cfg0.N) (h0 : ¬t.val % 16 = 0) :
    (outsAt0 m c t.val t.isLt).2.2.1 = Block.outB (Xin m c t) (k0_pay10 (outsAt0 m c (t.val - 1) (by omega)).2.2.1) := by
  rw [outsAt0_B m c t h0]; frame_out; sl_kernel_rfl
theorem next_g (c : Dev nD) (t : Fin cfg0.N) (h0 : ¬t.val % 16 = 0) :
    (outsAt0 m c t.val t.isLt).2.2.2.1 = Block.outG (Xin m c t) (k0_pay11 (outsAt0 m c (t.val - 1) (by omega)).2.2.2.1) := by
  rw [outsAt0_B m c t h0]; frame_out; sl_kernel_rfl
theorem next_l (c : Dev nD) (t : Fin cfg0.N) (h0 : ¬t.val % 16 = 0) :
    (outsAt0 m c t.val t.isLt).2.2.2.2 = Block.outL (Xin m c t) (k0_pay12 (outsAt0 m c (t.val - 1) (by omega)).2.2.2.2) := by
  rw [outsAt0_B m c t h0]; frame_out; sl_kernel_rfl

/-- Every point leaves its block of the two branches' gradients. -/
theorem out_x (c : Dev nD) (t : Fin cfg0.N) : (outsAt0 m c t.val t.isLt).1 = Block.outX (Xin m c t) := by
  by_cases h0 : t.val % 16 = 0
  · exact first_x m c t h0
  · exact next_x m c t h0

end Cert.Points

end
-- ==== Proof.Spec.lean ====
/- The gradient of the chunked spatial gating layer for one chunk of 128 rows, as plain formulas over the extended
   reals. A lane of the 1024 is a head `h` and a position `d` within it. -/
module

public import Idealize.ShloMosaic.PureOps.Ideal.Laws

@[expose] public section

noncomputable section

namespace Cert.Spec

open Idealize.ShloMosaic

/-- One chunk: the rows of the gate branch `u`, the value branch `v` and the incoming gradient `dy`, with the mixing
    weights `w`, the offsets `b`, and the gain and offset `g`, `l` of the normalisation. -/
structure In where
  u : Fin 8 → Fin 128 → Fin 128 → EReal
  v : Fin 8 → Fin 128 → Fin 128 → EReal
  w : Fin 8 → Fin 128 → Fin 128 → EReal
  b : Fin 8 → Fin 128 → EReal
  g : Fin 8 → Fin 128 → EReal
  l : Fin 8 → Fin 128 → EReal
  dy : Fin 8 → Fin 128 → Fin 128 → EReal

/-- The numbers the layer is written with: a half, the root of a half, two over the root of pi, the number of lanes,
    the number added to the variance, minus a half, and two. -/
def cHalf : EReal := Ideal.ofBits .f32 0x3F000000#32
def cRoot : EReal := Ideal.ofBits .f32 0x3F3504F3#32
def cBell : EReal := Ideal.ofBits .f32 0x3F906EBB#32
def cLanes : EReal := Ideal.ofBits .f32 0x44800000#32
def cEps : EReal := Ideal.ofBits .f32 0x358637BD#32
def cMinusHalf : EReal := Ideal.ofBits .f32 0xBF000000#32
def cTwo : EReal := Ideal.ofBits .f32 0x40000000#32

/-- The activation: half of `x` times one plus the error function. -/
def act (x : EReal) : EReal := cHalf * x * (1 + Ideal.erf (x * cRoot))

/-- The activation's derivative at `x` applied to `d`. -/
def actT (x d : EReal) : EReal :=
  cBell * (cHalf * x * d) * Ideal.exp (-(x * cRoot * (x * cRoot))) * cRoot + cHalf * (d * (1 + Ideal.erf (x * cRoot)))

/-- The sum over all lanes. -/
def lanes (f : Fin 8 → Fin 128 → EReal) : EReal := ∑ h, ∑ d, f h d

variable (X : In)

def va (h : Fin 8) (r d : Fin 128) : EReal := act (X.v h r d)
def mu (r : Fin 128) : EReal := Ideal.div (lanes fun h d => va X h r d) cLanes
def dev (h : Fin 8) (r d : Fin 128) : EReal := va X h r d - mu X r
def var (r : Fin 128) : EReal := Ideal.div (lanes fun h d => dev X h r d * dev X h r d) cLanes + cEps
def rs (r : Fin 128) : EReal := Ideal.rsqrt (var X r)
def nrm (h : Fin 8) (r d : Fin 128) : EReal := dev X h r d * rs X r
def vn (h : Fin 8) (r d : Fin 128) : EReal := nrm X h r d * X.g h d + X.l h d

/-- The mixing weights with every later row dropped. -/
def wm (h : Fin 8) (t s : Fin 128) : EReal := if s.val ≤ t.val then X.w h t s else 0

def mixed (h : Fin 8) (r d : Fin 128) : EReal := ∑ s, wm X h r s * vn X h s d + X.b h r

/-- The gradient reaching the mixed values. -/
def dm (h : Fin 8) (r d : Fin 128) : EReal := act (X.u h r d) * X.dy h r d

def du (h : Fin 8) (r d : Fin 128) : EReal := actT (X.u h r d) (X.dy h r d * mixed X h r d)
def db (h : Fin 8) (r : Fin 128) : EReal := ∑ d, dm X h r d
/-- The gradient of the mixing weights before the later rows are dropped. -/
def dwAll (h : Fin 8) (t s : Fin 128) : EReal := ∑ d, dm X h t d * vn X h s d
def dw (h : Fin 8) (t s : Fin 128) : EReal := if s.val ≤ t.val then dwAll X h t s else 0
/-- The gradient reaching the normalised values. -/
def dvn (h : Fin 8) (r d : Fin 128) : EReal := ∑ t, wm X h t r * dm X h t d
def dl (h : Fin 8) (d : Fin 128) : EReal := ∑ r, dvn X h r d
def dg (h : Fin 8) (d : Fin 128) : EReal := ∑ r, nrm X h r d * dvn X h r d
def q (h : Fin 8) (r d : Fin 128) : EReal := dvn X h r d * X.g h d
def p (h : Fin 8) (r d : Fin 128) : EReal := q X h r d * rs X r
/-- The gradient reaching the variance, over the number of lanes. -/
def dvar (r : Fin 128) : EReal :=
  Ideal.div (lanes (fun h d => dev X h r d * q X h r d) * (cMinusHalf * Ideal.div (rs X r) (var X r))) cLanes
def e (h : Fin 8) (r d : Fin 128) : EReal := dvar X r * (cTwo * dev X h r d)
/-- The gradient reaching the mean, over the number of lanes. -/
def dmu (r : Fin 128) : EReal :=
  Ideal.div (lanes (fun h d => -p X h r d) + lanes fun h d => -e X h r d) cLanes
def dva (h : Fin 8) (r d : Fin 128) : EReal := p X h r d + e X h r d + dmu X r
def dv (h : Fin 8) (r d : Fin 128) : EReal := actT (X.v h r d) (dva X h r d)

end Cert.Spec

end
-- ==== Proof.BlockValue.lean ====
/- What one grid point's vector expressions hold at an index: the chunk's plain formulas. -/
module

public import proofs.«01_k».proof.Proof.Block
public import proofs.«01_k».proof.Proof.Spec
public import Idealize.ShloMosaic.Lib.Pointwise
public import Idealize.ShloMosaic.Lib.WordCmp

@[expose] public section

set_option maxRecDepth 16384

noncomputable section

namespace Cert.BlockValue

open Cert.KernelIdeal Cert.KernelIdeal.Gen Idealize.ShloMosaic

/-- Lane `d` of head `h` among the 1024. -/
def lane (h : Fin 8) (d : Fin 128) : Fin 1024 := ⟨h.val * 128 + d.val, by omega⟩

variable (X : Block.In Ideal)

/-- The chunk a grid point works on. -/
def chunk : Spec.In where
  u h r d := X.u (ix2 r (lane h d))
  v h r d := X.v (ix2 r (lane h d))
  w h t s := X.w (ix3 h t s)
  b h r := X.b (ix3 h r 0)
  g h d := X.g (ix2 0 (lane h d))
  l h d := X.l (ix2 0 (lane h d))
  dy h r d := X.dy (ix2 r (lane h d))

/-! ## The small operations -/

theorem head_apply (x : FVec Ideal S128x1024 .f32) (h : Fin 8) (r d : Fin 128) :
    Block.head x h (ix2 r d) = x (ix2 r (lane h d)) := by
  pointwise [Block.head]
  exact congrArg (fun k => x (ix2 r k)) (Fin.ext (by simp only [lane]; omega))

theorem lane_apply (x : FVec Ideal S1x1024 .f32) (h : Fin 8) (d : Fin 128) :
    Block.lane x h (ix2 0 d) = x (ix2 0 (lane h d)) := by
  pointwise [Block.lane]
  exact congrArg (fun k => x (ix2 0 k)) (Fin.ext (by simp only [lane]; omega))

theorem wide_apply (x : FVec Ideal S128x1 .f32) (r d : Fin 128) : Block.wide x (ix2 r d) = x (ix2 r 0) := by
  pointwise [Block.wide]

theorem tall_apply (x : FVec Ideal S1x128 .f32) (r d : Fin 128) : Block.tall x (ix2 r d) = x (ix2 0 d) := by
  pointwise [Block.tall]

theorem rowSum_apply (x : FVec Ideal S128x128 .f32) (r : Fin 128) : Block.rowSum x (ix2 r 0) = ∑ d, x (ix2 r d) := by
  pointwise [Block.rowSum]

theorem rowSum1_apply (x : FVec Ideal S128x1 .f32) (r : Fin 128) : Block.rowSum1 x (ix2 r 0) = x (ix2 r 0) := by
  pointwise [Block.rowSum1]
  first | done | simp

theorem colSum_apply (x : FVec Ideal S128x128 .f32) (d : Fin 128) : Block.colSum x (ix2 0 d) = ∑ r, x (ix2 r d) := by
  pointwise [Block.colSum]

theorem act_apply (x : FVec Ideal S128x128 .f32) (r d : Fin 128) : Block.act x (ix2 r d) = Spec.act (x (ix2 r d)) := by
  pointwise [Block.act, Block.half, Block.onePlus, Block.arg, Block.kk]
  rfl

theorem actT_apply (x y : FVec Ideal S128x128 .f32) (r d : Fin 128) :
    Block.actT x y (ix2 r d) = Spec.actT (x (ix2 r d)) (y (ix2 r d)) := by
  pointwise [Block.actT, Block.half, Block.onePlus, Block.arg, Block.bell, Block.kk]
  simp only [zero_sub]
  rfl

theorem neg_apply (x : FVec Ideal S128x128 .f32) (r d : Fin 128) : Block.neg x (ix2 r d) = -x (ix2 r d) := by
  pointwise [Block.neg, Block.kk]
  simp only [zero_sub]

theorem up_apply (f : Fin 8 → FVec Ideal S128x1 .f32) (r : Fin 128) : Block.up f (ix2 r 0) = ∑ h, f h (ix2 r 0) := by
  pointwise [Block.up, Block.kc]
  simp only [Fin.sum_univ_eight, zero_add]

theorem mean_apply (f : Fin 8 → FVec Ideal S128x1 .f32) (r : Fin 128) :
    Block.mean f (ix2 r 0) = Ideal.div (∑ h, f h (ix2 r 0)) Spec.cLanes := by
  rw [← up_apply]
  pointwise [Block.mean, Block.kc]
  rfl

theorem down_apply (f : Fin 8 → FVec Ideal S128x1 .f32) (r : Fin 128) : Block.down f (ix2 r 0) = ∑ h, f h (ix2 r 0) := by
  pointwise [Block.down]
  simp only [Fin.sum_univ_eight]
  ac_rfl

theorem downFrom_apply (s : FVec Ideal S128x1 .f32) (f : Fin 8 → FVec Ideal S128x1 .f32) (r : Fin 128) :
    Block.downFrom s f (ix2 r 0) = s (ix2 r 0) + ∑ h, f h (ix2 r 0) := by
  pointwise [Block.downFrom]
  simp only [Fin.sum_univ_eight]
  ac_rfl

/-! ## The values -/

theorem va_apply (h : Fin 8) (r d : Fin 128) : Block.va X h (ix2 r d) = Spec.va (chunk X) h r d := by
  rw [Block.va, act_apply, head_apply]; rfl

theorem mu_apply (r : Fin 128) : Block.mu X (ix2 r 0) = Spec.mu (chunk X) r := by
  rw [Block.mu, mean_apply]
  simp only [rowSum_apply, va_apply]
  rfl

theorem dev_apply (h : Fin 8) (r d : Fin 128) : Block.dev X h (ix2 r d) = Spec.dev (chunk X) h r d := by
  pointwise [Block.dev]
  rw [va_apply, wide_apply, mu_apply]; rfl

theorem var_apply (r : Fin 128) : Block.var X (ix2 r 0) = Spec.var (chunk X) r := by
  pointwise [Block.var, Block.kc]
  rw [mean_apply]
  simp only [rowSum_apply]
  pointwise
  simp only [dev_apply]
  rfl

theorem rs_apply (r : Fin 128) : Block.rs X (ix2 r 0) = Spec.rs (chunk X) r := by
  pointwise [Block.rs]
  rw [var_apply]; rfl

theorem nrm_apply (h : Fin 8) (r d : Fin 128) : Block.nrm X h (ix2 r d) = Spec.nrm (chunk X) h r d := by
  pointwise [Block.nrm]
  rw [dev_apply, wide_apply, rs_apply]; rfl

theorem vn_apply (h : Fin 8) (r d : Fin 128) : Block.vn X h (ix2 r d) = Spec.vn (chunk X) h r d := by
  pointwise [Block.vn]
  rw [nrm_apply, tall_apply, tall_apply, lane_apply, lane_apply]; rfl

/-- The mask at a pair of small numbers is the comparison of the numbers. -/
theorem sge_le (t s : Fin 128) (a b : EReal) :
    Scalar.select (IntOp.cmpi .sge (BitVec.ofNat 32 t.val) (BitVec.ofNat 32 s.val)) a b = if s.val ≤ t.val then a else b := by
  rw [WordCmp.cmpi_sge_ofNat (by omega) (by omega)]
  by_cases hle : s.val ≤ t.val
  · simp [hle, Scalar.select]
  · simp [hle, Scalar.select]

theorem wm_apply (h : Fin 8) (t s : Fin 128) : Block.wm X h (ix2 t s) = Spec.wm (chunk X) h t s := by
  pointwise [Block.wm, Block.mat, Block.mask, Block.kk]
  rw [sge_le]; rfl

theorem mixed_apply (h : Fin 8) (r d : Fin 128) : Block.mixed X h (ix2 r d) = Spec.mixed (chunk X) h r d := by
  pointwise [Block.mixed, Block.low, Block.lift3, Block.zero3, Block.off, Block.wide]
  simp only [wm_apply, vn_apply]
  rfl

theorem dyh_apply (h : Fin 8) (r d : Fin 128) : Block.dyh X h (ix2 r d) = (chunk X).dy h r d := by
  rw [Block.dyh, head_apply]
  pointwise
  rfl

theorem dm_apply (h : Fin 8) (r d : Fin 128) : Block.dm X h (ix2 r d) = Spec.dm (chunk X) h r d := by
  pointwise [Block.dm]
  rw [act_apply, head_apply, dyh_apply]; rfl

theorem du_apply (h : Fin 8) (r d : Fin 128) : Block.du X h (ix2 r d) = Spec.du (chunk X) h r d := by
  rw [Block.du, actT_apply, head_apply]
  pointwise
  rw [dyh_apply, mixed_apply]; rfl

theorem db_apply (h : Fin 8) (r : Fin 128) : Block.db X h (ix2 r 0) = Spec.db (chunk X) h r := by
  rw [Block.db, rowSum_apply]
  simp only [dm_apply]
  rfl

theorem dw_apply (h : Fin 8) (t s : Fin 128) : Block.dw X h (ix2 t s) = Spec.dw (chunk X) h t s := by
  pointwise [Block.dw, Block.mask, Block.kk, Block.drop3, Block.low, Block.lift3, Block.zero3]
  rw [sge_le]
  simp only [dm_apply, vn_apply, Finset.univ_unique, Finset.sum_singleton]
  rfl

theorem dvn_apply (h : Fin 8) (r d : Fin 128) : Block.dvn X h (ix2 r d) = Spec.dvn (chunk X) h r d := by
  pointwise [Block.dvn, Block.drop3, Block.low, Block.lift3, Block.zero3]
  simp only [wm_apply, dm_apply, Finset.univ_unique, Finset.sum_singleton]
  rfl

theorem dl_apply (h : Fin 8) (d : Fin 128) : Block.dl X h (ix2 0 d) = Spec.dl (chunk X) h d := by
  rw [Block.dl, colSum_apply]
  simp only [dvn_apply]
  rfl

theorem dg_apply (h : Fin 8) (d : Fin 128) : Block.dg X h (ix2 0 d) = Spec.dg (chunk X) h d := by
  rw [Block.dg, colSum_apply]
  pointwise
  simp only [nrm_apply, dvn_apply]
  rfl

theorem q_apply (h : Fin 8) (r d : Fin 128) : Block.q X h (ix2 r d) = Spec.q (chunk X) h r d := by
  pointwise [Block.q]
  rw [dvn_apply, tall_apply, lane_apply]; rfl

theorem p_apply (h : Fin 8) (r d : Fin 128) : Block.p X h (ix2 r d) = Spec.p (chunk X) h r d := by
  pointwise [Block.p]
  rw [q_apply, wide_apply, rs_apply]; rfl

theorem dvar_apply (r : Fin 128) : Block.dvar X (ix2 r 0) = Spec.dvar (chunk X) r := by
  pointwise [Block.dvar, Block.kc]
  rw [down_apply, rs_apply, var_apply]
  simp only [rowSum_apply]
  pointwise
  simp only [dev_apply, q_apply]
  rfl

theorem e_apply (h : Fin 8) (r d : Fin 128) : Block.e X h (ix2 r d) = Spec.e (chunk X) h r d := by
  pointwise [Block.e, Block.kk]
  rw [wide_apply, rowSum1_apply, dvar_apply, dev_apply]; rfl

theorem dmu_apply (r : Fin 128) : Block.dmu X (ix2 r 0) = Spec.dmu (chunk X) r := by
  pointwise [Block.dmu, Block.kc]
  rw [downFrom_apply, down_apply]
  simp only [rowSum_apply, neg_apply, p_apply, e_apply]
  rfl

theorem dv_apply (h : Fin 8) (r d : Fin 128) : Block.dv X h (ix2 r d) = Spec.dv (chunk X) h r d := by
  rw [Block.dv, actT_apply, head_apply]
  pointwise
  rw [p_apply, e_apply, wide_apply, rowSum1_apply, dmu_apply]; rfl

/-! ## What the point stores -/

/-- A statement about all eight heads, head by head. -/
@[elab_as_elim] theorem forall8 {P : Fin 8 → Prop} (h0 : P 0) (h1 : P 1) (h2 : P 2) (h3 : P 3) (h4 : P 4) (h5 : P 5) (h6 : P 6) (h7 : P 7)
    (h : Fin 8) : P h := by
  fin_cases h <;> assumption

/-- The sixteen pieces a packed block is made of. -/
def pieces (f g : Fin 8 → FVec Ideal S128x128 .f32) (k : Fin 16) : FVec Ideal S128x128 .f32 :=
  if hk : k.val < 8 then f ⟨k.val, hk⟩ else g ⟨k.val - 8, by omega⟩

theorem pack_eq (f g : Fin 8 → FVec Ideal S128x128 .f32) (j : S128x2048.Idx) :
    Block.pack f g j = concatenate S128x2048 1 (List.ofFn fun n : Fin 16 => (⟨S128x128, pieces f g n⟩ : (s : Shape) × (s.Idx → EReal)))
      concatenates_S128x128_S128x128_S128x128_S128x128_S128x128_S128x128_S128x128_S128x128_S128x128_S128x128_S128x128_S128x128_S128x128_S128x128_S128x128_S128x128_S128x2048_d1 j := rfl

theorem piece_apply (f g : Fin 8 → FVec Ideal S128x128 .f32) (k : Fin 16) (r d : Fin 128) (c : Fin 2048) (hc : c.val = 128 * k.val + d.val) :
    concatenate S128x2048 1 (List.ofFn fun n : Fin 16 => (⟨S128x128, pieces f g n⟩ : (s : Shape) × (s.Idx → EReal)))
      concatenates_S128x128_S128x128_S128x128_S128x128_S128x128_S128x128_S128x128_S128x128_S128x128_S128x128_S128x128_S128x128_S128x128_S128x128_S128x128_S128x128_S128x2048_d1 (ix2 r c) = pieces f g k (ix2 r d) :=
  concatenate_ofFn_apply (t := S128x2048) 1 (pieces f g) _ rfl 128 rfl (ix2 r c) k (by show c.val / 128 = k.val; omega) (ix2 r d)
    (by show d.val = c.val % 128; omega) (fun b hb => match b with | ⟨0, _⟩ => rfl | ⟨1, _⟩ => absurd rfl hb)

theorem pack_left (f g : Fin 8 → FVec Ideal S128x128 .f32) (h : Fin 8) (r d : Fin 128) (c : Fin 2048) (hc : c.val = 128 * h.val + d.val) :
    Block.pack f g (ix2 r c) = f h (ix2 r d) := by
  rw [pack_eq, piece_apply f g ⟨h.val, by omega⟩ r d c hc, pieces, dif_pos h.isLt]

theorem pack_right (f g : Fin 8 → FVec Ideal S128x128 .f32) (h : Fin 8) (r d : Fin 128) (c : Fin 2048) (hc : c.val = 1024 + (128 * h.val + d.val)) :
    Block.pack f g (ix2 r c) = g h (ix2 r d) := by
  rw [pack_eq, piece_apply f g ⟨h.val + 8, by omega⟩ r d c (by show _ = 128 * (h.val + 8) + d.val; omega), pieces,
    dif_neg (by simp)]
  exact congrArg (fun k => g k (ix2 r d)) (Fin.ext (by simp))

theorem stack_apply (f : Fin 8 → FVec Ideal S128x128 .f32) (h : Fin 8) (r d : Fin 128) :
    Block.stack f (ix3 h r d) = f h (ix2 r d) := by
  induction h using forall8
  all_goals pointwise [Block.stack, Block.lift3]

theorem stackc_apply (f : Fin 8 → FVec Ideal S128x1 .f32) (h : Fin 8) (r : Fin 128) :
    Block.stackc f (ix3 h r 0) = f h (ix2 r 0) := by
  induction h using forall8
  all_goals pointwise [Block.stackc, Block.liftc]

theorem line_apply (f : Fin 8 → FVec Ideal S1x128 .f32) (h : Fin 8) (d : Fin 128) :
    Block.line f (ix2 0 (lane h d)) = f h (ix2 0 d) := by
  induction h using forall8
  all_goals pointwise [Block.line, lane]
  all_goals repeat rw [dif_neg (by omega)]
  all_goals try rw [dif_pos (by omega)]
  all_goals (congr 2; exact Fin.ext (by simp only []; omega))

end Cert.BlockValue

end
-- ==== Proof.Arrays.lean ====
/- The arrays the kernel leaves, element by element: for each chunk of 128 rows the plain formulas of that chunk, and for
   the accumulated arrays their sum over the chunks. -/
module

public import proofs.«01_k».proof.Proof.Points
public import proofs.«01_k».proof.Proof.BlockValue

@[expose] public section

set_option maxRecDepth 16384
set_option maxHeartbeats 1000000

noncomputable section

namespace Cert.Arrays

open Cert.KernelIdeal Cert.KernelIdeal.Gen Cert.Points Cert.BlockValue Idealize.ShloMosaic Idealize.ShloMosaic.TcCoe Idealize.SL.Sem

variable (m : (ℓ : Loc nD τ sig) → Buf (Elt Ideal) ℓ)

/-- The chunk grid point `t` works on. -/
def pchunk (c : Dev nD) (t : Fin cfg0.N) : Spec.In := chunk (Xin m c t)

/-- The zeros the first point starts from, plus its own term. -/
theorem outW_first (X : Block.In Ideal) (h : Fin 8) (r d : Fin 128) :
    Block.outW X (k0_pay9 (k0_pay1 (F := Ideal))) (ix3 h r d) = Spec.dw (chunk X) h r d := by
  pointwise [Block.outW, k0_pay9, k0_pay1]
  rw [stack_apply, dw_apply]

theorem outW_next (X : Block.In Ideal) (a : FVec Ideal S8x128x128 .f32) (h : Fin 8) (r d : Fin 128) :
    Block.outW X (k0_pay9 a) (ix3 h r d) = a (ix3 h r d) + Spec.dw (chunk X) h r d := by
  pointwise [Block.outW, k0_pay9]
  rw [stack_apply, dw_apply]

theorem outB_first (X : Block.In Ideal) (h : Fin 8) (r : Fin 128) :
    Block.outB X (k0_pay10 (k0_pay2 (F := Ideal))) (ix3 h r 0) = Spec.db (chunk X) h r := by
  pointwise [Block.outB, k0_pay10, k0_pay2]
  rw [stackc_apply, db_apply]

theorem outB_next (X : Block.In Ideal) (a : FVec Ideal S8x128x1 .f32) (h : Fin 8) (r : Fin 128) :
    Block.outB X (k0_pay10 a) (ix3 h r 0) = a (ix3 h r 0) + Spec.db (chunk X) h r := by
  pointwise [Block.outB, k0_pay10]
  rw [stackc_apply, db_apply]

theorem outG_first (X : Block.In Ideal) (h : Fin 8) (d : Fin 128) :
    Block.outG X (k0_pay11 (k0_pay3 (F := Ideal))) (ix2 0 (lane h d)) = Spec.dg (chunk X) h d := by
  pointwise [Block.outG, k0_pay11, k0_pay3]
  rw [line_apply, dg_apply]

theorem outG_next (X : Block.In Ideal) (a : FVec Ideal S1x1024 .f32) (h : Fin 8) (d : Fin 128) :
    Block.outG X (k0_pay11 a) (ix2 0 (lane h d)) = a (ix2 0 (lane h d)) + Spec.dg (chunk X) h d := by
  pointwise [Block.outG, k0_pay11]
  rw [line_apply, dg_apply]

theorem outL_first (X : Block.In Ideal) (h : Fin 8) (d : Fin 128) :
    Block.outL X (k0_pay12 (k0_pay4 (F := Ideal))) (ix2 0 (lane h d)) = Spec.dl (chunk X) h d := by
  pointwise [Block.outL, k0_pay12, k0_pay4]
  rw [line_apply, dl_apply]

theorem outL_next (X : Block.In Ideal) (a : FVec Ideal S1x1024 .f32) (h : Fin 8) (d : Fin 128) :
    Block.outL X (k0_pay12 a) (ix2 0 (lane h d)) = a (ix2 0 (lane h d)) + Spec.dl (chunk X) h d := by
  pointwise [Block.outL, k0_pay12]
  rw [line_apply, dl_apply]

/-- The head a lane belongs to, and the place within the head. -/
def hd (k : Fin 1024) : Fin 8 := ⟨k.val / 128, by omega⟩
def pl (k : Fin 1024) : Fin 128 := ⟨k.val % 128, by omega⟩

theorem lane_hd (k : Fin 1024) : lane (hd k) (pl k) = k := Fin.ext (by simp only [lane, hd, pl]; omega)
theorem hd_lane (h : Fin 8) (d : Fin 128) : hd (lane h d) = h := Fin.ext (by simp only [lane, hd]; omega)
theorem pl_lane (h : Fin 8) (d : Fin 128) : pl (lane h d) = d := Fin.ext (by simp only [lane, pl]; omega)

/-- The accumulated gradient of the mixing weights. -/
theorem arr_w (c : Dev nD) : (dats m 0 c).arrAt 8 cfg0.N =
    fun j : S8x128x128.Idx => ∑ t, Spec.dw (pchunk m c t) (j 0) (j 1) (j 2) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun t (j : S8x128x128.Idx) => Spec.dw (pchunk m c t) (j 0) (j 1) (j 2)) (fun t h j => ?_) (fun t h j => ?_) (le_of_eq N_0) t0_15 rfl j]
  · simp
  · rw [first_w m c t h]
    obtain ⟨h', r, d, rfl⟩ : ∃ (h' : Fin 8) (r : Fin 128) (d : Fin 128), j = ix3 h' r d := ⟨j 0, j 1, j 2, by funext k; match k with | 0 => rfl | 1 => rfl | 2 => rfl⟩
    exact (outW_first _ h' r d).trans (zero_add _).symm
  · rw [next_w m c t h]
    obtain ⟨h', r, d, rfl⟩ : ∃ (h' : Fin 8) (r : Fin 128) (d : Fin 128), j = ix3 h' r d := ⟨j 0, j 1, j 2, by funext k; match k with | 0 => rfl | 1 => rfl | 2 => rfl⟩
    exact outW_next _ _ h' r d

/-- The accumulated gradient of the mixing offsets. -/
theorem arr_b (c : Dev nD) : (dats m 0 c).arrAt 9 cfg0.N =
    fun j : S8x128x1.Idx => ∑ t, Spec.db (pchunk m c t) (j 0) (j 1) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t (j : S8x128x1.Idx) => Spec.db (pchunk m c t) (j 0) (j 1)) (fun t h j => ?_) (fun t h j => ?_) (le_of_eq N_0) t0_15 rfl j]
  · simp
  · rw [first_b m c t h]
    obtain ⟨h', r, rfl⟩ : ∃ (h' : Fin 8) (r : Fin 128), j = ix3 h' r 0 := ⟨j 0, j 1, by funext k; match k with | 0 => rfl | 1 => rfl | 2 => exact Subsingleton.elim (α := Fin 1) _ _⟩
    exact (outB_first _ h' r).trans (zero_add _).symm
  · rw [next_b m c t h]
    obtain ⟨h', r, rfl⟩ : ∃ (h' : Fin 8) (r : Fin 128), j = ix3 h' r 0 := ⟨j 0, j 1, by funext k; match k with | 0 => rfl | 1 => rfl | 2 => exact Subsingleton.elim (α := Fin 1) _ _⟩
    exact outB_next _ _ h' r

/-- The accumulated gradient of the normalisation's gain. -/
theorem arr_g (c : Dev nD) : (dats m 0 c).arrAt 10 cfg0.N =
    fun j : S1x1024.Idx => ∑ t, Spec.dg (pchunk m c t) (hd (j 1)) (pl (j 1)) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun t (j : S1x1024.Idx) => Spec.dg (pchunk m c t) (hd (j 1)) (pl (j 1))) (fun t h j => ?_) (fun t h j => ?_) (le_of_eq N_0) t0_15 rfl j]
  · simp
  · rw [first_g m c t h]
    obtain ⟨k, rfl⟩ : ∃ k : Fin 1024, j = ix2 0 (lane (hd k) (pl k)) := ⟨j 1, by funext k; match k with | 0 => exact Subsingleton.elim (α := Fin 1) _ _ | 1 => exact (lane_hd (j 1)).symm⟩
    show _ = _ + Spec.dg (pchunk m c t) (hd (lane (hd k) (pl k))) (pl (lane (hd k) (pl k)))
    rw [hd_lane, pl_lane]
    exact (outG_first _ (hd k) (pl k)).trans (zero_add _).symm
  · rw [next_g m c t h]
    obtain ⟨k, rfl⟩ : ∃ k : Fin 1024, j = ix2 0 (lane (hd k) (pl k)) := ⟨j 1, by funext k; match k with | 0 => exact Subsingleton.elim (α := Fin 1) _ _ | 1 => exact (lane_hd (j 1)).symm⟩
    show _ = _ + Spec.dg (pchunk m c t) (hd (lane (hd k) (pl k))) (pl (lane (hd k) (pl k)))
    rw [hd_lane, pl_lane]
    exact outG_next _ _ (hd k) (pl k)

/-- The accumulated gradient of the normalisation's offset. -/
theorem arr_l (c : Dev nD) : (dats m 0 c).arrAt 11 cfg0.N =
    fun j : S1x1024.Idx => ∑ t, Spec.dl (pchunk m c t) (hd (j 1)) (pl (j 1)) := by
  refine (dats m 0 c).arrAt_eq_of_after_last 11 t0_15 (by decide +kernel) _ fun j => ?_
  blk_simp
  rw [after0_11, Pipeline.eq_sum_fin_of_reset_step_apply_last (fun n h => (outsAt0 m c n h).2.2.2.2) 16 (fun _ => 0)
    (fun t (j : S1x1024.Idx) => Spec.dl (pchunk m c t) (hd (j 1)) (pl (j 1))) (fun t h j => ?_) (fun t h j => ?_) (le_of_eq N_0) t0_15 rfl j]
  · simp
  · rw [first_l m c t h]
    obtain ⟨k, rfl⟩ : ∃ k : Fin 1024, j = ix2 0 (lane (hd k) (pl k)) := ⟨j 1, by funext k; match k with | 0 => exact Subsingleton.elim (α := Fin 1) _ _ | 1 => exact (lane_hd (j 1)).symm⟩
    show _ = _ + Spec.dl (pchunk m c t) (hd (lane (hd k) (pl k))) (pl (lane (hd k) (pl k)))
    rw [hd_lane, pl_lane]
    exact (outL_first _ (hd k) (pl k)).trans (zero_add _).symm
  · rw [next_l m c t h]
    obtain ⟨k, rfl⟩ : ∃ k : Fin 1024, j = ix2 0 (lane (hd k) (pl k)) := ⟨j 1, by funext k; match k with | 0 => exact Subsingleton.elim (α := Fin 1) _ _ | 1 => exact (lane_hd (j 1)).symm⟩
    show _ = _ + Spec.dl (pchunk m c t) (hd (lane (hd k) (pl k))) (pl (lane (hd k) (pl k)))
    rw [hd_lane, pl_lane]
    exact outL_next _ _ (hd k) (pl k)

theorem index7 : ∀ t : Fin cfg0.N, win0_7.index t = ![t.val, 0] :=
  (by decide +kernel : ∀ t : Fin grid0.N, win0_7.index t = ![t.val, 0])
theorem flush7 : ∀ t : Fin cfg0.N, (cfg0.win 7).flush t = true :=
  (by decide +kernel : ∀ t : Fin grid0.N, win0_7.flush t = true)

theorem pt_lt (t : Fin cfg0.N) : t.val < 16 := lt_of_lt_of_eq t.isLt N_0

/-- Point `t` leaves its block in rows 128 t to 128 t + 127 of the first 2048 columns. -/
theorem arr_block (c : Dev nD) (t : Fin cfg0.N) (r : Fin 128) (k : Fin 2048) :
    (dats m 0 c).arrAt 7 cfg0.N (ix2 (⟨t.val * 128 + r.val, by have := pt_lt t; omega⟩ : Fin 2048) (⟨k.val, by omega⟩ : Fin 6144))
      = Block.outX (Xin m c t) (ix2 r k) := by
  have h := congrFun (Value.blocks7 m c t (flush7 t)) (ix2 r k)
  rw [Value.flushed7, out_x] at h
  refine Eq.trans (congrArg _ ?_) h
  blk_ext [index7 t]

/-- The other columns keep what the array held. -/
theorem arr_rest (c : Dev nD) (r : Fin 2048) (k : Fin 6144) (hk : 2048 ≤ k.val) :
    (dats m 0 c).arrAt 7 cfg0.N (ix2 r k) = m ((c : Thread nD τ).loc main_arg6) (ix2 r k) := by
  rw [Value.entry7 m c _ fun t _ => by mem_blk [index7 t]; rintro ⟨-, -, hm⟩; exact absurd hm (not_lt.mpr hk)]
  show Gen.V m c main_v3_0 (ix2 r k) = _
  entry_read
  rfl

end Cert.Arrays

end
-- ==== Proof.Sums.lean ====
/- Sums over an axis that is a product of smaller ones, and sums over several axes of an array at once. -/
module

public import Idealize.ShloMosaic.PureOps.Ideal.Laws
public import Idealize.ShloMosaic.Lib.Pointwise

@[expose] public section

noncomputable section

namespace Cert.Sums

open Idealize.ShloMosaic

/-- Lane `d` of head `h` among the 1024. -/
abbrev lane (h : Fin 8) (d : Fin 128) : Fin 1024 := ⟨h.val * 128 + d.val, by omega⟩

/-- Row `t` of chunk `n` among the 2048. -/
abbrev row (n : Fin 16) (t : Fin 128) : Fin 2048 := ⟨n.val * 128 + t.val, by omega⟩

theorem sum_lanes (f : Fin 1024 → EReal) : ∑ j, f j = ∑ h, ∑ d, f (lane h d) := by
  rw [← Fintype.sum_prod_type', ← Equiv.sum_comp (finProdFinEquiv (m := 8) (n := 128))]
  refine Finset.sum_congr rfl fun p _ => congrArg f (Fin.ext ?_)
  simp [finProdFinEquiv]; omega

theorem sum_rows (f : Fin 2048 → EReal) : ∑ j, f j = ∑ n, ∑ t, f (row n t) := by
  rw [← Fintype.sum_prod_type', ← Equiv.sum_comp (finProdFinEquiv (m := 16) (n := 128))]
  refine Finset.sum_congr rfl fun p _ => congrArg f (Fin.ext ?_)
  simp [finProdFinEquiv]; omega

/-- A host sum over several axes is the initial value plus the sum over any list of the indices that drop to `j`. -/
theorem reduce_eq {s t : Shape} {axes : List (Fin s.rank)} (h : s.ReducesTo axes t) (x : s.Idx → EReal) (c : EReal) (j : t.Idx)
    {κ : Type} [Fintype κ] (e : κ → s.Idx) (hinj : Function.Injective e) (hfib : ∀ i, h.drop i = j ↔ ∃ k, e k = i) :
    Ideal.hostReduceAdd h x c j = c + ∑ k, x (e k) := by
  refine congrArg (c + ·) ?_
  symm
  refine Finset.sum_bij (fun k _ => e k) (fun k _ => ?_) (fun a _ b _ hab => hinj hab) (fun i hi => ?_) (fun _ _ => rfl)
  · exact Finset.mem_filter.2 ⟨Finset.mem_univ _, (hfib _).2 ⟨k, rfl⟩⟩
  · obtain ⟨k, hk⟩ := (hfib i).1 (Finset.mem_filter.1 hi).2
    exact ⟨k, Finset.mem_univ _, hk⟩

end Cert.Sums

end
-- ==== Proof.RefValue.lean ====
/- What the reference computes, operation by operation, at the index of chunk `n`, row `t`, head `h` and position `d`:
   the chunk's plain formulas. -/
module

public import proofs.«01_k».proof.Proof.Gen.ReferenceIdeal.Read
public import proofs.«01_k».proof.Proof.Spec
public import proofs.«01_k».proof.Proof.Sums
public import Idealize.ShloMosaic.Lib.WordCmp

@[expose] public section

set_option maxRecDepth 16384

noncomputable section

namespace Cert.RefValue

open Cert.ReferenceIdeal Cert.ReferenceIdeal.Gen Cert.ReferenceIdeal.Read Cert.Sums Idealize.ShloMosaic

/-- The arrays the reference reads. -/
structure Args where
  x0 : (⟨S2048x6144, .f32⟩ : BufTy).Contents (Elt Ideal)
  x1 : (⟨S8x128x128, .f32⟩ : BufTy).Contents (Elt Ideal)
  x2 : (⟨S8x128, .f32⟩ : BufTy).Contents (Elt Ideal)
  x3 : (⟨S1024, .f32⟩ : BufTy).Contents (Elt Ideal)
  x4 : (⟨S1024, .f32⟩ : BufTy).Contents (Elt Ideal)
  x5 : (⟨S2x2048x1024, .bf16⟩ : BufTy).Contents (Elt Ideal)

variable (A : Args) (n : Fin 16)

/-- Chunk `n` of the arrays. -/
def chunk : Spec.In where
  u h t d := A.x0 (ix2 (row n t) ⟨h.val * 128 + d.val, by omega⟩)
  v h t d := A.x0 (ix2 (row n t) ⟨1024 + (h.val * 128 + d.val), by omega⟩)
  w h t s := A.x1 (ix3 h t s)
  b h t := A.x2 (ix2 h t)
  g h d := A.x3 (ix1 (lane h d))
  l h d := A.x4 (ix1 (lane h d))
  dy h t d := A.x5 (ix3 0 (row n t) (lane h d))

theorem row_div (t : Fin 128) (p) : (⟨(n.val * 128 + t.val) / 128, p⟩ : Fin 16) = n := Fin.ext (by show _ / 128 = _; omega)
theorem row_mod (t : Fin 128) (p) : (⟨(n.val * 128 + t.val) % 128, p⟩ : Fin 128) = t := Fin.ext (by show _ % 128 = _; omega)
theorem lane_div (h : Fin 8) (d : Fin 128) (p) : (⟨(h.val * 128 + d.val) / 128, p⟩ : Fin 8) = h := Fin.ext (by show _ / 128 = _; omega)
theorem lane_mod (h : Fin 8) (d : Fin 128) (p) : (⟨(h.val * 128 + d.val) % 128, p⟩ : Fin 128) = d := Fin.ext (by show _ % 128 = _; omega)

/-- The printed activation is the plain one: the complementary error function of the negated argument. -/
theorem act_eq (x : EReal) :
    Ideal.ofBits .f32 0x3F000000#32 * x * Ideal.erfc (-x * Ideal.ofBits .f32 0x3F3504F3#32) = Spec.act x := by
  rw [neg_mul, Ideal.erfc_neg]; rfl

theorem v13 (t : Fin 128) (h : Fin 8) (d : Fin 128) :
    val_main_v13 A.x0 (ix3 0 (row n t) (lane h d)) = Spec.act ((chunk A n).u h t d) := by
  rw [← act_eq]
  pointwise [val_main_v13, val_main_v9, val_main_v8, val_main_v7, val_main_v6, val_main_v5, val_main_v4, val_main_v2, val_main_v0, val_main_cst, val_main_cst_0]
  rfl

theorem v23 (t : Fin 128) (h : Fin 8) (d : Fin 128) :
    val_main_v23 A.x0 (ix3 0 (row n t) (lane h d)) = Spec.va (chunk A n) h t d := by
  rw [Spec.va, ← act_eq]
  pointwise [val_main_v23, val_main_v19, val_main_v18, val_main_v17, val_main_v16, val_main_v15, val_main_v14, val_main_v3, val_main_v1, val_main_cst_1, val_main_cst_2]
  rfl

theorem v27 (t : Fin 128) : val_main_v27 A.x0 (ix3 0 (row n t) 0) = Spec.mu (chunk A n) t := by
  pointwise [val_main_v27, val_main_v25, val_main_v24, val_main_v26, val_main_cst_3, val_main_cst_4]
  simp only [zero_add, sum_lanes, v23]
  rfl

theorem v38 (t : Fin 128) (h : Fin 8) (d : Fin 128) :
    val_main_v38 A.x0 (ix3 0 (row n t) (lane h d)) = Spec.dev (chunk A n) h t d := by
  pointwise [val_main_v38, val_main_v37]
  rw [v23, v27]; rfl

theorem v29 (t : Fin 128) (h : Fin 8) (d : Fin 128) :
    val_main_v29 A.x0 (ix3 0 (row n t) (lane h d)) = Spec.dev (chunk A n) h t d := by
  pointwise [val_main_v29, val_main_v28]
  rw [v23, v27]; rfl

theorem v40 (t : Fin 128) : val_main_v40 A.x0 (ix3 0 (row n t) 0) = Spec.var (chunk A n) t := by
  pointwise [val_main_v40, val_main_v39, val_main_v36, val_main_v35, val_main_v34, val_main_v33, val_main_v30, val_main_cst_6, val_main_cst_7, val_main_cst_8]
  simp only [zero_add, sum_lanes, v29]
  rfl

theorem v41 (t : Fin 128) : val_main_v41 A.x0 (ix3 0 (row n t) 0) = Spec.rs (chunk A n) t := by
  pointwise [val_main_v41]
  rw [v40]; rfl

theorem v44 (t : Fin 128) : val_main_v44 A.x0 (ix3 0 (row n t) 0) =
    Spec.cMinusHalf * Ideal.div (Spec.rs (chunk A n) t) (Spec.var (chunk A n) t) := by
  pointwise [val_main_v44, val_main_v43, val_main_v42, val_main_cst_9]
  rw [v41, v40]; rfl

theorem v46 (t : Fin 128) (h : Fin 8) (d : Fin 128) :
    val_main_v46 A.x0 (ix3 0 (row n t) (lane h d)) = Spec.nrm (chunk A n) h t d := by
  pointwise [val_main_v46, val_main_v45]
  rw [v38, v41]; rfl

theorem v52 (t : Fin 128) (h : Fin 8) (d : Fin 128) :
    val_main_v52 A.x0 A.x3 A.x4 (ix3 0 (row n t) (lane h d)) = Spec.vn (chunk A n) h t d := by
  pointwise [val_main_v52, val_main_v51, val_main_v50, val_main_v49, val_main_v48, val_main_v47]
  rw [v46]; rfl

theorem v53 (t : Fin 128) (h : Fin 8) (d : Fin 128) :
    val_main_v53 A.x0 A.x3 A.x4 (ix5 0 n t h d) = Spec.vn (chunk A n) h t d := by
  rw [← v52]
  pointwise [val_main_v53]

/-- The mask: the bit of whether the row is not before the column. -/
theorem v56_1 (h : Fin 8) (t s : Fin 128) (a b : EReal) :
    Scalar.select (val_main_v56_1 (F := Ideal) (ix3 h t s)) a b = if s.val ≤ t.val then a else b := by
  pointwise [val_main_v56_1, val_main_v55, val_main_v54, val_main_c, val_main_call0_v5, val_main_call0_c_0, val_main_call0_v4, val_main_call0_v3, val_main_call0_v2, val_main_call0_v1, val_main_call0_v0, val_main_call0_c]
  rw [show IntOp.addi (BitVec.ofNat 32 t.val) 0#32 = BitVec.ofNat 32 t.val from BitVec.add_zero _,
    WordCmp.cmpi_sge_ofNat (by omega) (by omega)]
  by_cases hle : s.val ≤ t.val
  · simp [hle, Scalar.select]
  · simp [hle, Scalar.select]

theorem v56 (h : Fin 8) (t s : Fin 128) : val_main_v56_0 A.x1 (ix3 h t s) = Spec.wm (chunk A n) h t s := by
  pointwise [val_main_v56_0, val_main_call1_v2, val_main_call1_v0, val_main_c_10]
  rw [v56_1, show (FloatOps.sitofp .f32 0#32 : Ideal .f32) = 0 from (Ideal.scalar_sitofp_def (φ := .f32) 0#32).trans (by simp)]
  rfl

theorem v62 (t : Fin 128) (h : Fin 8) (d : Fin 128) :
    val_main_v62 A.x0 A.x1 A.x2 A.x3 A.x4 (ix5 0 n t h d) = Spec.mixed (chunk A n) h t d := by
  pointwise [val_main_v62, val_main_v61, val_main_v60, val_main_v59, val_main_v58, val_main_v57]
  simp only [v53, v56 A n, mul_comm (Spec.vn _ _ _ _)]
  rfl

theorem v71 (t : Fin 128) (h : Fin 8) (d : Fin 128) :
    val_main_v71 A.x5 (ix5 0 n t h d) = (chunk A n).dy h t d := by
  pointwise [val_main_v71, val_main_v70, val_main_v69, val_main_v68, val_main_v67]
  rfl

theorem v72 (t : Fin 128) (h : Fin 8) (d : Fin 128) :
    val_main_v72 A.x0 A.x5 (ix5 0 n t h d) = Spec.dm (chunk A n) h t d := by
  pointwise [val_main_v72, val_main_v63]
  rw [v13, v71]; rfl

theorem v74 (t : Fin 128) (h : Fin 8) (d : Fin 128) :
    val_main_v74 A.x0 A.x1 A.x2 A.x3 A.x4 A.x5 (ix3 0 (row n t) (lane h d)) =
      (chunk A n).dy h t d * Spec.mixed (chunk A n) h t d := by
  rw [← v71, ← v62]
  pointwise [val_main_v74, val_main_v73]
  simp only [row_div, row_mod, lane_div, lane_mod]

theorem v79 (t : Fin 128) (h : Fin 8) (d : Fin 128) :
    val_main_v79 A.x0 A.x5 (ix5 h 0 n d t) = Spec.dm (chunk A n) h t d := by
  rw [← v72]
  pointwise [val_main_v79]

theorem v84 (t : Fin 128) (h : Fin 8) (d : Fin 128) :
    val_main_v84 A.x0 A.x1 A.x5 (ix3 0 (row n t) (lane h d)) = Spec.dvn (chunk A n) h t d := by
  have key : val_main_v82 A.x0 A.x1 A.x5 (ix5 0 n t h d) = Spec.dvn (chunk A n) h t d := by
    pointwise [val_main_v82, val_main_v81]
    simp only [v79, v56 A n, mul_comm (Spec.dm _ _ _ _)]
    rfl
  rw [← key]
  pointwise [val_main_v84]
  simp only [row_div, row_mod, lane_div, lane_mod]

theorem v92 (t : Fin 128) (h : Fin 8) (d : Fin 128) :
    val_main_v92 A.x0 A.x1 A.x3 A.x5 (ix3 0 (row n t) (lane h d)) = Spec.q (chunk A n) h t d := by
  pointwise [val_main_v92, val_main_v91, val_main_v47]
  rw [v84]; rfl

theorem v98 (t : Fin 128) (h : Fin 8) (d : Fin 128) :
    val_main_v98 A.x0 A.x1 A.x3 A.x5 (ix3 0 (row n t) (lane h d)) = Spec.p (chunk A n) h t d := by
  pointwise [val_main_v98, val_main_v97]
  rw [v92, v41]; rfl

theorem v104 (t : Fin 128) :
    val_main_v104 A.x0 A.x1 A.x3 A.x5 (ix3 0 (row n t) 0) = Spec.dvar (chunk A n) t := by
  pointwise [val_main_v104, val_main_v103, val_main_v99, val_main_v96, val_main_v95, val_main_v94, val_main_cst_17, val_main_cst_19]
  simp only [zero_add, sum_lanes, v38, v92, v44]
  rfl

/-- A sum over two axes of size one is the element itself. -/
theorem reduce_rows (x : S1x2048x1.Idx → EReal) (c : EReal) (i : Fin 2048) :
    Ideal.hostReduceAdd reducesTo_S1x2048x1_S2048_d0_2 x c (ix1 i) = c + x (ix3 0 i 0) := by
  rw [reduce_eq (κ := Unit) _ x c _ (fun _ => ix3 0 i 0) (fun _ _ _ => rfl) fun j => ?_]
  · simp
  · constructor
    · intro e
      refine ⟨(), funext fun a => Fin.ext ?_⟩
      match a with
      | ⟨0, _⟩ => have : (j 0).val < 1 := (j 0).isLt; show 0 = (j 0).val; omega
      | ⟨1, _⟩ => exact (congrArg Fin.val (congrFun e 0)).symm
      | ⟨2, _⟩ => have : (j 2).val < 1 := (j 2).isLt; show 0 = (j 2).val; omega
    · rintro ⟨k, rfl⟩
      exact funext fun b => match b with | ⟨0, _⟩ => rfl

theorem reduce_lanes (x : S1x1x1024.Idx → EReal) (c : EReal) (i : Fin 1024) :
    Ideal.hostReduceAdd reducesTo_S1x1x1024_S1024_d0_1 x c (ix1 i) = c + x (ix3 0 0 i) := by
  rw [reduce_eq (κ := Unit) _ x c _ (fun _ => ix3 0 0 i) (fun _ _ _ => rfl) fun j => ?_]
  · simp
  · constructor
    · intro e
      refine ⟨(), funext fun a => Fin.ext ?_⟩
      match a with
      | ⟨0, _⟩ => have : (j 0).val < 1 := (j 0).isLt; show 0 = (j 0).val; omega
      | ⟨1, _⟩ => have : (j 1).val < 1 := (j 1).isLt; show 0 = (j 1).val; omega
      | ⟨2, _⟩ => exact (congrArg Fin.val (congrFun e 0)).symm
    · rintro ⟨k, rfl⟩
      exact funext fun b => match b with | ⟨0, _⟩ => rfl

theorem reduce_cols (x : S1x1x128x8x1.Idx → EReal) (c : EReal) (t : Fin 128) (h : Fin 8) :
    Ideal.hostReduceAdd reducesTo_S1x1x128x8x1_S128x8_d0_1_4 x c (ix2 t h) = c + x (ix5 0 0 t h 0) := by
  rw [reduce_eq (κ := Unit) _ x c _ (fun _ => ix5 0 0 t h 0) (fun _ _ _ => rfl) fun j => ?_]
  · simp
  · constructor
    · intro e
      refine ⟨(), funext fun a => Fin.ext ?_⟩
      match a with
      | ⟨0, _⟩ => have : (j 0).val < 1 := (j 0).isLt; show 0 = (j 0).val; omega
      | ⟨1, _⟩ => have : (j 1).val < 1 := (j 1).isLt; show 0 = (j 1).val; omega
      | ⟨2, _⟩ => exact (congrArg Fin.val (congrFun e 0)).symm
      | ⟨3, _⟩ => exact (congrArg Fin.val (congrFun e 1)).symm
      | ⟨4, _⟩ => have : (j 4).val < 1 := (j 4).isLt; show 0 = (j 4).val; omega
    · rintro ⟨k, rfl⟩
      exact funext fun b => match b with | ⟨0, _⟩ => rfl | ⟨1, _⟩ => rfl

/-- The sum over the chunks and the positions at once. -/
theorem reduce_chunks (x : S1x16x128x8x128.Idx → EReal) (c : EReal) (t : Fin 128) (h : Fin 8) :
    Ideal.hostReduceAdd reducesTo_S1x16x128x8x128_S1x128x8_d1_4 x c (ix3 0 t h) = c + ∑ n, ∑ d, x (ix5 0 n t h d) := by
  rw [← Fintype.sum_prod_type', reduce_eq (κ := Fin 16 × Fin 128) _ x c _ (fun k => ix5 0 k.1 t h k.2)
    (fun a b e => Prod.ext (congrFun e 1) (congrFun e 4)) fun j => ?_]
  · constructor
    · intro e
      refine ⟨(j 1, j 4), funext fun a => Fin.ext ?_⟩
      match a with
      | ⟨0, _⟩ => have : (j 0).val < 1 := (j 0).isLt; show 0 = (j 0).val; omega
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      exact funext fun b => match b with | ⟨0, _⟩ => rfl | ⟨1, _⟩ => rfl | ⟨2, _⟩ => rfl

theorem v108 (t : Fin 128) (h : Fin 8) (d : Fin 128) :
    val_main_v108 A.x0 A.x1 A.x3 A.x5 (ix3 0 (row n t) (lane h d)) = Spec.e (chunk A n) h t d := by
  pointwise [val_main_v108, val_main_v107, val_main_v106, val_main_v105, val_main_v32, val_main_v31, val_main_cst_5, val_main_cst_20]
  rw [reduce_rows, v104, v29, zero_add]; rfl

theorem v116 (t : Fin 128) :
    val_main_v116 A.x0 A.x1 A.x3 A.x5 (ix1 (row n t)) = Spec.dmu (chunk A n) t := by
  pointwise [val_main_v116, val_main_cst_23]
  rw [reduce_rows, zero_add]
  pointwise [val_main_v115, val_main_v114, val_main_v113, val_main_v102, val_main_v101, val_main_v100, val_main_v111, val_main_v110, val_main_v109,
    val_main_cst_18, val_main_cst_21, val_main_cst_22]
  simp only [zero_add, sum_lanes, v98, v108]
  rfl

theorem v119 (t : Fin 128) (h : Fin 8) (d : Fin 128) :
    val_main_v119 A.x0 A.x1 A.x3 A.x5 (ix3 0 (row n t) (lane h d)) = Spec.dva (chunk A n) h t d := by
  pointwise [val_main_v119, val_main_v118, val_main_v117, val_main_v112]
  rw [v98, v108, v116]; rfl

/-- The negated constant. -/
theorem minus_bell : Ideal.ofBits .f32 0xBF906EBB#32 = -Spec.cBell := by
  simp [Spec.cBell, Ideal.ofBits, Ideal.ieee, -EReal.coe_mul]

/-- The printed derivative of the activation is the plain one. -/
theorem actT_eq (x y : EReal) :
    -(Ideal.ofBits .f32 0xBF906EBB#32 * (Ideal.ofBits .f32 0x3F000000#32 * x * y) *
        Ideal.exp (-(-x * Ideal.ofBits .f32 0x3F3504F3#32 * (-x * Ideal.ofBits .f32 0x3F3504F3#32))) * Ideal.ofBits .f32 0x3F3504F3#32) +
      Ideal.ofBits .f32 0x3F000000#32 * (y * Ideal.erfc (-x * Ideal.ofBits .f32 0x3F3504F3#32)) = Spec.actT x y := by
  rw [minus_bell]
  simp only [neg_mul, mul_neg, neg_neg, Ideal.erfc_neg]
  rfl

theorem v130 (t : Fin 128) (h : Fin 8) (d : Fin 128) :
    val_main_v130 A.x0 A.x1 A.x3 A.x5 (ix3 0 (row n t) (lane h d)) = Spec.dv (chunk A n) h t d := by
  rw [Spec.dv, ← actT_eq, ← v119]
  pointwise [val_main_v130, val_main_v129, val_main_v128, val_main_v127, val_main_v126, val_main_v125, val_main_v124, val_main_v123, val_main_v122, val_main_v121, val_main_v120,
    val_main_v22, val_main_v21, val_main_v20, val_main_v19, val_main_v18, val_main_v17, val_main_v16, val_main_v15, val_main_v14, val_main_v3, val_main_v1,
    val_main_cst_1, val_main_cst_2, val_main_cst_24, val_main_cst_25, val_main_cst_26]
  rfl

theorem v141 (t : Fin 128) (h : Fin 8) (d : Fin 128) :
    val_main_v141 A.x0 A.x1 A.x2 A.x3 A.x4 A.x5 (ix3 0 (row n t) (lane h d)) = Spec.du (chunk A n) h t d := by
  rw [Spec.du, ← actT_eq, ← v74]
  pointwise [val_main_v141, val_main_v140, val_main_v139, val_main_v138, val_main_v137, val_main_v136, val_main_v135, val_main_v134, val_main_v133, val_main_v132, val_main_v131,
    val_main_v12, val_main_v11, val_main_v10, val_main_v9, val_main_v8, val_main_v7, val_main_v6, val_main_v5, val_main_v4, val_main_v2, val_main_v0,
    val_main_cst, val_main_cst_0, val_main_cst_27, val_main_cst_28, val_main_cst_29]
  rfl

/-! ## The five results -/

theorem res_u (t : Fin 128) (h : Fin 8) (d : Fin 128) :
    val_main_v144 A.x0 A.x1 A.x2 A.x3 A.x4 A.x5 (ix2 (row n t) (lane h d)) = Spec.du (chunk A n) h t d := by
  rw [← v141]
  pointwise [val_main_v144, val_main_v143, val_main_cst_31]
  simp

theorem res_v (t : Fin 128) (h : Fin 8) (d : Fin 128) :
    val_main_v145 A.x0 A.x1 A.x3 A.x5 (ix2 (row n t) (lane h d)) = Spec.dv (chunk A n) h t d := by
  rw [← v130]
  pointwise [val_main_v145, val_main_v142, val_main_cst_30]
  simp

theorem res_b (h : Fin 8) (t : Fin 128) :
    val_main_v148 A.x0 A.x5 (ix3 h t 0) = ∑ n, Spec.db (chunk A n) h t := by
  pointwise [val_main_v148, val_main_v78, val_main_v77, val_main_cst_12]
  rw [reduce_cols, zero_add]
  pointwise [val_main_v76, val_main_v75, val_main_cst_11]
  rw [reduce_chunks, zero_add]
  simp only [v72]
  rfl

theorem res_g (h : Fin 8) (d : Fin 128) :
    val_main_v149 A.x0 A.x1 A.x5 (ix2 0 (lane h d)) = ∑ n, Spec.dg (chunk A n) h d := by
  pointwise [val_main_v149, val_main_v93, val_main_cst_16]
  rw [reduce_lanes, zero_add]
  pointwise [val_main_v90, val_main_v89, val_main_v88, val_main_cst_15]
  simp only [zero_add, sum_rows, v46, v84]
  rfl

theorem res_l (h : Fin 8) (d : Fin 128) :
    val_main_v150 A.x0 A.x1 A.x5 (ix2 0 (lane h d)) = ∑ n, Spec.dl (chunk A n) h d := by
  pointwise [val_main_v150, val_main_v87, val_main_cst_14]
  rw [reduce_lanes, zero_add]
  pointwise [val_main_v86, val_main_v85, val_main_cst_13]
  simp only [zero_add, sum_rows, v84]
  rfl

/-- The product that sums over chunks and positions: its dimension numbers. -/
abbrev dims := dot_S8x1x16x128x128_S1x16x128x8x128_S8x128x128_123_014_4_2_0_3

/-- The index of chunk `n` and position `d` in the summed axes. -/
def cidx (k : Fin 16 × Fin 128) : dims.contr.Idx := fun a => match a with
  | ⟨0, _⟩ => ⟨0, Nat.one_pos⟩
  | ⟨1, _⟩ => ⟨k.1.val, k.1.isLt⟩
  | ⟨2, _⟩ => ⟨k.2.val, k.2.isLt⟩
  | ⟨k + 3, hk⟩ => absurd (show k + 3 < 3 from hk) (by omega)

theorem cidx_bij : Function.Bijective cidx := by
  constructor
  · intro a b e
    exact Prod.ext (Fin.ext (congrArg Fin.val (congrFun e (⟨1, by decide⟩ : Fin dims.contr.rank))))
      (Fin.ext (congrArg Fin.val (congrFun e (⟨2, by decide⟩ : Fin dims.contr.rank))))
  · intro q
    refine ⟨((⟨(q ⟨1, by decide⟩).val, (q ⟨1, by decide⟩).isLt⟩ : Fin 16), (⟨(q ⟨2, by decide⟩).val, (q ⟨2, by decide⟩).isLt⟩ : Fin 128)), funext fun a => Fin.ext ?_⟩
    match a with
    | ⟨0, h0⟩ => have : (q ⟨0, h0⟩).val < 1 := (q ⟨0, h0⟩).isLt; show 0 = (q ⟨0, h0⟩).val; omega
    | ⟨1, _⟩ => rfl
    | ⟨2, _⟩ => rfl
    | ⟨k + 3, hk⟩ => exact absurd (show k + 3 < 3 from hk) (by omega)

theorem lhs_cidx (h : Fin 8) (t s : Fin 128) (k : Fin 16 × Fin 128) : dims.lhsIdx (ix3 h t s) (cidx k) = ix5 h 0 k.1 k.2 t :=
  funext fun a => Fin.ext (match a with | ⟨0, _⟩ => rfl | ⟨1, _⟩ => rfl | ⟨2, _⟩ => rfl | ⟨3, _⟩ => rfl | ⟨4, _⟩ => rfl)

theorem rhs_cidx (h : Fin 8) (t s : Fin 128) (k : Fin 16 × Fin 128) : dims.rhsIdx (ix3 h t s) (cidx k) = ix5 0 k.1 s h k.2 :=
  funext fun a => Fin.ext (match a with | ⟨0, _⟩ => rfl | ⟨1, _⟩ => rfl | ⟨2, _⟩ => rfl | ⟨3, _⟩ => rfl | ⟨4, _⟩ => rfl)

theorem v80 (h : Fin 8) (t s : Fin 128) :
    val_main_v80 A.x0 A.x3 A.x4 A.x5 (ix3 h t s) = ∑ n, Spec.dwAll (chunk A n) h t s := by
  pointwise [val_main_v80]
  show 0 + ∑ q : dims.contr.Idx, _ = _
  rw [zero_add, ← Fintype.sum_bijective cidx cidx_bij _ _ fun _ => rfl, Fintype.sum_prod_type]
  simp only [lhs_cidx, rhs_cidx, v79, v53]
  rfl

theorem res_w (h : Fin 8) (t s : Fin 128) :
    val_main_v83 A.x0 A.x3 A.x4 A.x5 (ix3 h t s) = ∑ n, Spec.dw (chunk A n) h t s := by
  pointwise [val_main_v83, val_main_call2_v0, val_main_call2_cst]
  rw [v56_1, v80]
  by_cases hle : s.val ≤ t.val
  · simp only [hle, Spec.dw, if_true]
  · simp only [hle, Spec.dw, if_false, Finset.sum_const_zero]

end Cert.RefValue

end
-- ==== Proof.Chunks.lean ====
/- The chunk a grid point works on is the reference's chunk of the same number. -/
module

public import proofs.«01_k».proof.Proof.Arrays
public import proofs.«01_k».proof.Proof.RefValue

@[expose] public section

set_option maxRecDepth 16384
set_option maxHeartbeats 1000000

noncomputable section

namespace Cert.Chunks

open Cert.KernelIdeal Cert.KernelIdeal.Gen Cert.Points Cert.BlockValue Cert.Arrays Idealize.ShloMosaic Idealize.ShloMosaic.TcCoe Idealize.SL.Sem

variable (m : (ℓ : Loc nD τ sig) → Buf (Elt Ideal) ℓ)

/-- The arguments as the reference reads them. -/
def args (c : Dev nD) : RefValue.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- The grid point as a number below 16. -/
def num (t : Fin cfg0.N) : Fin 16 := ⟨t.val, pt_lt t⟩

/-- Where each input window's block lies. -/
theorem idx : ∀ t : Fin cfg0.N, win0_0.index t = ![t.val, 0] ∧ win0_1.index t = ![t.val, 1] ∧ win0_2.index t = ![0, 0, 0] ∧ win0_3.index t = ![0, 0, 0]
    ∧ win0_4.index t = ![0, 0] ∧ win0_5.index t = ![0, 0] ∧ win0_6.index t = ![0, t.val, 0] :=
  (by decide +kernel : ∀ t : Fin grid0.N, win0_0.index t = ![t.val, 0] ∧ win0_1.index t = ![t.val, 1] ∧ win0_2.index t = ![0, 0, 0] ∧ win0_3.index t = ![0, 0, 0]
    ∧ win0_4.index t = ![0, 0] ∧ win0_5.index t = ![0, 0] ∧ win0_6.index t = ![0, t.val, 0])

theorem u_eq (c : Dev nD) (t : Fin cfg0.N) (h : Fin 8) (r d : Fin 128) : (pchunk m c t).u h r d = (RefValue.chunk (args m c) (num t)).u h r d := by
  show iblk m c 0 t (ix2 r (lane h d)) = m ((c : Thread nD τ).loc main_arg0) (ix2 (Sums.row (num t) r) _)
  blk_ext [iblk, V, idx t, lane, Sums.row, num]

theorem v_eq (c : Dev nD) (t : Fin cfg0.N) (h : Fin 8) (r d : Fin 128) : (pchunk m c t).v h r d = (RefValue.chunk (args m c) (num t)).v h r d := by
  show iblk m c 1 t (ix2 r (lane h d)) = m ((c : Thread nD τ).loc main_arg0) (ix2 (Sums.row (num t) r) _)
  blk_ext [iblk, V, idx t, lane, Sums.row, num]

theorem w_eq (c : Dev nD) (t : Fin cfg0.N) (h : Fin 8) (r d : Fin 128) : (pchunk m c t).w h r d = (RefValue.chunk (args m c) (num t)).w h r d := by
  show iblk m c 2 t (ix3 h r d) = m ((c : Thread nD τ).loc main_arg1) (ix3 h r d)
  blk_ext [iblk, V, idx t]

theorem b_eq (c : Dev nD) (t : Fin cfg0.N) (h : Fin 8) (r : Fin 128) : (pchunk m c t).b h r = (RefValue.chunk (args m c) (num t)).b h r := by
  show k0_pay5 (iblk m c 3 t) (ix3 h r 0) = m ((c : Thread nD τ).loc main_arg2) (ix2 h r)
  pointwise [k0_pay5]
  have e : iblk m c 3 t (ix3 h r 0) = Gen.V m c main_v0 (ix3 h r 0) := by blk_ext [iblk, idx t]
  rw [e]; entry_read; pointwise

theorem g_eq (c : Dev nD) (t : Fin cfg0.N) (h : Fin 8) (d : Fin 128) : (pchunk m c t).g h d = (RefValue.chunk (args m c) (num t)).g h d := by
  show k0_pay6 (iblk m c 4 t) (ix2 0 (lane h d)) = m ((c : Thread nD τ).loc main_arg3) (ix1 (Sums.lane h d))
  pointwise [k0_pay6]
  have e : iblk m c 4 t (ix2 0 (lane h d)) = Gen.V m c main_v1 (ix2 0 (lane h d)) := by blk_ext [iblk, idx t]
  rw [e]; entry_read; pointwise; rfl

theorem l_eq (c : Dev nD) (t : Fin cfg0.N) (h : Fin 8) (d : Fin 128) : (pchunk m c t).l h d = (RefValue.chunk (args m c) (num t)).l h d := by
  show k0_pay7 (iblk m c 5 t) (ix2 0 (lane h d)) = m ((c : Thread nD τ).loc main_arg4) (ix1 (Sums.lane h d))
  pointwise [k0_pay7]
  have e : iblk m c 5 t (ix2 0 (lane h d)) = Gen.V m c main_v2 (ix2 0 (lane h d)) := by blk_ext [iblk, idx t]
  rw [e]; entry_read; pointwise; rfl

theorem dy_eq (c : Dev nD) (t : Fin cfg0.N) (h : Fin 8) (r d : Fin 128) : (pchunk m c t).dy h r d = (RefValue.chunk (args m c) (num t)).dy h r d := by
  show k0_pay8 (iblk m c 6 t) (ix2 r (lane h d)) = m ((c : Thread nD τ).loc main_arg5) (ix3 0 (Sums.row (num t) r) (Sums.lane h d))
  pointwise [k0_pay8]
  blk_ext [iblk, V, idx t, lane, Sums.lane, Sums.row, num]

theorem chunk_eq (c : Dev nD) (t : Fin cfg0.N) : pchunk m c t = RefValue.chunk (args m c) (num t) := by
  have e : ∀ X Y : Spec.In, X.u = Y.u → X.v = Y.v → X.w = Y.w → X.dy = Y.dy → X.b = Y.b → X.g = Y.g → X.l = Y.l → X = Y := by
    rintro ⟨⟩ ⟨⟩ rfl rfl rfl rfl rfl rfl rfl; rfl
  refine e _ _ ?_ ?_ ?_ ?_ ?_ ?_ ?_
  · funext h r d; exact u_eq m c t h r d
  · funext h r d; exact v_eq m c t h r d
  · funext h r d; exact w_eq m c t h r d
  · funext h r d; exact dy_eq m c t h r d
  · funext h r; exact b_eq m c t h r
  · funext h d; exact g_eq m c t h d
  · funext h d; exact l_eq m c t h d

/-- A sum over the grid points is the sum over the chunks. -/
theorem sum_points (f : Fin 16 → EReal) : ∑ t : Fin cfg0.N, f (num t) = ∑ n, f n :=
  Fintype.sum_equiv (finCongr N_0) _ _ fun _ => rfl

end Cert.Chunks

end
-- ==== Proof.Equation.lean ====
/- The arrays the kernel leaves are the reference's results. -/
module

public import proofs.«01_k».proof.Proof.Chunks

@[expose] public section

set_option maxRecDepth 16384
set_option maxHeartbeats 1000000

noncomputable section

namespace Cert.Equation

open Cert.KernelIdeal Cert.KernelIdeal.Gen Cert.Points Cert.Arrays Cert.Chunks Idealize.ShloMosaic Idealize.ShloMosaic.TcCoe Idealize.SL.Sem
open Cert.ReferenceIdeal.Read

variable (m : (ℓ : Loc nD τ sig) → Buf (Elt Ideal) ℓ) (c : Dev nD)

theorem eq_w : (dats m 0 c).arrAt 8 cfg0.N = val_main_v83 (args m c).x0 (args m c).x3 (args m c).x4 (args m c).x5 := by
  rw [arr_w]
  funext j
  obtain ⟨h, t, s, rfl⟩ : ∃ (h : Fin 8) (t s : Fin 128), j = ix3 h t s := ⟨j 0, j 1, j 2, by funext k; match k with | 0 => rfl | 1 => rfl | 2 => rfl⟩
  simp only [chunk_eq]
  exact (sum_points fun n => Spec.dw (RefValue.chunk (args m c) n) h t s).trans (RefValue.res_w (args m c) h t s).symm

theorem eq_b : (dats m 0 c).arrAt 9 cfg0.N = val_main_v148 (args m c).x0 (args m c).x5 := by
  rw [arr_b]
  funext j
  obtain ⟨h, t, rfl⟩ : ∃ (h : Fin 8) (t : Fin 128), j = ix3 h t 0 :=
    ⟨j 0, j 1, by funext k; match k with | 0 => rfl | 1 => rfl | 2 => exact Subsingleton.elim (α := Fin 1) _ _⟩
  simp only [chunk_eq]
  exact (sum_points fun n => Spec.db (RefValue.chunk (args m c) n) h t).trans (RefValue.res_b (args m c) h t).symm

theorem eq_g : (dats m 0 c).arrAt 10 cfg0.N = val_main_v149 (args m c).x0 (args m c).x1 (args m c).x5 := by
  rw [arr_g]
  funext j
  obtain ⟨k, rfl⟩ : ∃ k : Fin 1024, j = ix2 0 k := ⟨j 1, by funext k; match k with | 0 => exact Subsingleton.elim (α := Fin 1) _ _ | 1 => rfl⟩
  simp only [chunk_eq]
  refine (sum_points fun n => Spec.dg (RefValue.chunk (args m c) n) (hd k) (pl k)).trans ((RefValue.res_g (args m c) (hd k) (pl k)).symm.trans ?_)
  exact congrArg (fun k => val_main_v149 (args m c).x0 (args m c).x1 (args m c).x5 (ix2 0 k)) (lane_hd k)

theorem eq_l : (dats m 0 c).arrAt 11 cfg0.N = val_main_v150 (args m c).x0 (args m c).x1 (args m c).x5 := by
  rw [arr_l]
  funext j
  obtain ⟨k, rfl⟩ : ∃ k : Fin 1024, j = ix2 0 k := ⟨j 1, by funext k; match k with | 0 => exact Subsingleton.elim (α := Fin 1) _ _ | 1 => rfl⟩
  simp only [chunk_eq]
  refine (sum_points fun n => Spec.dl (RefValue.chunk (args m c) n) (hd k) (pl k)).trans ((RefValue.res_l (args m c) (hd k) (pl k)).symm.trans ?_)
  exact congrArg (fun k => val_main_v150 (args m c).x0 (args m c).x1 (args m c).x5 (ix2 0 k)) (lane_hd k)

/-! ## The array of the branches' gradients -/

/-- The grid point of a row, and the row's place in it. -/
def pt (r : Fin 2048) : Fin cfg0.N := ⟨r.val / 128, by rw [show cfg0.N = 16 from N_0]; omega⟩
def at' (r : Fin 2048) : Fin 128 := ⟨r.val % 128, by omega⟩

theorem row_pt (r : Fin 2048) : Sums.row (num (pt r)) (at' r) = r := Fin.ext (by simp only [Sums.row, num, pt, at']; omega)

/-- The kernel's entry at row `r` and one of the first 2048 columns. -/
theorem arr_cell (r : Fin 2048) (k : Fin 2048) :
    (dats m 0 c).arrAt 7 cfg0.N (ix2 r (⟨k.val, by omega⟩ : Fin 6144)) = Block.outX (Xin m c (pt r)) (ix2 (at' r) k) := by
  rw [← arr_block m c (pt r) (at' r) k]
  exact congrArg (fun q => (dats m 0 c).arrAt 7 cfg0.N (ix2 q (⟨k.val, by omega⟩ : Fin 6144))) (row_pt r).symm

theorem eq_x : (dats m 0 c).arrAt 7 cfg0.N
    = val_main_v147 (args m c).x0 (args m c).x1 (args m c).x2 (args m c).x3 (args m c).x4 (args m c).x5 (m ((c : Thread nD τ).loc main_arg6)) := by
  funext j
  obtain ⟨r, k, rfl⟩ : ∃ (r : Fin 2048) (k : Fin 6144), j = ix2 r k := ⟨j 0, j 1, by funext k; match k with | 0 => rfl | 1 => rfl⟩
  by_cases h1 : k.val < 1024
  · have hu := RefValue.res_u (args m c) (num (pt r)) (at' r) (hd ⟨k.val, h1⟩) (pl ⟨k.val, h1⟩)
    have hl : Sums.lane (hd ⟨k.val, h1⟩) (pl ⟨k.val, h1⟩) = ⟨k.val, h1⟩ := lane_hd _
    rw [row_pt, hl] at hu
    refine (arr_cell m c r ⟨k.val, by omega⟩).trans ((BlockValue.pack_left _ _ (hd ⟨k.val, h1⟩) (at' r) (pl ⟨k.val, h1⟩) _ ?_).trans ?_)
    · simp only [hd, pl]; omega
    · rw [BlockValue.du_apply]
      show Spec.du (pchunk m c (pt r)) _ _ _ = _
      rw [chunk_eq, ← hu]
      pointwise [val_main_v147]
      rw [dif_pos h1]
  by_cases h2 : k.val < 2048
  · have hb : k.val - 1024 < 1024 := by omega
    have hu := RefValue.res_v (args m c) (num (pt r)) (at' r) (hd ⟨k.val - 1024, hb⟩) (pl ⟨k.val - 1024, hb⟩)
    have hl : Sums.lane (hd ⟨k.val - 1024, hb⟩) (pl ⟨k.val - 1024, hb⟩) = ⟨k.val - 1024, hb⟩ := lane_hd _
    rw [row_pt, hl] at hu
    refine (arr_cell m c r ⟨k.val, by omega⟩).trans ((BlockValue.pack_right _ _ (hd ⟨k.val - 1024, hb⟩) (at' r) (pl ⟨k.val - 1024, hb⟩) _ ?_).trans ?_)
    · simp only [hd, pl]; omega
    · rw [BlockValue.dv_apply]
      show Spec.dv (pchunk m c (pt r)) _ _ _ = _
      rw [chunk_eq, ← hu]
      pointwise [val_main_v147]
      rw [dif_neg h1, dif_pos hb]
  · rw [arr_rest m c r k (by omega)]
    pointwise [val_main_v147, val_main_v146]
    rw [dif_neg h1, dif_neg (show ¬k.val - 1024 < 1024 by omega)]
    exact congrArg (fun q => m ((c : Thread nD τ).loc main_arg6) (ix2 r q)) (Fin.ext (by show k.val = 2048 + (k.val - 1024 - 1024); omega))

end Cert.Equation

end
-- ==== Proof.Curve.lean ====
/- The logistic curve on the extended reals, and the two groupings of the gate's gradient: equal where the factor in front
   is a real number. -/
module

public import Idealize.ShloMosaic.PureOps.Ideal.Laws

@[expose] public section

noncomputable section

namespace Cert.P2

open Idealize.ShloMosaic

/-- The logistic curve. -/
abbrev sg (x : EReal) : EReal := Ideal.div 1 (1 + Ideal.exp (-x))

theorem exp_bot : Ideal.exp ⊥ = 0 := rfl

theorem exp_top : Ideal.exp ⊤ = ⊤ := rfl

theorem sg_top : sg ⊤ = 1 := by
  simp [sg, Ideal.div, exp_bot]

theorem sg_bot : sg ⊥ = 0 := by
  have h : (1 : EReal) + ⊤ = ⊤ := rfl
  simp [sg, Ideal.div, exp_top, h]

theorem sg_coe (r : ℝ) : sg (r : EReal) = ((1 / (1 + Real.exp (-r)) : ℝ) : EReal) := by
  have h : (1 + Real.exp (-r)) ≠ 0 := by positivity
  have e : (1 : EReal) + Ideal.exp (-(r : EReal)) = ((1 + Real.exp (-r) : ℝ) : EReal) := by
    rw [← EReal.coe_neg]; rfl
  unfold sg
  rw [e, Ideal.div, if_neg (by exact_mod_cast h), one_mul, ← EReal.coe_inv, one_div]

/-- The gate's gradient in the two forms, a finite factor in front. -/
theorem gate (c : ℝ) (x : EReal) :
    ((c : EReal) * sg x) * (1 + x * (1 - sg x)) = (c : EReal) * sg x + (x * (c : EReal)) * (sg x * (1 - sg x)) := by
  induction x with
  | bot => simp [sg_bot]
  | top =>
    have h : (1 : EReal) - 1 = 0 := by rw [← EReal.coe_one, ← EReal.coe_sub, sub_self, EReal.coe_zero]
    rw [sg_top, h]; simp
  | coe r =>
    rw [sg_coe]
    norm_cast
    ring

theorem sum_finite {ι : Type} (s : Finset ι) (f g : ι → EReal) (hf : ∀ i, ∃ r : ℝ, f i = r) (hg : ∀ i, ∃ r : ℝ, g i = r) :
    ∃ r : ℝ, ∑ i ∈ s, f i * g i = r := by
  classical
  induction s using Finset.induction_on with
  | empty => exact ⟨0, by simp⟩
  | insert i s hi ih =>
    obtain ⟨r, hr⟩ := ih
    obtain ⟨a, ha⟩ := hf i
    obtain ⟨b, hb⟩ := hg i
    exact ⟨a * b + r, by rw [Finset.sum_insert hi, hr, ha, hb, EReal.coe_add, EReal.coe_mul]⟩

theorem real_of (x : EReal) (h : max x (-x) < ⊤) : ∃ r : ℝ, x = r := by
  induction x with
  | bot => simp at h
  | top => simp at h
  | coe r => exact ⟨r, rfl⟩

theorem inf : (FloatOps.ofBits .f32 0x7F800000#32 : Ideal .f32) = (⊤ : EReal) := by
  show Ideal.ieee 8 23 (0x7F800000#32 : BitVec 32) = ⊤
  simp [Ideal.ieee]

end Cert.P2

end
-- ==== Proof.P2.lean ====
/- The gradient of the feed-forward block's hidden values: what the kernel leaves for the gate half and for the other half,
   and the reference's, at an element; equal where the incoming gradient, the weights and the other half are finite. -/
module

public import proofs.«01_k».proof.Proof.Gen.Kernel2Ideal.Frame
public import proofs.«01_k».proof.Proof.Gen.Reference2Ideal.Read
public import proofs.«01_k».proof.Pre_finite
public import proofs.«01_k».proof.Proof.Curve
public import proofs.«01_k».proof.Proof.Gen.Kernel2Ideal
public import Idealize.ShloMosaic.Lib.Pipeline.ValueKit

@[expose] public section

set_option maxRecDepth 16384
set_option maxHeartbeats 1000000

noncomputable section

namespace Cert.P2

open Cert.Kernel2Ideal Cert.Kernel2Ideal.Gen Idealize.ShloMosaic Idealize.ShloMosaic.TcCoe Idealize.SL.Sem
open Idealize.ShloMosaic.Pipeline (Dat)
open Cert.Reference2Ideal.Read

/-- The gradient of the activations at a row and a column. -/
abbrev da (x0 : FVec Ideal S1x5632x2048 .bf16) (x1 : FVec Ideal S2048x2048 .bf16) (r : Fin 2048) (l : Fin 5632) : EReal :=
  ∑ q : Fin 2048, x1 (ix2 r q) * x0 (ix3 0 l q)

/-- The gate half as the kernel groups it. -/
abbrev kg (d g u : EReal) : EReal := ((d * u) * sg g) * (1 + g * (1 - sg g))

/-- The other half as the kernel groups it. -/
abbrev ku (d g : EReal) : EReal := (d * g) * sg g

theorem pay5 (x0 : Vec Ideal S1x512x2048 .bf16) (x1 : Vec Ideal S1x1408x2048 .bf16) (x2 x3 : Vec Ideal S1x512x1408 .bf16) (y) :
    k0_pay5 (F := Ideal) x0 x1 x2 x3 y
      = kg (∑ q : Fin 2048, x0 (ix3 0 (y 2) q) * x1 (ix3 0 (y 3) q)) (x2 (ix3 0 (y 2) (y 3))) (x3 (ix3 0 (y 2) (y 3))) := by
  pointwise [k0_pay5, k0_pay2, k0_pay3, k0_pay4]
  rw [zero_sub]

theorem pay6 (x0 : Vec Ideal S1x512x2048 .bf16) (x1 : Vec Ideal S1x1408x2048 .bf16) (x2 : Vec Ideal S1x512x1408 .bf16) (y) :
    k0_pay1 (k0_pay6 (F := Ideal) x0 x1 x2) y
      = ku (∑ q : Fin 2048, x0 (ix3 0 (y 2) q) * x1 (ix3 0 (y 3) q)) (x2 (ix3 0 (y 2) (y 3))) := by
  pointwise [k0_pay1, k0_pay6, k0_pay2, k0_pay3, k0_pay4]
  rw [zero_sub]

/-- The gate half at a block of columns, a row and a column of the block. -/
abbrev outG (x0 : FVec Ideal S1x5632x2048 .bf16) (x1 : FVec Ideal S2048x2048 .bf16) (x2 : FVec Ideal S8x2048x1408 .bf16)
    (b : Fin 4) (r : Fin 2048) (k : Fin 1408) : EReal :=
  kg (da x0 x1 r ⟨b.val * 1408 + k.val, by omega⟩) (x2 (ix3 (⟨b.val, by omega⟩ : Fin 8) r k)) (x2 (ix3 (⟨b.val + 4, by omega⟩ : Fin 8) r k))

/-- The other half. -/
abbrev outU (x0 : FVec Ideal S1x5632x2048 .bf16) (x1 : FVec Ideal S2048x2048 .bf16) (x2 : FVec Ideal S8x2048x1408 .bf16)
    (b : Fin 4) (r : Fin 2048) (k : Fin 1408) : EReal :=
  ku (da x0 x1 r ⟨b.val * 1408 + k.val, by omega⟩) (x2 (ix3 (⟨b.val, by omega⟩ : Fin 8) r k))

/-- Both halves. -/
def out (x0 : FVec Ideal S1x5632x2048 .bf16) (x1 : FVec Ideal S2048x2048 .bf16) (x2 : FVec Ideal S8x2048x1408 .bf16) : FVec Ideal S2x4x2048x1408 .bf16 :=
  fun j => if (j 0).val = 0 then outG x0 x1 x2 (j 1) (j 2) (j 3) else outU x0 x1 x2 (j 1) (j 2) (j 3)

theorem out_gate (x0 : FVec Ideal S1x5632x2048 .bf16) (x1 : FVec Ideal S2048x2048 .bf16) (x2 : FVec Ideal S8x2048x1408 .bf16) (j) (h : (j 0).val = 0) :
    out x0 x1 x2 j = outG x0 x1 x2 (j 1) (j 2) (j 3) := if_pos h

theorem out_other (x0 : FVec Ideal S1x5632x2048 .bf16) (x1 : FVec Ideal S2048x2048 .bf16) (x2 : FVec Ideal S8x2048x1408 .bf16) (j) (h : ¬(j 0).val = 0) :
    out x0 x1 x2 j = outU x0 x1 x2 (j 1) (j 2) (j 3) := if_neg h

theorem mid (x0 : FVec Ideal S1x5632x2048 .bf16) (x1 : FVec Ideal S2048x2048 .bf16) (x2 : FVec Ideal S8x2048x1408 .bf16) (r : Fin 2048) (l : Fin 5632) :
    val_main_v14 (F := Ideal) x0 x1 x2 (ix2 r l)
      = (da x0 x1 r l * x2 (ix3 (⟨(5632 + l.val) / 1408, by omega⟩ : Fin 8) r (⟨(5632 + l.val) % 1408, by omega⟩ : Fin 1408)))
          * sg (x2 (ix3 (⟨l.val / 1408, by omega⟩ : Fin 8) r (⟨l.val % 1408, by omega⟩ : Fin 1408)))
        + (x2 (ix3 (⟨l.val / 1408, by omega⟩ : Fin 8) r (⟨l.val % 1408, by omega⟩ : Fin 1408))
            * (da x0 x1 r l * x2 (ix3 (⟨(5632 + l.val) / 1408, by omega⟩ : Fin 8) r (⟨(5632 + l.val) % 1408, by omega⟩ : Fin 1408))))
          * (sg (x2 (ix3 (⟨l.val / 1408, by omega⟩ : Fin 8) r (⟨l.val % 1408, by omega⟩ : Fin 1408)))
            * (1 - sg (x2 (ix3 (⟨l.val / 1408, by omega⟩ : Fin 8) r (⟨l.val % 1408, by omega⟩ : Fin 1408))))) := by
  pointwise [val_main_v14, val_main_call1_v1, val_main_call1_v2, val_main_call1_v0, val_main_v13, val_main_v11, val_main_v10, val_main_v7_0, val_main_v7_1, val_main_v7_2, val_main_call0_v7, val_main_call0_v6, val_main_call0_cst_1, val_main_call0_v4, val_main_call0_cst_0, val_main_call0_v3, val_main_call0_v2, val_main_call0_cst, val_main_call0_v1, val_main_call0_v0, val_main_v6, val_main_v5, val_main_v4, val_main_v3, val_main_v2, val_main_v1, val_main_v0]

theorem mid2 (x0 : FVec Ideal S1x5632x2048 .bf16) (x1 : FVec Ideal S2048x2048 .bf16) (x2 : FVec Ideal S8x2048x1408 .bf16) (r : Fin 2048) (l : Fin 5632) :
    val_main_v12 (F := Ideal) x0 x1 x2 (ix2 r l)
      = (x2 (ix3 (⟨l.val / 1408, by omega⟩ : Fin 8) r (⟨l.val % 1408, by omega⟩ : Fin 1408))
          * sg (x2 (ix3 (⟨l.val / 1408, by omega⟩ : Fin 8) r (⟨l.val % 1408, by omega⟩ : Fin 1408)))) * da x0 x1 r l := by
  pointwise [val_main_v12, val_main_v11, val_main_v10, val_main_v7_0, val_main_v7_2, val_main_call0_v4, val_main_call0_cst_0, val_main_call0_v3, val_main_call0_v2, val_main_call0_cst, val_main_call0_v1, val_main_call0_v0, val_main_v5, val_main_v4, val_main_v3, val_main_v2, val_main_v1, val_main_v0]

theorem ref_gate (x0 : FVec Ideal S1x5632x2048 .bf16) (x1 : FVec Ideal S2048x2048 .bf16) (x2 : FVec Ideal S8x2048x1408 .bf16) (b : Fin 4) (r : Fin 2048) (k : Fin 1408)
    (hc : ∃ a : ℝ, da x0 x1 r ⟨b.val * 1408 + k.val, by omega⟩ * x2 (ix3 (⟨b.val + 4, by omega⟩ : Fin 8) r k) = a) :
    val_main_v18 (F := Ideal) x0 x1 x2 (ix3 (⟨b.val, by omega⟩ : Fin 8) r k) = outG x0 x1 x2 b r k := by
  obtain ⟨a, ha⟩ := hc
  pointwise [val_main_v18, val_main_v17, val_main_v16]
  pointwise [val_main_v15]
  rw [dif_pos (by omega), mid]
  have e1 : (⟨(b.val * 1408 + k.val) / 1408, by omega⟩ : Fin 8) = ⟨b.val, by omega⟩ := Fin.ext (by show (b.val * 1408 + k.val) / 1408 = b.val; omega)
  have e2 : (⟨(b.val * 1408 + k.val) % 1408, by omega⟩ : Fin 1408) = k := Fin.ext (by show (b.val * 1408 + k.val) % 1408 = k.val; omega)
  have e3 : (⟨(5632 + (b.val * 1408 + k.val)) / 1408, by omega⟩ : Fin 8) = ⟨b.val + 4, by omega⟩ := Fin.ext (by show (5632 + (b.val * 1408 + k.val)) / 1408 = b.val + 4; omega)
  have e4 : (⟨(5632 + (b.val * 1408 + k.val)) % 1408, by omega⟩ : Fin 1408) = k := Fin.ext (by show (5632 + (b.val * 1408 + k.val)) % 1408 = k.val; omega)
  rw [e1, e2, e3, e4]
  unfold outG kg
  rw [ha]
  exact (gate a _).symm

theorem ref_other (x0 : FVec Ideal S1x5632x2048 .bf16) (x1 : FVec Ideal S2048x2048 .bf16) (x2 : FVec Ideal S8x2048x1408 .bf16) (b : Fin 4) (r : Fin 2048) (k : Fin 1408) :
    val_main_v18 (F := Ideal) x0 x1 x2 (ix3 (⟨b.val + 4, by omega⟩ : Fin 8) r k) = outU x0 x1 x2 b r k := by
  pointwise [val_main_v18, val_main_v17, val_main_v16]
  pointwise [val_main_v15]
  rw [dif_neg (by omega), mid2]
  have e0 : (⟨(b.val + 4) * 1408 + k.val - 5632, by omega⟩ : Fin 5632) = ⟨b.val * 1408 + k.val, by omega⟩ := Fin.ext (by show (b.val + 4) * 1408 + k.val - 5632 = b.val * 1408 + k.val; omega)
  rw [e0]
  have e1 : (⟨(b.val * 1408 + k.val) / 1408, by omega⟩ : Fin 8) = ⟨b.val, by omega⟩ := Fin.ext (by show (b.val * 1408 + k.val) / 1408 = b.val; omega)
  have e2 : (⟨(b.val * 1408 + k.val) % 1408, by omega⟩ : Fin 1408) = k := Fin.ext (by show (b.val * 1408 + k.val) % 1408 = k.val; omega)
  rw [e1, e2]
  unfold outU ku
  rw [mul_comm, mul_assoc]

variable (m : (ℓ : Loc nD τ sig) → Buf (Elt Ideal) ℓ) (c : Dev nD)

theorem idx : ∀ t : Fin cfg0.N, win0_0.index t = ![0, t.val / 4, 0] ∧ win0_1.index t = ![0, t.val % 4, 0] ∧ win0_2.index t = ![t.val % 4, t.val / 4, 0]
    ∧ win0_3.index t = ![t.val % 4 + 4, t.val / 4, 0] ∧ win0_4.index t = ![0, t.val % 4, t.val / 4, 0] ∧ t.val < 16 :=
  (by decide +kernel : ∀ t : Fin grid0.N, _)

theorem V_v0 (j : S1x2048x2048.Idx) : V m c main_v0 j = m ((c : Thread nD τ).loc main_arg1) (ix2 (j 1) (j 2)) := by
  unfold V V0
  simp only [hostOps0, List.flatten_cons, List.flatten_nil, List.append_nil]
  after_results
  pointwise []

theorem point (t : Fin cfg0.N) (y) : out0_4 (F := Ideal) (iblk m c 0 t) (iblk m c 1 t) (iblk m c 2 t) (iblk m c 3 t) y
    = out (m ((c : Thread nD τ).loc main_arg0)) (m ((c : Thread nD τ).loc main_arg1)) (m ((c : Thread nD τ).loc main_arg2)) (((cfg0.win 4).blk t).view.emb y) := by
  obtain ⟨i0, i1, i2, i3, i4, ht⟩ := idx t
  frame_out
  canon_tiles x h
  case piece0 =>
    rw [pay6, out_other]
    · unfold outU da ku
      blk_point [iblk, V_main_arg0, V_main_arg2, idx t]
      rw [V_v0]
      blk_point [idx t]
    · blk_simp [i4]
      omega
  case piece1 =>
    rw [pay5, out_gate]
    · unfold outG da kg
      blk_point [iblk, V_main_arg0, V_main_arg2, idx t]
      rw [V_v0]
      blk_point [idx t]
    · blk_simp [i4]
      omega

theorem final : (dats m 0 c).arrAt 4 cfg0.N = out (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

theorem tail : Pipeline.afterTail₀ cfgs (dats m) 0 (V0 m) [hostOps1] c main_v2
    = shapeCast S8x2048x1408 (out (m ((c : Thread nD τ).loc main_arg0)) (m ((c : Thread nD τ).loc main_arg1)) (m ((c : Thread nD τ).loc main_arg2))) shapeCasts_S2x4x2048x1408_S8x2048x1408 := by
  rw [← final m c, ← Dat.withArrays_arrAt (dats m 0 c) sharedIn0 (V0 m c) (A_eq m c) 4]
  unfold Pipeline.afterTail₀
  simp only [hostOps1, List.flatten_cons, List.flatten_nil, List.append_nil]
  after_results
  rfl

variable [Cert.Pre_finite.Facts]

/-- A comparison with infinity that holds makes the value a real number. -/
theorem real (x : EReal) (h : BitVec.ofBool (decide (FloatOps.absf (F := Ideal) (φ := .f32) x < Ideal.ofBits .f32 0x7F800000#32)) = 1#1) : ∃ a : ℝ, x = a := by
  have e : (Ideal.ofBits .f32 0x7F800000#32 : EReal) = ⊤ := inf
  rw [e] at h
  refine real_of x ?_
  by_contra hn
  have : ¬(FloatOps.absf (F := Ideal) (φ := .f32) x : EReal) < ⊤ := hn
  rw [decide_eq_false this] at h
  exact absurd h (by decide)

theorem finite0 (x0 : FVec Ideal S1x5632x2048 .bf16) (x1 : FVec Ideal S2048x2048 .bf16) (x2 : FVec Ideal S8x2048x1408 .bf16)
    (h : (Cert.Pre_finite.fn (F := Ideal) x0 x1 x2).1 = fun _ => 1#1) (j) : ∃ a : ℝ, x0 j = a := by
  have hj := congrFun h j
  revert hj
  pointwise [Cert.Pre_finite.fn]
  exact real _

theorem finite1 (x0 : FVec Ideal S1x5632x2048 .bf16) (x1 : FVec Ideal S2048x2048 .bf16) (x2 : FVec Ideal S8x2048x1408 .bf16)
    (h : (Cert.Pre_finite.fn (F := Ideal) x0 x1 x2).2.1 = fun _ => 1#1) (j) : ∃ a : ℝ, x1 j = a := by
  have hj := congrFun h j
  revert hj
  pointwise [Cert.Pre_finite.fn]
  exact real _

theorem finite2 (x0 : FVec Ideal S1x5632x2048 .bf16) (x1 : FVec Ideal S2048x2048 .bf16) (x2 : FVec Ideal S8x2048x1408 .bf16)
    (h : (Cert.Pre_finite.fn (F := Ideal) x0 x1 x2).2.2 = fun _ => 1#1) (b : Fin 4) (r : Fin 2048) (k : Fin 1408) :
    ∃ a : ℝ, x2 (ix3 (⟨b.val + 4, by omega⟩ : Fin 8) r k) = a := by
  have hj := congrFun h (ix3 b r k)
  revert hj
  pointwise [Cert.Pre_finite.fn]
  have e : (⟨4 + b.val, by omega⟩ : Fin 8) = ⟨b.val + 4, by omega⟩ := Fin.ext (Nat.add_comm _ _)
  rw [e]
  exact real _

theorem eq_gate (x0 : FVec Ideal S1x5632x2048 .bf16) (x1 : FVec Ideal S2048x2048 .bf16) (x2 : FVec Ideal S8x2048x1408 .bf16)
    (h0 : ∀ j, ∃ a : ℝ, x0 j = a) (h1 : ∀ j, ∃ a : ℝ, x1 j = a)
    (h2 : ∀ (b : Fin 4) (r : Fin 2048) (k : Fin 1408), ∃ a : ℝ, x2 (ix3 (⟨b.val + 4, by omega⟩ : Fin 8) r k) = a) (b : Fin 4) (r : Fin 2048) (k : Fin 1408) :
    shapeCast S8x2048x1408 (out x0 x1 x2) shapeCasts_S2x4x2048x1408_S8x2048x1408 (ix3 (⟨b.val, by omega⟩ : Fin 8) r k)
      = val_main_v18 (F := Ideal) x0 x1 x2 (ix3 (⟨b.val, by omega⟩ : Fin 8) r k) := by
  rw [ref_gate]
  · pointwise []
    rw [out_gate _ _ _ _ (by show b.val / 4 = 0; omega)]
    have e : (⟨b.val % 4, by omega⟩ : Fin 4) = b := Fin.ext (by show b.val % 4 = b.val; omega)
    rw [e]
    rfl
  · obtain ⟨u, hu⟩ := h2 b r k
    obtain ⟨d, hd⟩ := sum_finite Finset.univ (fun q => x1 (ix2 r q)) (fun q => x0 (ix3 0 (⟨b.val * 1408 + k.val, by omega⟩ : Fin 5632) q)) (fun q => h1 _) (fun q => h0 _)
    exact ⟨d * u, by unfold da; rw [hd, hu, EReal.coe_mul]⟩

theorem eq_other (x0 : FVec Ideal S1x5632x2048 .bf16) (x1 : FVec Ideal S2048x2048 .bf16) (x2 : FVec Ideal S8x2048x1408 .bf16)
    (b : Fin 4) (r : Fin 2048) (k : Fin 1408) :
    shapeCast S8x2048x1408 (out x0 x1 x2) shapeCasts_S2x4x2048x1408_S8x2048x1408 (ix3 (⟨b.val + 4, by omega⟩ : Fin 8) r k)
      = val_main_v18 (F := Ideal) x0 x1 x2 (ix3 (⟨b.val + 4, by omega⟩ : Fin 8) r k) := by
  rw [ref_other]
  pointwise []
  rw [out_other _ _ _ _ (by show ¬(b.val + 4) / 4 = 0; omega)]
  rfl

theorem eq (x0 : FVec Ideal S1x5632x2048 .bf16) (x1 : FVec Ideal S2048x2048 .bf16) (x2 : FVec Ideal S8x2048x1408 .bf16)
    (h0 : ∀ j, ∃ a : ℝ, x0 j = a) (h1 : ∀ j, ∃ a : ℝ, x1 j = a)
    (h2 : ∀ (b : Fin 4) (r : Fin 2048) (k : Fin 1408), ∃ a : ℝ, x2 (ix3 (⟨b.val + 4, by omega⟩ : Fin 8) r k) = a) :
    shapeCast S8x2048x1408 (out x0 x1 x2) shapeCasts_S2x4x2048x1408_S8x2048x1408 = val_main_v18 (F := Ideal) x0 x1 x2 := by
  funext j
  obtain ⟨b, r, k, rfl⟩ : ∃ (b : Fin 8) (r : Fin 2048) (k : Fin 1408), j = ix3 b r k := ⟨j 0, j 1, j 2, by funext k; match k with | 0 => rfl | 1 => rfl | 2 => rfl⟩
  by_cases hb : b.val < 4
  · exact eq_gate x0 x1 x2 h0 h1 h2 ⟨b.val, hb⟩ r k
  · have h := eq_other x0 x1 x2 ⟨b.val - 4, by omega⟩ r k
    rwa [show (⟨b.val - 4 + 4, by omega⟩ : Fin 8) = b from Fin.ext (by show b.val - 4 + 4 = b.val; omega)] at h

/-- The precondition's shape relations. -/
instance facts : Cert.Pre_finite.Facts where
  slices_S8x2048x1408_S4x2048x1408_4_0_0 := by decide
  bitsLt_bf16_f32 := by decide
  bcast_S_S1x5632x2048 := by decide
  bcast_S_S2048x2048 := by decide
  bcast_S_S4x2048x1408 := by decide

omit [Cert.Pre_finite.Facts] in
/-- The kernel's run: the reshaped array, and the arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v2)
        = shapeCast S8x2048x1408 (out (m ((c.tc : Thread nD τ).loc main_arg0)) (m ((c.tc : Thread nD τ).loc main_arg1)) (m ((c.tc : Thread nD τ).loc main_arg2))) shapeCasts_S2x4x2048x1408_S8x2048x1408
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 (Pipeline.mem_restRefs_of main_v2 (by decide) (by decide))).trans (tail m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 3).trans (((dats m 0 c).arrAt_in 3 rfl _).trans ((A_eq m c 3).trans (V_main_arg2 m c)))⟩) (run_main m ρ)

end Cert.P2

end
-- ==== Proof.P3.lean ====
/- The first feed-forward weight's gradient: each block of columns of the product the kernel leaves is the plain sum over
   the rows of the activations and of the incoming gradient, and so is the reference's. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384
set_option maxHeartbeats 1000000

noncomputable section

namespace Cert.P3

open Cert.Kernel3Ideal Cert.Kernel3Ideal.Gen Idealize.ShloMosaic Idealize.ShloMosaic.TcCoe Idealize.SL.Sem
open Idealize.ShloMosaic.Pipeline (Dat)
open Cert.Reference3Ideal.Read

/-- The product at an element. -/
abbrev prod (x0 : FVec Ideal S2048x2048 .bf16) (x1 : FVec Ideal S8x2048x1408 .bf16) : FVec Ideal S8x2048x1408 .bf16 :=
  fun j => ∑ k : Fin 2048, x0 (ix2 k (j 1)) * x1 (ix3 (j 0) k (j 2))

theorem ref (x0 : FVec Ideal S2048x2048 .bf16) (x1 : FVec Ideal S8x2048x1408 .bf16) : val_main_v10 (F := Ideal) x0 x1 = prod x0 x1 := by
  funext j
  obtain ⟨b, r, k, rfl⟩ : ∃ (b : Fin 8) (r : Fin 2048) (k : Fin 1408), j = ix3 b r k := ⟨j 0, j 1, j 2, by funext k; match k with | 0 => rfl | 1 => rfl | 2 => rfl⟩
  pointwise [val_main_v10, val_main_v9, val_main_v8, val_main_v7, val_main_v6, val_main_v4, val_main_v2, val_main_v1, val_main_v0]
  exact Finset.sum_congr rfl fun q _ => mul_comm _ _

variable (m : (ℓ : Loc nD τ sig) → Buf (Elt Ideal) ℓ) (c : Dev nD)

theorem idx : ∀ t : Fin cfg0.N, win0_0.index t = ![0, 0, t.val / 8] ∧ win0_1.index t = ![t.val % 8, 0, 0] ∧ win0_2.index t = ![t.val % 8, t.val / 8, 0] ∧ t.val < 16 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P3

end
-- ==== Proof.P4.lean ====
/- The gradient of the feed-forward input: the product the kernel leaves, summed over eight blocks of columns, is the plain
   sum over all the columns of the incoming gradient and of the weights, and so is the reference's. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack

@[expose] public section

set_option maxRecDepth 16384
set_option maxHeartbeats 1000000

noncomputable section

namespace Cert.P4

open Cert.Kernel4Ideal Cert.Kernel4Ideal.Gen Idealize.ShloMosaic Idealize.ShloMosaic.TcCoe Idealize.SL.Sem
open Idealize.ShloMosaic.Pipeline (Dat)
open Cert.Reference4Ideal.Read

/-- The product at an element. -/
abbrev prod (x0 : FVec Ideal S8x2048x1408 .bf16) (x1 : FVec Ideal S8x2048x1408 .bf16) : FVec Ideal S1x2048x2048 .bf16 :=
  fun j => ∑ l : Fin 11264, x0 (ix3 (⟨l.val / 1408, by omega⟩ : Fin 8) (j 1) (⟨l.val % 1408, by omega⟩ : Fin 1408)) * x1 (ix3 (⟨l.val / 1408, by omega⟩ : Fin 8) (j 2) (⟨l.val % 1408, by omega⟩ : Fin 1408))

theorem ref (x0 : FVec Ideal S8x2048x1408 .bf16) (x1 : FVec Ideal S8x2048x1408 .bf16) : val_main_v10 (F := Ideal) x0 x1 = prod x0 x1 := by
  funext j
  obtain ⟨r, k, rfl⟩ : ∃ (r k : Fin 2048), j = ix3 0 r k := ⟨j 1, j 2, by funext k; match k with | 0 => exact Subsingleton.elim (α := Fin 1) _ _ | 1 => rfl | 2 => rfl⟩
  pointwise [val_main_v10, val_main_v9, val_main_v8, val_main_v5, val_main_v4, val_main_v3, val_main_v2, val_main_v1, val_main_v0]
  rfl

theorem hzero (j) : k0_pay1 (F := Ideal) j = 0 := by pointwise [k0_pay1]

theorem hpay (acc : FVec Ideal S2048x1024 .f32) (x0 : FVec Ideal S1x2048x1408 .bf16) (x1 : FVec Ideal S1x1024x1408 .bf16) (j) :
    k0_pay2 (F := Ideal) acc x0 x1 j = acc j + ∑ k : Fin 1408, x0 (ix3 0 (j 0) k) * x1 (ix3 0 (j 1) k) := by pointwise [k0_pay2]

theorem hout (a : FVec Ideal S2048x1024 .f32) (j) : k0_pay3 (F := Ideal) a j = a (ix2 (j 1) (j 2)) := by pointwise [k0_pay3]

variable (m : (ℓ : Loc nD τ sig) → Buf (Elt Ideal) ℓ) (c : Dev nD)

theorem idx : ∀ t : Fin cfg0.N, win0_0.index t = ![t.val % 8, 0, 0] ∧ win0_1.index t = ![t.val % 8, t.val / 8, 0] ∧ win0_2.index t = ![0, 0, t.val / 8] ∧ t.val < 16 :=
  (by decide +kernel : ∀ t : Fin grid0.N, _)

theorem first (t : Fin cfg0.N) (h0 : t.val % 8 = 0) : (outsAt0 m c t.val t.isLt).2 = k0_pay2 (k0_pay1 (F := Ideal)) (iblk m c 0 t) (iblk m c 1 t) := by
  rw [outsAt0_A m c t h0 (by omega)]; frame_out

theorem next (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out; rw [Idealize.ShloMosaic.read_unread_whole]
  · rw [outsAt0_B m c t h0 h1]; frame_out; rw [Idealize.ShloMosaic.read_unread_whole]

theorem last (t : Fin cfg0.N) (h1 : t.val % 8 = 7) : (outsAt0 m c t.val t.isLt).1 = k0_pay3 (outsAt0 m c t.val t.isLt).2 := by
  rw [next m c t (by omega), outsAt0_C m c t (by omega) h1]; frame_out; rw [Idealize.ShloMosaic.read_unread_whole]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  blk_simp
  rw [after0_2, last m c t h1, hout]
  rw [Pipeline.eq_sum_fin_of_reset_step_apply_of_flush (fun n h => (outsAt0 m c n h).2) 8 (fun _ => 0) _
    (fun t h j => by rw [first m c t h]; rw [hpay, hzero]) (fun t h j => by rw [next m c t h]; rw [hpay]) t h1 _, zero_add]
  refine Fin.sum_mul_add_congr fun s k hl => ?_
  blk_point [iblk, V, idx t, idx ⟨_, Pipeline.run_point_lt_of_flush t h1 s⟩]

end Cert.P4

end
-- ==== Proof.P5.lean ====
/- The second feed-forward weight's gradient: the product the kernel leaves is the plain sum over the rows of the gated
   activations and of the incoming gradient, and so is the reference's. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384
set_option maxHeartbeats 1000000

noncomputable section

namespace Cert.P5

open Cert.Kernel5Ideal Cert.Kernel5Ideal.Gen Idealize.ShloMosaic Idealize.ShloMosaic.TcCoe Idealize.SL.Sem
open Idealize.ShloMosaic.Pipeline (Dat)
open Cert.Reference5Ideal.Read

/-- The product at an element. -/
abbrev prod (x0 : FVec Ideal S4x2048x1408 .bf16) (x1 : FVec Ideal S2048x2048 .bf16) : FVec Ideal S1x5632x2048 .bf16 :=
  fun j => ∑ k : Fin 2048, x0 (ix3 (⟨(j 1).val / 1408, by have : (j 1).val < 5632 := (j 1).isLt; omega⟩ : Fin 4) k (⟨(j 1).val % 1408, by omega⟩ : Fin 1408)) * x1 (ix2 k (j 2))

theorem ref (x0 : FVec Ideal S4x2048x1408 .bf16) (x1 : FVec Ideal S2048x2048 .bf16) : val_main_v9 (F := Ideal) x0 x1 = prod x0 x1 := by
  funext j
  obtain ⟨r, k, rfl⟩ : ∃ (r : Fin 5632) (k : Fin 2048), j = ix3 0 r k := ⟨j 1, j 2, by funext k; match k with | 0 => exact Subsingleton.elim (α := Fin 1) _ _ | 1 => rfl | 2 => rfl⟩
  pointwise [val_main_v9, val_main_v8, val_main_v7, val_main_v6, val_main_v5, val_main_v2, val_main_v1, val_main_v0]
  exact Finset.sum_congr rfl fun q _ => mul_comm _ _

variable (m : (ℓ : Loc nD τ sig) → Buf (Elt Ideal) ℓ) (c : Dev nD)

theorem idx : ∀ t : Fin cfg0.N, win0_0.index t = ![t.val / 2, 0, 0] ∧ win0_1.index t = ![0, 0, t.val % 2] ∧ win0_2.index t = ![0, t.val / 2, t.val % 2] ∧ t.val < 8 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P5

end
-- ==== Proof.P6.lean ====
/- The first feed-forward product: each block of columns the kernel leaves is the plain sum over the features of the
   activations and of the weights, and so is the reference's. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384
set_option maxHeartbeats 1000000

noncomputable section

namespace Cert.P6

open Cert.Kernel6Ideal Cert.Kernel6Ideal.Gen Idealize.ShloMosaic Idealize.ShloMosaic.TcCoe Idealize.SL.Sem
open Idealize.ShloMosaic.Pipeline (Dat)
open Cert.Reference6Ideal.Read

/-- The product at an element. -/
abbrev prod (x0 : FVec Ideal S2048x2048 .bf16) (x1 : FVec Ideal S8x2048x1408 .bf16) : FVec Ideal S8x2048x1408 .bf16 :=
  fun j => ∑ k : Fin 2048, x0 (ix2 (j 1) k) * x1 (ix3 (j 0) k (j 2))

theorem ref (x0 : FVec Ideal S2048x2048 .bf16) (x1 : FVec Ideal S8x2048x1408 .bf16) : val_main_v7 (F := Ideal) x0 x1 = prod x0 x1 := by
  funext j
  obtain ⟨b, r, k, rfl⟩ : ∃ (b : Fin 8) (r : Fin 2048) (k : Fin 1408), j = ix3 b r k := ⟨j 0, j 1, j 2, by funext k; match k with | 0 => rfl | 1 => rfl | 2 => rfl⟩
  pointwise [val_main_v7, val_main_v6, val_main_v5, val_main_v4, val_main_v3, val_main_v2, val_main_v1, val_main_v0]
  rfl

variable (m : (ℓ : Loc nD τ sig) → Buf (Elt Ideal) ℓ) (c : Dev nD)

theorem idx : ∀ t : Fin cfg0.N, win0_0.index t = ![0, t.val / 8, 0] ∧ win0_1.index t = ![t.val % 8, 0, 0] ∧ win0_2.index t = ![t.val % 8, t.val / 8, 0] ∧ t.val < 16 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P6

end
-- ==== Proof.P7.lean ====
/- The second feed-forward product: what the kernel leaves, summed over four blocks of columns, is the plain sum over all the
   columns of the gated activations and of the weights, and so is the reference's. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack

@[expose] public section

set_option maxRecDepth 16384
set_option maxHeartbeats 1000000

noncomputable section

namespace Cert.P7

open Cert.Kernel7Ideal Cert.Kernel7Ideal.Gen Idealize.ShloMosaic Idealize.ShloMosaic.TcCoe Idealize.SL.Sem
open Idealize.ShloMosaic.Pipeline (Dat)
open Cert.Reference7Ideal.Read

/-- The product at an element. -/
abbrev prod (x0 : FVec Ideal S4x2048x1408 .bf16) (x1 : FVec Ideal S1x5632x2048 .bf16) : FVec Ideal S1x2048x2048 .f32 :=
  fun j => ∑ l : Fin 5632, x0 (ix3 (⟨l.val / 1408, by omega⟩ : Fin 4) (j 1) (⟨l.val % 1408, by omega⟩ : Fin 1408)) * x1 (ix3 0 l (j 2))

theorem ref (x0 : FVec Ideal S4x2048x1408 .bf16) (x1 : FVec Ideal S1x5632x2048 .bf16) : val_main_v6 (F := Ideal) x0 x1 = prod x0 x1 := by
  funext j
  obtain ⟨r, k, rfl⟩ : ∃ (r k : Fin 2048), j = ix3 0 r k := ⟨j 1, j 2, by funext k; match k with | 0 => exact Subsingleton.elim (α := Fin 1) _ _ | 1 => rfl | 2 => rfl⟩
  pointwise [val_main_v6, val_main_v5, val_main_v4, val_main_v3, val_main_v2, val_main_v1, val_main_v0]
  rfl

theorem hzero (j) : k0_pay1 (F := Ideal) j = 0 := by pointwise [k0_pay1]

theorem hpay (acc : FVec Ideal S2048x1024 .f32) (x0 : FVec Ideal S1x2048x1408 .bf16) (x1 : FVec Ideal S1x1408x1024 .bf16) (j) :
    k0_pay2 (F := Ideal) acc x0 x1 j = acc j + ∑ k : Fin 1408, x0 (ix3 0 (j 0) k) * x1 (ix3 0 k (j 1)) := by pointwise [k0_pay2]

theorem hout (a : FVec Ideal S2048x1024 .f32) (j) : k0_pay3 (F := Ideal) a j = a (ix2 (j 1) (j 2)) := by pointwise [k0_pay3]

variable (m : (ℓ : Loc nD τ sig) → Buf (Elt Ideal) ℓ) (c : Dev nD)

theorem idx : ∀ t : Fin cfg0.N, win0_0.index t = ![t.val % 4, 0, 0] ∧ win0_1.index t = ![0, t.val % 4, t.val / 4] ∧ win0_2.index t = ![0, 0, t.val / 4] ∧ t.val < 8 :=
  (by decide +kernel : ∀ t : Fin grid0.N, _)

theorem first (t : Fin cfg0.N) (h0 : t.val % 4 = 0) : (outsAt0 m c t.val t.isLt).2 = k0_pay2 (k0_pay1 (F := Ideal)) (iblk m c 0 t) (iblk m c 1 t) := by
  rw [outsAt0_A m c t h0 (by omega)]; frame_out

theorem next (t : Fin cfg0.N) (h0 : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]; frame_out; rw [Idealize.ShloMosaic.read_unread_whole]
  · rw [outsAt0_B m c t h0 h1]; frame_out; rw [Idealize.ShloMosaic.read_unread_whole]

theorem last (t : Fin cfg0.N) (h1 : t.val % 4 = 3) : (outsAt0 m c t.val t.isLt).1 = k0_pay3 (outsAt0 m c t.val t.isLt).2 := by
  rw [next m c t (by omega), outsAt0_C m c t (by omega) h1]; frame_out; rw [Idealize.ShloMosaic.read_unread_whole]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  blk_simp
  rw [after0_2, last m c t h1, hout]
  rw [Pipeline.eq_sum_fin_of_reset_step_apply_of_flush (fun n h => (outsAt0 m c n h).2) 4 (fun _ => 0) _
    (fun t h j => by rw [first m c t h]; rw [hpay, hzero]) (fun t h j => by rw [next m c t h]; rw [hpay]) t h1 _, zero_add]
  refine Fin.sum_mul_add_congr fun s k hl => ?_
  blk_point [iblk, V, idx t, idx ⟨_, Pipeline.run_point_lt_of_flush t h1 s⟩]

end Cert.P7

end
-- ==== Proof.P8.lean ====
/- The mixer's input product: what the kernel leaves is the plain sum of products, and so is the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384
set_option maxHeartbeats 1000000

noncomputable section

namespace Cert.P8

open Cert.Kernel8Ideal Cert.Kernel8Ideal.Gen Idealize.ShloMosaic Idealize.ShloMosaic.TcCoe Idealize.SL.Sem
open Idealize.ShloMosaic.Pipeline (Dat)
open Cert.Reference8Ideal.Read

/-- The product at an element. -/
abbrev prod (x0 : FVec Ideal S2048x2048 .bf16) (x1 : FVec Ideal S1x6160x2048 .bf16) : FVec Ideal S1x2048x6144 .f32 :=
  fun j => ∑ k : Fin 2048, x0 (ix2 (j 1) k) * x1 (ix3 0 (⟨(j 2).val, by have : (j 2).val < 6144 := (j 2).isLt; omega⟩ : Fin 6160) k)

theorem ref (x0 : FVec Ideal S2048x2048 .bf16) (x1 : FVec Ideal S1x6160x2048 .bf16) : val_main_v6 (F := Ideal) x0 x1 = prod x0 x1 := by
  funext j
  obtain ⟨r, k, rfl⟩ : ∃ (r : Fin 2048) (k : Fin 6144), j = ix3 0 r k := ⟨j 1, j 2, by funext k; match k with | 0 => exact Subsingleton.elim (α := Fin 1) _ _ | 1 => rfl | 2 => rfl⟩
  pointwise [val_main_v6, val_main_v5, val_main_v4, val_main_v3, val_main_v2, val_main_v1, val_main_v0]
  rfl

variable (m : (ℓ : Loc nD τ sig) → Buf (Elt Ideal) ℓ) (c : Dev nD)

theorem idx : ∀ t : Fin cfg0.N, win0_0.index t = ![0, t.val / 6, 0] ∧ win0_1.index t = ![0, t.val % 6, 0] ∧ win0_2.index t = ![0, t.val / 6, t.val % 6] ∧ t.val < 12 :=
  (by decide +kernel : ∀ t : Fin grid0.N, _)

theorem whole (t : Fin cfg0.N) (r : Fin 1024) (k : Fin 2048) : X0_1 m c t (ix3 0 r k)
    = m ((c : Thread nD τ).loc main_arg1) (ix3 0 (⟨1024 * (t.val % 6) + r.val, by omega⟩ : Fin 6160) k) := by
  unfold X0_1 Pipeline.Window.fill
  rw [dif_pos (moved0_1 t _)]
  blk_point [iblk, V, idx t]

theorem point (t : Fin cfg0.N) (y) : k0_pay1 (F := Ideal) (iblk m c 0 t) (X0_1 m c t) y
    = prod (m ((c : Thread nD τ).loc main_arg0)) (m ((c : Thread nD τ).loc main_arg1)) (((cfg0.win 2).blk t).view.emb y) := by
  pointwise [k0_pay1, prod]
  refine Finset.sum_congr rfl fun k _ => ?_
  refine (congrArg (HMul.hMul _) (whole m c t (y 2) k)).trans ?_
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.P8

end
-- ==== Proof.P9.lean ====
/- The mixer's small input product: what the kernel leaves is the plain sum of products, and so is the reference's. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384
set_option maxHeartbeats 1000000

noncomputable section

namespace Cert.P9

open Cert.Kernel9Ideal Cert.Kernel9Ideal.Gen Idealize.ShloMosaic Idealize.ShloMosaic.TcCoe Idealize.SL.Sem
open Idealize.ShloMosaic.Pipeline (Dat)
open Cert.Reference9Ideal.Read

/-- The product at an element. -/
abbrev prod (x0 : FVec Ideal S2048x2048 .bf16) (x1 : FVec Ideal S1x6160x2048 .bf16) : FVec Ideal S1x2048x16 .f32 :=
  fun j => ∑ k : Fin 2048, x0 (ix2 (j 1) k) * x1 (ix3 0 (⟨6144 + (j 2).val, by have : (j 2).val < 16 := (j 2).isLt; omega⟩ : Fin 6160) k)

theorem ref (x0 : FVec Ideal S2048x2048 .bf16) (x1 : FVec Ideal S1x6160x2048 .bf16) : val_main_v6 (F := Ideal) x0 x1 = prod x0 x1 := by
  funext j
  obtain ⟨r, k, rfl⟩ : ∃ (r : Fin 2048) (k : Fin 16), j = ix3 0 r k := ⟨j 1, j 2, by funext k; match k with | 0 => exact Subsingleton.elim (α := Fin 1) _ _ | 1 => rfl | 2 => rfl⟩
  pointwise [val_main_v6, val_main_v5, val_main_v4, val_main_v3, val_main_v2, val_main_v1, val_main_v0]
  rfl

variable (m : (ℓ : Loc nD τ sig) → Buf (Elt Ideal) ℓ) (c : Dev nD)

theorem idx : ∀ t : Fin cfg0.N, win0_0.index t = ![0, t.val, 0] ∧ win0_1.index t = ![0, 384, 0] ∧ win0_2.index t = ![0, t.val, 0] ∧ t.val < 2 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P9

end
-- ==== Proof.P10.lean ====
/- The gradient of the mixer's input: what the kernel leaves, summed over twelve blocks of columns, is the plain sum of products, and so is the reference's. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

@[expose] public section

set_option maxRecDepth 16384
set_option maxHeartbeats 1000000

noncomputable section

namespace Cert.P10

open Cert.Kernel10Ideal Cert.Kernel10Ideal.Gen Idealize.ShloMosaic Idealize.ShloMosaic.TcCoe Idealize.SL.Sem
open Idealize.ShloMosaic.Pipeline (Dat)
open Cert.Reference10Ideal.Read

/-- The product at an element. -/
abbrev prod (x0 : FVec Ideal S2048x6144 .bf16) (x1 : FVec Ideal S1x6160x2048 .bf16) : FVec Ideal S1x2048x2048 .bf16 :=
  fun j => ∑ l : Fin 6144, x0 (ix2 (j 1) l) * x1 (ix3 0 (⟨l.val, by omega⟩ : Fin 6160) (j 2))

theorem ref (x0 : FVec Ideal S2048x6144 .bf16) (x1 : FVec Ideal S1x6160x2048 .bf16) : val_main_v9 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v9, val_main_v8, val_main_v7, val_main_v6, val_main_v4, val_main_v2, val_main_v1, val_main_v0]
  rfl

theorem hzero (j) : k0_pay1 (F := Ideal) j = 0 := by pointwise [k0_pay1]

theorem hpay (acc : FVec Ideal S2048x1024 .f32) (x0 : FVec Ideal S1x2048x512 .bf16) (x1 : FVec Ideal S1x512x1024 .bf16) (j) :
    k0_pay2 (F := Ideal) acc x0 x1 j = acc j + ∑ k : Fin 512, x0 (ix3 0 (j 0) k) * x1 (ix3 0 k (j 1)) := by pointwise [k0_pay2]

theorem hout (a : FVec Ideal S2048x1024 .f32) (j) : k0_pay3 (F := Ideal) a j = a (ix2 (j 1) (j 2)) := by pointwise [k0_pay3]

variable (m : (ℓ : Loc nD τ sig) → Buf (Elt Ideal) ℓ) (c : Dev nD)

theorem idx : ∀ t : Fin cfg0.N, win0_0.index t = ![0, 0, t.val % 12] ∧ win0_1.index t = ![0, t.val % 12, t.val / 12] ∧ win0_2.index t = ![0, 0, t.val / 12] ∧ t.val < 24 :=
  (by decide +kernel : ∀ t : Fin grid0.N, _)

theorem whole (t : Fin cfg0.N) (r : Fin 512) (k : Fin 1024) : X0_1 m c t (ix3 0 r k)
    = m ((c : Thread nD τ).loc main_arg1) (ix3 0 (⟨512 * (t.val % 12) + r.val, by omega⟩ : Fin 6160) (⟨1024 * (t.val / 12) + k.val, by have := (idx t).2.2.2; omega⟩ : Fin 2048)) := by
  unfold X0_1 Pipeline.Window.fill
  rw [dif_pos (moved0_1 t _)]
  blk_point [iblk, V, idx t]

theorem first (t : Fin cfg0.N) (h0 : t.val % 12 = 0) : (outsAt0 m c t.val t.isLt).2 = k0_pay2 (k0_pay1 (F := Ideal)) (iblk m c 0 t) (X0_1 m c t) := by
  rw [outsAt0_A m c t h0 (by omega)]; frame_out

theorem next (t : Fin cfg0.N) (h0 : ¬t.val % 12 = 0) :
    (outsAt0 m c t.val t.isLt).2 = k0_pay2 (outsAt0 m c (t.val - 1) (Nat.lt_of_le_of_lt (Nat.sub_le _ _) t.isLt)).2 (iblk m c 0 t) (X0_1 m c t) := by
  by_cases h1 : t.val % 12 = 11
  · rw [outsAt0_C m c t h0 h1]; frame_out; rw [Idealize.ShloMosaic.read_unread_whole]
  · rw [outsAt0_B m c t h0 h1]; frame_out; rw [Idealize.ShloMosaic.read_unread_whole]

theorem last (t : Fin cfg0.N) (h1 : t.val % 12 = 11) : (outsAt0 m c t.val t.isLt).1 = k0_pay3 (outsAt0 m c t.val t.isLt).2 := by
  rw [next m c t (by omega), outsAt0_C m c t (by omega) h1]; frame_out; rw [Idealize.ShloMosaic.read_unread_whole]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 12 = 11 := (flush0_2 t).mp hf
  blk_simp
  rw [after0_2, last m c t h1, hout]
  rw [Pipeline.eq_sum_fin_of_reset_step_apply_of_flush (fun n h => (outsAt0 m c n h).2) 12 (fun _ => 0) _
    (fun t h j => by rw [first m c t h]; rw [hpay, hzero]) (fun t h j => by rw [next m c t h]; rw [hpay]) t h1 _, zero_add]
  refine Fin.sum_mul_add_congr fun s k hl => ?_
  refine (congrArg (HMul.hMul _) (whole m c _ k (y 2))).trans ?_
  blk_point [iblk, V, idx t, idx ⟨_, Pipeline.run_point_lt_of_flush t h1 s⟩]

end Cert.P10

end
-- ==== Proof.P11.lean ====
/- The gradient of the mixer's input, its small part: what the kernel leaves is the plain sum of products, and so is the reference's. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384
set_option maxHeartbeats 1000000

noncomputable section

namespace Cert.P11

open Cert.Kernel11Ideal Cert.Kernel11Ideal.Gen Idealize.ShloMosaic Idealize.ShloMosaic.TcCoe Idealize.SL.Sem
open Idealize.ShloMosaic.Pipeline (Dat)
open Cert.Reference11Ideal.Read

/-- The product at an element. -/
abbrev prod (x0 : FVec Ideal S2048x16 .f32) (x1 : FVec Ideal S1x6160x2048 .bf16) : FVec Ideal S1x2048x2048 .bf16 :=
  fun j => ∑ k : Fin 16, x0 (ix2 (j 1) k) * x1 (ix3 0 (⟨6144 + k.val, by omega⟩ : Fin 6160) (j 2))

theorem ref (x0 : FVec Ideal S2048x16 .f32) (x1 : FVec Ideal S1x6160x2048 .bf16) : val_main_v8 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v8, val_main_v7, val_main_v6, val_main_v4, val_main_v2, val_main_v1, val_main_v0]
  rfl

variable (m : (ℓ : Loc nD τ sig) → Buf (Elt Ideal) ℓ) (c : Dev nD)

theorem idx : ∀ t : Fin cfg0.N, win0_0.index t = ![0, t.val / 2, 0] ∧ win0_1.index t = ![0, 384, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P11

end
-- ==== Proof.P12.lean ====
/- The mixer's output product: what the kernel leaves, summed over two blocks of columns, is the plain sum of products, and so is the reference's. -/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack

@[expose] public section

set_option maxRecDepth 16384
set_option maxHeartbeats 1000000

noncomputable section

namespace Cert.P12

open Cert.Kernel12Ideal Cert.Kernel12Ideal.Gen Idealize.ShloMosaic Idealize.ShloMosaic.TcCoe Idealize.SL.Sem
open Idealize.ShloMosaic.Pipeline (Dat)
open Cert.Reference12Ideal.Read

/-- The product at an element. -/
abbrev prod (x0 : FVec Ideal S2x2048x1024 .bf16) (x1 : FVec Ideal S1x2048x2048 .bf16) : FVec Ideal S1x2048x2048 .f32 :=
  fun j => ∑ l : Fin 2048, x0 (ix3 (⟨l.val / 1024, by omega⟩ : Fin 2) (j 1) (⟨l.val % 1024, by omega⟩ : Fin 1024)) * x1 (ix3 0 l (j 2))

theorem ref (x0 : FVec Ideal S2x2048x1024 .bf16) (x1 : FVec Ideal S1x2048x2048 .bf16) : val_main_v9 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v9, val_main_v8, val_main_v7, val_main_v6, val_main_v5, val_main_v4, val_main_v3, val_main_v2, val_main_v1, val_main_v0]
  refine Eq.trans ?_ (Fin.sum_univ_add (a := 1024) (b := 1024) (fun l : Fin 2048 => x0 (ix3 (⟨l.val / 1024, by omega⟩ : Fin 2) r (⟨l.val % 1024, by omega⟩ : Fin 1024)) * x1 (ix3 0 l k))).symm
  refine congr (congrArg _ (Finset.sum_congr rfl fun l _ => ?_)) (Finset.sum_congr rfl fun l _ => ?_)
  · refine congr (congrArg _ (congrArg x0 ?_)) rfl
    rw [show (⟨(Fin.castAdd 1024 l).val / 1024, by omega⟩ : Fin 2) = 0 from Fin.ext (by show l.val / 1024 = 0; omega),
      show (⟨(Fin.castAdd 1024 l).val % 1024, by omega⟩ : Fin 1024) = l from Fin.ext (by show l.val % 1024 = l.val; omega)]
  · refine congr (congrArg _ (congrArg x0 ?_)) rfl
    rw [show (⟨(Fin.natAdd 1024 l).val / 1024, by omega⟩ : Fin 2) = 1 from Fin.ext (by show (1024 + l.val) / 1024 = 1; omega),
      show (⟨(Fin.natAdd 1024 l).val % 1024, by omega⟩ : Fin 1024) = l from Fin.ext (by show (1024 + l.val) % 1024 = l.val; omega)]

theorem hzero (j) : k0_pay1 (F := Ideal) j = 0 := by pointwise [k0_pay1]

theorem hpay (acc : FVec Ideal S2048x1024 .f32) (x0 : FVec Ideal S1x2048x1024 .bf16) (x1 : FVec Ideal S1x1024x1024 .bf16) (j) :
    k0_pay2 (F := Ideal) acc x0 x1 j = acc j + ∑ k : Fin 1024, x0 (ix3 0 (j 0) k) * x1 (ix3 0 k (j 1)) := by pointwise [k0_pay2]

theorem hout (a : FVec Ideal S2048x1024 .f32) (j) : k0_pay3 (F := Ideal) a j = a (ix2 (j 1) (j 2)) := by pointwise [k0_pay3]

variable (m : (ℓ : Loc nD τ sig) → Buf (Elt Ideal) ℓ) (c : Dev nD)

theorem idx : ∀ t : Fin cfg0.N, win0_0.index t = ![t.val % 2, 0, 0] ∧ win0_1.index t = ![0, t.val % 2, t.val / 2] ∧ win0_2.index t = ![0, 0, t.val / 2] ∧ t.val < 4 :=
  (by decide +kernel : ∀ t : Fin grid0.N, _)

theorem first (t : Fin cfg0.N) (h0 : t.val % 2 = 0) : (outsAt0 m c t.val t.isLt).2 = k0_pay2 (k0_pay1 (F := Ideal)) (iblk m c 0 t) (iblk m c 1 t) := by
  rw [outsAt0_A m c t h0 (by omega)]; frame_out

theorem next (t : Fin cfg0.N) (h0 : ¬t.val % 2 = 0) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 (by omega)]; frame_out; rw [Idealize.ShloMosaic.read_unread_whole]

theorem last (t : Fin cfg0.N) (h1 : t.val % 2 = 1) : (outsAt0 m c t.val t.isLt).1 = k0_pay3 (outsAt0 m c t.val t.isLt).2 := by
  rw [next m c t (by omega), outsAt0_B m c t (by omega) h1]; frame_out; rw [Idealize.ShloMosaic.read_unread_whole]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp
  rw [after0_2, last m c t h1, hout]
  rw [Pipeline.eq_sum_fin_of_reset_step_apply_of_flush (fun n h => (outsAt0 m c n h).2) 2 (fun _ => 0) _
    (fun t h j => by rw [first m c t h]; rw [hpay, hzero]) (fun t h j => by rw [next m c t h]; rw [hpay]) t h1 _, zero_add]
  refine Fin.sum_mul_add_congr fun s k hl => ?_
  blk_point [iblk, V, idx t, idx ⟨_, Pipeline.run_point_lt_of_flush t h1 s⟩]

end Cert.P12

end
-- ==== Proof.P13.lean ====
/- The gradient of the mixer's output weight: what the kernel leaves is the plain sum of products, and so is the reference's. -/
module

public import proofs.«01_k».proof.Proof.Gen.Kernel13Ideal.Value
public import proofs.«01_k».proof.Proof.Gen.Reference13Ideal.Read
public import Idealize.ShloMosaic.Lib.Pipeline.ValueKit

@[expose] public section

set_option maxRecDepth 16384
set_option maxHeartbeats 1000000

noncomputable section

namespace Cert.P13

open Cert.Kernel13Ideal Cert.Kernel13Ideal.Gen Idealize.ShloMosaic Idealize.ShloMosaic.TcCoe Idealize.SL.Sem
open Idealize.ShloMosaic.Pipeline (Dat)
open Cert.Reference13Ideal.Read

/-- The product at an element. -/
abbrev prod (x0 : FVec Ideal S2x2048x1024 .bf16) (x1 : FVec Ideal S2048x2048 .bf16) : FVec Ideal S1x2048x2048 .bf16 :=
  fun j => ∑ k : Fin 2048, x0 (ix3 (⟨(j 1).val / 1024, by have : (j 1).val < 2048 := (j 1).isLt; omega⟩ : Fin 2) k (⟨(j 1).val % 1024, by omega⟩ : Fin 1024)) * x1 (ix2 k (j 2))

theorem ref (x0 : FVec Ideal S2x2048x1024 .bf16) (x1 : FVec Ideal S2048x2048 .bf16) : val_main_v12 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v12, val_main_v11, val_main_v10, val_main_v9, val_main_v8, val_main_v5, val_main_v4, val_main_v3, val_main_v2, val_main_v1, val_main_v0]
  refine Finset.sum_congr rfl fun q _ => (mul_comm _ _).trans ?_
  refine congr (congrArg _ ?_) rfl
  show _ = x0 (ix3 (⟨r.val / 1024, by omega⟩ : Fin 2) q (⟨r.val % 1024, by omega⟩ : Fin 1024))
  split
  · next h => rw [show (⟨r.val / 1024, by omega⟩ : Fin 2) = 0 from Fin.ext (by show r.val / 1024 = 0; omega),
      show (⟨r.val % 1024, by omega⟩ : Fin 1024) = ⟨r.val, h⟩ from Fin.ext (by show r.val % 1024 = r.val; omega)]
  · next h => rw [show (⟨r.val / 1024, by omega⟩ : Fin 2) = 1 from Fin.ext (by show r.val / 1024 = 1; omega),
      show (⟨r.val % 1024, by omega⟩ : Fin 1024) = ⟨r.val - 1024, by omega⟩ from Fin.ext (by show r.val % 1024 = r.val - 1024; omega)]

variable (m : (ℓ : Loc nD τ sig) → Buf (Elt Ideal) ℓ) (c : Dev nD)

theorem idx : ∀ t : Fin cfg0.N, win0_0.index t = ![t.val / 2, 0, 0] ∧ win0_1.index t = ![0, 0, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P13

end
-- ==== Proof.P14.lean ====
/- The gradient of the mixer's heads: what the kernel leaves is the plain sum of products, and so is the reference's. -/
module

public import proofs.«01_k».proof.Proof.Gen.Kernel14Ideal.Value
public import proofs.«01_k».proof.Proof.Gen.Reference14Ideal.Read
public import Idealize.ShloMosaic.Lib.Pipeline.ValueKit

@[expose] public section

set_option maxRecDepth 16384
set_option maxHeartbeats 1000000

noncomputable section

namespace Cert.P14

open Cert.Kernel14Ideal Cert.Kernel14Ideal.Gen Idealize.ShloMosaic Idealize.ShloMosaic.TcCoe Idealize.SL.Sem
open Idealize.ShloMosaic.Pipeline (Dat)
open Cert.Reference14Ideal.Read

/-- The product at an element. -/
abbrev prod (x0 : FVec Ideal S2048x2048 .bf16) (x1 : FVec Ideal S1x2048x2048 .bf16) : FVec Ideal S2x2048x1024 .bf16 :=
  fun j => ∑ k : Fin 2048, x0 (ix2 (j 1) k) * x1 (ix3 0 (⟨1024 * (j 0).val + (j 2).val, by have : (j 0).val < 2 := (j 0).isLt; have : (j 2).val < 1024 := (j 2).isLt; omega⟩ : Fin 2048) k)

theorem ref (x0 : FVec Ideal S2048x2048 .bf16) (x1 : FVec Ideal S1x2048x2048 .bf16) : val_main_v12 (F := Ideal) x0 x1 = prod x0 x1 := by
  funext j
  obtain ⟨b, r, k, rfl⟩ : ∃ (b : Fin 2) (r : Fin 2048) (k : Fin 1024), j = ix3 b r k := ⟨j 0, j 1, j 2, by funext k; match k with | 0 => rfl | 1 => rfl | 2 => rfl⟩
  pointwise [val_main_v12, val_main_v11, val_main_v10, val_main_v9, val_main_v8, val_main_v7, val_main_v6, val_main_v5, val_main_v1, val_main_v0]
  show _ = ∑ q : Fin 2048, x0 (ix2 r q) * x1 (ix3 0 (⟨1024 * b.val + k.val, by omega⟩ : Fin 2048) q)
  split
  · next h => rw [show (⟨1024 * b.val + k.val, by omega⟩ : Fin 2048) = ⟨k.val, by omega⟩ from Fin.ext (by show 1024 * b.val + k.val = k.val; omega)]
  · next h => rw [show (⟨1024 * b.val + k.val, by omega⟩ : Fin 2048) = ⟨1024 + k.val, by omega⟩ from Fin.ext (by show 1024 * b.val + k.val = 1024 + k.val; omega)]

variable (m : (ℓ : Loc nD τ sig) → Buf (Elt Ideal) ℓ) (c : Dev nD)

theorem idx : ∀ t : Fin cfg0.N, win0_0.index t = ![0, t.val / 2, 0] ∧ win0_1.index t = ![0, t.val % 2, 0] ∧ win0_2.index t = ![t.val % 2, t.val / 2, 0] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P14

end
-- ==== Proof.P15.lean ====
/- The queries: what the kernel leaves is the plain sum of products, and so is the reference's. -/
module

public import proofs.«01_k».proof.Proof.Gen.Kernel15Ideal.Value
public import proofs.«01_k».proof.Proof.Gen.Reference15Ideal.Read
public import Idealize.ShloMosaic.Lib.Pipeline.ValueKit

@[expose] public section

set_option maxRecDepth 16384
set_option maxHeartbeats 1000000

noncomputable section

namespace Cert.P15

open Cert.Kernel15Ideal Cert.Kernel15Ideal.Gen Idealize.ShloMosaic Idealize.ShloMosaic.TcCoe Idealize.SL.Sem
open Idealize.ShloMosaic.Pipeline (Dat)
open Cert.Reference15Ideal.Read

/-- The product at an element. -/
abbrev prod (x0 : FVec Ideal S2048x2048 .bf16) (x1 : FVec Ideal S1x2048x2048 .bf16) : FVec Ideal S1x2048x2048 .bf16 :=
  fun j => ∑ k : Fin 2048, x0 (ix2 (j 1) k) * x1 (ix3 0 k (j 2))

theorem ref (x0 : FVec Ideal S2048x2048 .bf16) (x1 : FVec Ideal S1x2048x2048 .bf16) : val_main_v5 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v5, val_main_v4, val_main_v3, val_main_v2, val_main_v1, val_main_v0]
  rfl

variable (m : (ℓ : Loc nD τ sig) → Buf (Elt Ideal) ℓ) (c : Dev nD)

theorem idx : ∀ t : Fin cfg0.N, win0_0.index t = ![0, t.val / 2, 0] ∧ win0_1.index t = ![0, 0, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P15

end
-- ==== Proof.P16.lean ====
/- The gradient of the queries' weight: what the kernel leaves is the plain sum of products, and so is the reference's. -/
module

public import proofs.«01_k».proof.Proof.Gen.Kernel16Ideal.Value
public import proofs.«01_k».proof.Proof.Gen.Reference16Ideal.Read
public import Idealize.ShloMosaic.Lib.Pipeline.ValueKit

@[expose] public section

set_option maxRecDepth 16384
set_option maxHeartbeats 1000000

noncomputable section

namespace Cert.P16

open Cert.Kernel16Ideal Cert.Kernel16Ideal.Gen Idealize.ShloMosaic Idealize.ShloMosaic.TcCoe Idealize.SL.Sem
open Idealize.ShloMosaic.Pipeline (Dat)
open Cert.Reference16Ideal.Read

/-- The product at an element. -/
abbrev prod (x0 : FVec Ideal S2048x2048 .bf16) (x1 : FVec Ideal S2048x2048 .bf16) : FVec Ideal S1x2048x2048 .bf16 :=
  fun j => ∑ k : Fin 2048, x0 (ix2 k (j 1)) * x1 (ix2 k (j 2))

theorem ref (x0 : FVec Ideal S2048x2048 .bf16) (x1 : FVec Ideal S2048x2048 .bf16) : val_main_v7 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v7, val_main_v6, val_main_v5, val_main_v4, val_main_v3, val_main_v0]
  exact Finset.sum_congr rfl fun q _ => mul_comm _ _

variable (m : (ℓ : Loc nD τ sig) → Buf (Elt Ideal) ℓ) (c : Dev nD)

theorem idx : ∀ t : Fin cfg0.N, win0_0.index t = ![0, 0, t.val / 2] ∧ win0_1.index t = ![0, 0, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P16

end
-- ==== Proof.P17.lean ====
/- The gradient of the queries' input: what the kernel leaves is the plain sum of products, and so is the reference's. -/
module

public import proofs.«01_k».proof.Proof.Gen.Kernel17Ideal.Value
public import proofs.«01_k».proof.Proof.Gen.Reference17Ideal.Read
public import Idealize.ShloMosaic.Lib.Pipeline.ValueKit

@[expose] public section

set_option maxRecDepth 16384
set_option maxHeartbeats 1000000

noncomputable section

namespace Cert.P17

open Cert.Kernel17Ideal Cert.Kernel17Ideal.Gen Idealize.ShloMosaic Idealize.ShloMosaic.TcCoe Idealize.SL.Sem
open Idealize.ShloMosaic.Pipeline (Dat)
open Cert.Reference17Ideal.Read

/-- The product at an element. -/
abbrev prod (x0 : FVec Ideal S2048x2048 .bf16) (x1 : FVec Ideal S1x2048x2048 .bf16) : FVec Ideal S1x2048x2048 .bf16 :=
  fun j => ∑ k : Fin 2048, x0 (ix2 (j 1) k) * x1 (ix3 0 (j 2) k)

theorem ref (x0 : FVec Ideal S2048x2048 .bf16) (x1 : FVec Ideal S1x2048x2048 .bf16) : val_main_v7 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v7, val_main_v6, val_main_v5, val_main_v4, val_main_v1, val_main_v0]
  rfl

variable (m : (ℓ : Loc nD τ sig) → Buf (Elt Ideal) ℓ) (c : Dev nD)

theorem idx : ∀ t : Fin cfg0.N, win0_0.index t = ![0, t.val / 2, 0] ∧ win0_1.index t = ![0, t.val % 2, 0] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P17

end
-- ==== Proof.P18.lean ====
/- The cross-attention's output product: what the kernel leaves is the plain sum of products, and so is the reference's. -/
module

public import proofs.«01_k».proof.Proof.Gen.Kernel18Ideal.Value
public import proofs.«01_k».proof.Proof.Gen.Reference18Ideal.Read
public import Idealize.ShloMosaic.Lib.Pipeline.ValueKit

@[expose] public section

set_option maxRecDepth 16384
set_option maxHeartbeats 1000000

noncomputable section

namespace Cert.P18

open Cert.Kernel18Ideal Cert.Kernel18Ideal.Gen Idealize.ShloMosaic Idealize.ShloMosaic.TcCoe Idealize.SL.Sem
open Idealize.ShloMosaic.Pipeline (Dat)
open Cert.Reference18Ideal.Read

/-- The product at an element. -/
abbrev prod (x0 : FVec Ideal S2048x2048 .bf16) (x1 : FVec Ideal S1x2048x2048 .bf16) : FVec Ideal S1x2048x2048 .f32 :=
  fun j => ∑ k : Fin 2048, x0 (ix2 (j 1) k) * x1 (ix3 0 k (j 2))

theorem ref (x0 : FVec Ideal S2048x2048 .bf16) (x1 : FVec Ideal S1x2048x2048 .bf16) : val_main_v4 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v4, val_main_v3, val_main_v2, val_main_v1, val_main_v0]
  rfl

variable (m : (ℓ : Loc nD τ sig) → Buf (Elt Ideal) ℓ) (c : Dev nD)

theorem idx : ∀ t : Fin cfg0.N, win0_0.index t = ![0, t.val / 2, 0] ∧ win0_1.index t = ![0, 0, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P18

end
-- ==== Proof.P19.lean ====
/- The gradient of the cross-attention's output weight: what the kernel leaves is the plain sum of products, and so is the reference's. -/
module

public import proofs.«01_k».proof.Proof.Gen.Kernel19Ideal.Value
public import proofs.«01_k».proof.Proof.Gen.Reference19Ideal.Read
public import Idealize.ShloMosaic.Lib.Pipeline.ValueKit

@[expose] public section

set_option maxRecDepth 16384
set_option maxHeartbeats 1000000

noncomputable section

namespace Cert.P19

open Cert.Kernel19Ideal Cert.Kernel19Ideal.Gen Idealize.ShloMosaic Idealize.ShloMosaic.TcCoe Idealize.SL.Sem
open Idealize.ShloMosaic.Pipeline (Dat)
open Cert.Reference19Ideal.Read

/-- The product at an element. -/
abbrev prod (x0 : FVec Ideal S2048x2048 .bf16) (x1 : FVec Ideal S2048x2048 .bf16) : FVec Ideal S1x2048x2048 .bf16 :=
  fun j => ∑ k : Fin 2048, x0 (ix2 k (j 1)) * x1 (ix2 k (j 2))

theorem ref (x0 : FVec Ideal S2048x2048 .bf16) (x1 : FVec Ideal S2048x2048 .bf16) : val_main_v7 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v7, val_main_v6, val_main_v5, val_main_v4, val_main_v3, val_main_v0]
  exact Finset.sum_congr rfl fun q _ => mul_comm _ _

variable (m : (ℓ : Loc nD τ sig) → Buf (Elt Ideal) ℓ) (c : Dev nD)

theorem idx : ∀ t : Fin cfg0.N, win0_0.index t = ![0, 0, t.val / 2] ∧ win0_1.index t = ![0, 0, t.val % 2] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P19

end
-- ==== Proof.P20.lean ====
/- The gradient of the attended values: what the kernel leaves is the plain sum of products, and so is the reference's. -/
module

public import proofs.«01_k».proof.Proof.Gen.Kernel20Ideal.Value
public import proofs.«01_k».proof.Proof.Gen.Reference20Ideal.Read
public import Idealize.ShloMosaic.Lib.Pipeline.ValueKit

@[expose] public section

set_option maxRecDepth 16384
set_option maxHeartbeats 1000000

noncomputable section

namespace Cert.P20

open Cert.Kernel20Ideal Cert.Kernel20Ideal.Gen Idealize.ShloMosaic Idealize.ShloMosaic.TcCoe Idealize.SL.Sem
open Idealize.ShloMosaic.Pipeline (Dat)
open Cert.Reference20Ideal.Read

/-- The product at an element. -/
abbrev prod (x0 : FVec Ideal S2048x2048 .bf16) (x1 : FVec Ideal S1x2048x2048 .bf16) : FVec Ideal S1x2048x2048 .bf16 :=
  fun j => ∑ k : Fin 2048, x0 (ix2 (j 1) k) * x1 (ix3 0 (j 2) k)

theorem ref (x0 : FVec Ideal S2048x2048 .bf16) (x1 : FVec Ideal S1x2048x2048 .bf16) : val_main_v7 (F := Ideal) x0 x1 = prod x0 x1 := by
  funext j
  obtain ⟨r, k, rfl⟩ : ∃ (r : Fin 2048) (k : Fin 2048), j = ix3 0 r k := ⟨j 1, j 2, by funext k; match k with | 0 => exact Subsingleton.elim (α := Fin 1) _ _ | 1 => rfl | 2 => rfl⟩
  pointwise [val_main_v7, val_main_v6, val_main_v5, val_main_v4, val_main_v1, val_main_v0]
  rfl

variable (m : (ℓ : Loc nD τ sig) → Buf (Elt Ideal) ℓ) (c : Dev nD)

theorem idx : ∀ t : Fin cfg0.N, win0_0.index t = ![0, t.val / 2, 0] ∧ win0_1.index t = ![0, t.val % 2, 0] ∧ win0_2.index t = ![0, t.val / 2, t.val % 2] ∧ t.val < 4 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P20

end
-- ==== Proof.P21.lean ====
/- The keys and values of the memory: what the kernel leaves is the plain sum of products, and so is the reference's. -/
module

public import proofs.«01_k».proof.Proof.Gen.Kernel21Ideal.Value
public import proofs.«01_k».proof.Proof.Gen.Reference21Ideal.Read
public import Idealize.ShloMosaic.Lib.Pipeline.ValueKit

@[expose] public section

set_option maxRecDepth 16384
set_option maxHeartbeats 1000000

noncomputable section

namespace Cert.P21

open Cert.Kernel21Ideal Cert.Kernel21Ideal.Gen Idealize.ShloMosaic Idealize.ShloMosaic.TcCoe Idealize.SL.Sem
open Idealize.ShloMosaic.Pipeline (Dat)
open Cert.Reference21Ideal.Read

/-- The product at an element. -/
abbrev prod (x0 : FVec Ideal S256x2048 .bf16) (x1 : FVec Ideal S8x2048x512 .bf16) : FVec Ideal S8x256x512 .bf16 :=
  fun j => ∑ k : Fin 2048, x0 (ix2 (j 1) k) * x1 (ix3 (j 0) k (j 2))

theorem ref (x0 : FVec Ideal S256x2048 .bf16) (x1 : FVec Ideal S8x2048x512 .bf16) : val_main_v7 (F := Ideal) x0 x1 = prod x0 x1 := by
  funext j
  obtain ⟨b, r, k, rfl⟩ : ∃ (b : Fin 8) (r : Fin 256) (k : Fin 512), j = ix3 b r k := ⟨j 0, j 1, j 2, by funext k; match k with | 0 => rfl | 1 => rfl | 2 => rfl⟩
  pointwise [val_main_v7, val_main_v6, val_main_v5, val_main_v4, val_main_v3, val_main_v2, val_main_v1, val_main_v0]
  rfl

variable (m : (ℓ : Loc nD τ sig) → Buf (Elt Ideal) ℓ) (c : Dev nD)

theorem idx : ∀ t : Fin cfg0.N, win0_0.index t = ![0, 0, 0] ∧ win0_1.index t = ![t.val, 0, 0] ∧ win0_2.index t = ![t.val, 0, 0] ∧ t.val < 8 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P21

end
-- ==== Proof.P22.lean ====
/- The gradient of the keys' and values' weight: what the kernel leaves is the plain sum of products, and so is the reference's. -/
module

public import proofs.«01_k».proof.Proof.Gen.Kernel22Ideal.Value
public import proofs.«01_k».proof.Proof.Gen.Reference22Ideal.Read
public import Idealize.ShloMosaic.Lib.Pipeline.ValueKit

@[expose] public section

set_option maxRecDepth 16384
set_option maxHeartbeats 1000000

noncomputable section

namespace Cert.P22

open Cert.Kernel22Ideal Cert.Kernel22Ideal.Gen Idealize.ShloMosaic Idealize.ShloMosaic.TcCoe Idealize.SL.Sem
open Idealize.ShloMosaic.Pipeline (Dat)
open Cert.Reference22Ideal.Read

/-- The product at an element. -/
abbrev prod (x0 : FVec Ideal S256x2048 .bf16) (x1 : FVec Ideal S8x256x512 .bf16) : FVec Ideal S8x2048x512 .bf16 :=
  fun j => ∑ k : Fin 256, x0 (ix2 k (j 1)) * x1 (ix3 (j 0) k (j 2))

theorem ref (x0 : FVec Ideal S256x2048 .bf16) (x1 : FVec Ideal S8x256x512 .bf16) : val_main_v10 (F := Ideal) x0 x1 = prod x0 x1 := by
  funext j
  obtain ⟨b, r, k, rfl⟩ : ∃ (b : Fin 8) (r : Fin 2048) (k : Fin 512), j = ix3 b r k := ⟨j 0, j 1, j 2, by funext k; match k with | 0 => rfl | 1 => rfl | 2 => rfl⟩
  pointwise [val_main_v10, val_main_v9, val_main_v8, val_main_v7, val_main_v6, val_main_v3, val_main_v2, val_main_v1, val_main_v0]
  exact Finset.sum_congr rfl fun q _ => mul_comm _ _

variable (m : (ℓ : Loc nD τ sig) → Buf (Elt Ideal) ℓ) (c : Dev nD)

theorem idx : ∀ t : Fin cfg0.N, win0_0.index t = ![0, 0, t.val / 8] ∧ win0_1.index t = ![t.val % 8, 0, 0] ∧ win0_2.index t = ![t.val % 8, t.val / 8, 0] ∧ t.val < 16 :=
  (by decide +kernel : ∀ t : Fin grid0.N, _)

theorem point (t : Fin cfg0.N) (y) : k0_pay1 (F := Ideal) (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.P22

end
-- ==== Proof.P23.lean ====
/- The gradient of the memory: what the kernel leaves, summed over eight blocks of columns, is the plain sum of products, and so is the reference's. -/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack

@[expose] public section

set_option maxRecDepth 16384
set_option maxHeartbeats 1000000

noncomputable section

namespace Cert.P23

open Cert.Kernel23Ideal Cert.Kernel23Ideal.Gen Idealize.ShloMosaic Idealize.ShloMosaic.TcCoe Idealize.SL.Sem
open Idealize.ShloMosaic.Pipeline (Dat)
open Cert.Reference23Ideal.Read

/-- The product at an element. -/
abbrev prod (x0 : FVec Ideal S8x256x512 .bf16) (x1 : FVec Ideal S8x2048x512 .bf16) : FVec Ideal S1x256x2048 .bf16 :=
  fun j => ∑ l : Fin 4096, x0 (ix3 (⟨l.val / 512, by omega⟩ : Fin 8) (j 1) (⟨l.val % 512, by omega⟩ : Fin 512)) * x1 (ix3 (⟨l.val / 512, by omega⟩ : Fin 8) (j 2) (⟨l.val % 512, by omega⟩ : Fin 512))

theorem ref (x0 : FVec Ideal S8x256x512 .bf16) (x1 : FVec Ideal S8x2048x512 .bf16) : val_main_v10 (F := Ideal) x0 x1 = prod x0 x1 := by
  funext j
  obtain ⟨r, k, rfl⟩ : ∃ (r : Fin 256) (k : Fin 2048), j = ix3 0 r k := ⟨j 1, j 2, by funext k; match k with | 0 => exact Subsingleton.elim (α := Fin 1) _ _ | 1 => rfl | 2 => rfl⟩
  pointwise [val_main_v10, val_main_v9, val_main_v8, val_main_v5, val_main_v4, val_main_v3, val_main_v2, val_main_v1, val_main_v0]
  rfl

theorem hzero (j) : k0_pay1 (F := Ideal) j = 0 := by pointwise [k0_pay1]

theorem hpay (acc : FVec Ideal S256x1024 .f32) (x0 : FVec Ideal S1x256x512 .bf16) (x1 : FVec Ideal S1x1024x512 .bf16) (j) :
    k0_pay2 (F := Ideal) acc x0 x1 j = acc j + ∑ k : Fin 512, x0 (ix3 0 (j 0) k) * x1 (ix3 0 (j 1) k) := by pointwise [k0_pay2]

theorem hout (a : FVec Ideal S256x1024 .f32) (j) : k0_pay3 (F := Ideal) a j = a (ix2 (j 1) (j 2)) := by pointwise [k0_pay3]

variable (m : (ℓ : Loc nD τ sig) → Buf (Elt Ideal) ℓ) (c : Dev nD)

theorem idx : ∀ t : Fin cfg0.N, win0_0.index t = ![t.val % 8, 0, 0] ∧ win0_1.index t = ![t.val % 8, t.val / 8, 0] ∧ win0_2.index t = ![0, 0, t.val / 8] ∧ t.val < 16 :=
  (by decide +kernel : ∀ t : Fin grid0.N, _)

theorem first (t : Fin cfg0.N) (h0 : t.val % 8 = 0) : (outsAt0 m c t.val t.isLt).2 = k0_pay2 (k0_pay1 (F := Ideal)) (iblk m c 0 t) (iblk m c 1 t) := by
  rw [outsAt0_A m c t h0 (by omega)]; frame_out

theorem next (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]; frame_out; rw [Idealize.ShloMosaic.read_unread_whole]
  · rw [outsAt0_B m c t h0 h1]; frame_out; rw [Idealize.ShloMosaic.read_unread_whole]

theorem last (t : Fin cfg0.N) (h1 : t.val % 8 = 7) : (outsAt0 m c t.val t.isLt).1 = k0_pay3 (outsAt0 m c t.val t.isLt).2 := by
  rw [next m c t (by omega), outsAt0_C m c t (by omega) h1]; frame_out; rw [Idealize.ShloMosaic.read_unread_whole]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  blk_simp
  rw [after0_2, last m c t h1, hout]
  rw [Pipeline.eq_sum_fin_of_reset_step_apply_of_flush (fun n h => (outsAt0 m c n h).2) 8 (fun _ => 0) _
    (fun t h j => by rw [first m c t h]; rw [hpay, hzero]) (fun t h j => by rw [next m c t h]; rw [hpay]) t h1 _, zero_add]
  refine Fin.sum_mul_add_congr fun s k hl => ?_
  blk_point [iblk, V, idx t, idx ⟨_, Pipeline.run_point_lt_of_flush t h1 s⟩]

end Cert.P23

end
-- ==== Proof.P24.lean ====
/- The input projection's two weight gradients in one array: what the two calls leave is the plain sums of products, and so is the reference's. -/
module

public import proofs.«01_k».proof.Proof.Gen.Kernel24Ideal.Frame
public import proofs.«01_k».proof.Proof.Gen.Reference24Ideal.Run
public import proofs.«01_k».proof.Proof.Gen.Reference24Ideal.Read
public import Idealize.ShloMosaic.Lib.Pipeline.ValueKit
public import proofs.«01_k».proof.Defs

@[expose] public section

set_option maxRecDepth 16384
set_option maxHeartbeats 1000000

noncomputable section

namespace Cert.P24

open Cert.Kernel24Ideal Cert.Kernel24Ideal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.Reference24Ideal.Read

/-- The gradient of the first 6144 rows at an element. -/
abbrev lo (x0 : FVec Ideal S2048x6144 .bf16) (x2 : FVec Ideal S2048x2048 .bf16) : FVec Ideal S1x6160x2048 .bf16 :=
  fun j => ∑ t : Fin 2048, x0 (ix2 t (⟨(j 1).val % 6144, by omega⟩ : Fin 6144)) * x2 (ix2 t (j 2))

/-- The gradient of the last 16 rows at an element. -/
abbrev hi (x1 : FVec Ideal S2048x16 .f32) (x2 : FVec Ideal S2048x2048 .bf16) : FVec Ideal S1x6160x2048 .bf16 :=
  fun j => ∑ t : Fin 2048, x1 (ix2 t (⟨(j 1).val % 16, by omega⟩ : Fin 16)) * x2 (ix2 t (j 2))

/-- The gradient: the two, row by row. -/
abbrev grad (x0 : FVec Ideal S2048x6144 .bf16) (x1 : FVec Ideal S2048x16 .f32) (x2 : FVec Ideal S2048x2048 .bf16) : FVec Ideal S1x6160x2048 .bf16 :=
  fun j => if (j 1).val < 6144 then lo x0 x2 j else hi x1 x2 j

theorem ref (x0 : FVec Ideal S2048x6144 .bf16) (x1 : FVec Ideal S2048x16 .f32) (x2 : FVec Ideal S2048x2048 .bf16) : val_main_v9 (F := Ideal) x0 x1 x2 = grad x0 x1 x2 := by
  funext j
  obtain ⟨r, k, rfl⟩ : ∃ (r : Fin 6160) (k : Fin 2048), j = ix3 0 r k := ⟨j 1, j 2, by funext k; match k with | 0 => exact Subsingleton.elim (α := Fin 1) _ _ | 1 => rfl | 2 => rfl⟩
  have hr := r.isLt
  pointwise [val_main_v9, val_main_v8, val_main_v7, val_main_v6, val_main_v5, val_main_v2, val_main_v1, val_main_v0]
  unfold grad lo hi
  by_cases h : r.val < 6144
  · rw [if_pos (show ((ix3 (0 : Fin 1) r k) 1).val < 6144 from h)]
    refine Finset.sum_congr rfl fun t _ => ?_
    rw [dif_pos h]
    exact congr (congrArg _ (congrArg x0 (congrArg (ix2 t) (Fin.ext (by show r.val = r.val % 6144; omega))))) rfl
  · rw [if_neg (show ¬((ix3 (0 : Fin 1) r k) 1).val < 6144 from h)]
    refine Finset.sum_congr rfl fun t _ => ?_
    rw [dif_neg h]
    exact congr (congrArg _ (congrArg x1 (congrArg (ix2 t) (Fin.ext (by show r.val - 6144 = r.val % 16; omega))))) rfl

variable (m : (ℓ : Loc nD τ sig) → Buf (Elt Ideal) ℓ) (ρ : Dev nD → PrngReg) (c : Dev nD)

theorem idx0 : ∀ t : Fin cfg0.N, win0_0.index t = ![0, 0, t.val / 2] ∧ win0_1.index t = ![0, 0, t.val % 2] ∧ win0_2.index t = ![0, t.val / 2, t.val % 2] ∧ t.val < 12 :=
  (by decide +kernel : ∀ t : Fin grid0.N, _)

theorem idx1 : ∀ t : Fin cfg1.N, win1_0.index t = ![0, 0, 0] ∧ win1_1.index t = ![0, 0, t.val] ∧ win1_2.index t = ![0, 384, t.val] ∧ t.val < 2 :=
  (by decide +kernel : ∀ t : Fin grid1.N, _)

theorem in0 (i : S1x2048x6144.Idx) : V1 m ρ c main_v0 i = m ((c : Thread nD τ).loc main_arg0) (ix2 (i 1) (i 2)) := by
  show broadcastInDim S1x2048x6144 ![1, 2] bcast_S2048x6144_S1x2048x6144_1_2 (m ((c : Thread nD τ).loc main_arg0)) i = _
  pointwise []

theorem in1 (i : S1x2048x2048.Idx) : V1 m ρ c main_v1 i = m ((c : Thread nD τ).loc main_arg2) (ix2 (i 1) (i 2)) := by
  show broadcastInDim S1x2048x2048 ![1, 2] bcast_S2048x2048_S1x2048x2048_1_2 (m ((c : Thread nD τ).loc main_arg2)) i = _
  pointwise []

theorem point0 (t : Fin cfg0.N) (y) : k0_pay1 (F := Ideal) (iblk0 (V1 m ρ) c 0 t) (iblk0 (V1 m ρ) c 1 t) y
    = lo (m ((c : Thread nD τ).loc main_arg0)) (m ((c : Thread nD τ).loc main_arg2)) (ix3 0 (⟨1024 * (t.val / 2) + (y 1).val, by have := (idx0 t).2.2.2; have : (y 1).val < 1024 := (y 1).isLt; omega⟩ : Fin 6160) (⟨1024 * (t.val % 2) + (y 2).val, by have : (y 2).val < 1024 := (y 2).isLt; omega⟩ : Fin 2048)) := by
  have h0 := (idx0 t).2.2.2
  have h1 : (y 1).val < 1024 := (y 1).isLt
  pointwise [k0_pay1, lo]
  refine Finset.sum_congr rfl fun q _ => ?_
  unfold iblk0
  refine (congr (congrArg _ (in0 m ρ c _)) (in1 m ρ c _)).trans ?_
  blk_point [idx0 t]

theorem final0 : (dat0 (V1 m ρ) c).arrAt 2 cfg0.N = fun i => if (i 1).val / 1024 < 6 then lo (m ((c : Thread nD τ).loc main_arg0)) (m ((c : Thread nD τ).loc main_arg2)) i else V1 m ρ c main_v2 i := by
  refine (dat0 (V1 m ρ) c).arrAt_eq_of_coversWhere 2 _ (fun β => β (1 : Fin 3) < 6) (by decide +kernel) (fun t hf y => ?_) (fun j => Iff.rfl)
  blk_simp
  rw [after0_2]
  frame_out
  refine (point0 m ρ c t _).trans (congrArg _ ?_)
  have h0 := (idx0 t).2.2.2
  funext a
  match a with
  | 0 => exact Subsingleton.elim (α := Fin 1) _ _
  | 1 => refine Fin.ext ?_; blk_simp [idx0 t]; exact congrArg₂ (· + ·) (Nat.mul_comm _ _) rfl
  | 2 => refine Fin.ext ?_; blk_simp [idx0 t]; exact congrArg₂ (· + ·) (Nat.mul_comm _ _) rfl

theorem in2 (i : S1x2048x16.Idx) : V3 m ρ c main_v3 i = m ((c : Thread nD τ).loc main_arg1) (ix2 (i 1) (i 2)) := by
  show broadcastInDim S1x2048x16 ![1, 2] bcast_S2048x16_S1x2048x16_1_2 (m ((c : Thread nD τ).loc main_arg1)) i = _
  pointwise []

theorem in3 (i : S1x2048x2048.Idx) : V3 m ρ c main_v4 i = m ((c : Thread nD τ).loc main_arg2) (ix2 (i 1) (i 2)) := by
  show broadcastInDim S1x2048x2048 ![1, 2] bcast_S2048x2048_S1x2048x2048_1_2 (m ((c : Thread nD τ).loc main_arg2)) i = _
  pointwise []

theorem in4 : V3 m ρ c main_v5 = (dat0 (V1 m ρ) c).arrAt 2 cfg0.N :=
  Eq.trans rfl (W2_arr m ρ c 2)

theorem point1 (t : Fin cfg1.N) (y) : k1_pay1 (F := Ideal) (iblk1 (V3 m ρ) c 0 t) (iblk1 (V3 m ρ) c 1 t) y
    = hi (m ((c : Thread nD τ).loc main_arg1)) (m ((c : Thread nD τ).loc main_arg2)) (((cfg1.win 2).blk t).view.emb y) := by
  pointwise [k1_pay1, hi]
  refine Finset.sum_congr rfl fun q _ => ?_
  unfold iblk1
  refine (congr (congrArg _ (in2 m ρ c _)) (in3 m ρ c _)).trans ?_
  blk_point [idx1 t]

theorem final1 : (dat1 (V3 m ρ) c).arrAt 2 cfg1.N = fun i => if (i 1).val / 16 = 384 then hi (m ((c : Thread nD τ).loc main_arg1)) (m ((c : Thread nD τ).loc main_arg2)) i else V3 m ρ c main_v5 i := by
  refine (dat1 (V3 m ρ) c).arrAt_eq_of_coversWhere 2 _ (fun β => β (1 : Fin 3) = 384) (by decide +kernel) (fun t hf y => ?_) (fun j => Iff.rfl)
  blk_simp
  rw [after1_2]; unfold outsAt1 out1_A_2
  frame_out
  exact point1 m ρ c t y

theorem final : W4 m ρ c (Proc.devRef .tc main_v5) = grad (m ((c : Thread nD τ).loc main_arg0)) (m ((c : Thread nD τ).loc main_arg1)) (m ((c : Thread nD τ).loc main_arg2)) := by
  refine (W4_arr m ρ c 2).trans ((final1 m ρ c).trans ?_)
  rw [in4, final0]
  funext i
  have hi' : (i 1).val < 6160 := (i 1).isLt
  by_cases h : (i 1).val < 6144
  · rw [if_neg (by omega)]; exact (if_pos (by omega)).trans (if_pos h).symm
  · rw [if_pos (by omega)]; exact (if_neg h).symm

set_option backward.isDefEq.respectTransparency.types false in
/-- The run: the result is the gradient, the arguments end as launched. -/
theorem run : θ_run (defs (F := Ideal)) (onTc (τ := τ) (main (F := Ideal))) ⟨m, fun _ => 0, ρ⟩ (fun r => ∀ c : Dev nD,
      r.2.mem ((c.tc : Thread nD τ).loc main_v5) = grad (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v5 (by decide))).trans (final m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The two programs end with equal results. -/
theorem equal : letI := Cert.Kernel24Ideal.Gen.facts; letI := Cert.Reference24Ideal.Gen.facts; Cert.algebraic_Kernel24Ideal_Reference24Ideal := by
  intro m g m' g' _ hagree
  refine ⟨fun c => grad (m ((c.tc : Thread nD τ).loc main_arg0)) (m ((c.tc : Thread nD τ).loc main_arg1)) (m ((c.tc : Thread nD τ).loc main_arg2)), run m g,
    (θ_run _ _ _).mono (fun r h c => ?_) (Cert.Reference24Ideal.Value.run m' g')⟩
  obtain ⟨h, hk⟩ := h c
  obtain ⟨a0, a1, a2⟩ := hagree c
  exact ⟨h.trans ((val_main_v9_eq _ _ _).trans ((ref _ _ _).trans (congr (congr (congrArg _ a0) a1) a2))), hk⟩

end Cert.P24

end
-- ==== Proof.Attention.lean ====
/- Softmax attention of one query row, by plain sums. -/
module

public import Idealize.ShloMosaic.Lib.Pointwise

@[expose] public section

noncomputable section

namespace Cert.Attention

open Idealize.ShloMosaic

/-- The factor of the scores. -/
abbrev cS : EReal := Ideal.ofBits FTy.f32 0x3D3504F3#32

/-- The scores of a query against the keys. -/
def score (q : Fin 512 → EReal) (k : Fin 256 → Fin 512 → EReal) (i : Fin 256) : EReal := (∑ d, q d * k i d) * cS

/-- The greatest of the scores. -/
def top (s : Fin 256 → EReal) : EReal := Finset.fold max (Ideal.ofBits FTy.f32 0xFF800000#32) s Finset.univ

/-- The exponentials of the scores less the greatest. -/
def ex (s : Fin 256 → EReal) (i : Fin 256) : EReal := Ideal.exp (s i - top s)

/-- The weights. -/
def pr (s : Fin 256 → EReal) (i : Fin 256) : EReal := Ideal.div (ex s i) (∑ x, ex s x)

/-- The weighted sum of the values. -/
def one (q : Fin 512 → EReal) (k v : Fin 256 → Fin 512 → EReal) (d : Fin 512) : EReal := ∑ i, pr (score q k) i * v i d

theorem max_top (s : Fin 256 → EReal) : max (Ideal.ofBits FTy.f32 0xFF800000#32) (top s) = top s :=
  max_eq_right ((Finset.le_fold_max _).2 (.inl le_rfl))

/-- A maximum over the last axis, at any sizes. -/
theorem fold_last {a b n : ℕ} (v : (⟨4, ![1, a, b, n]⟩ : Shape).Idx → EReal) {u : Shape} (c : u.Idx → EReal)
    (hr : (⟨4, ![1, a, b, n]⟩ : Shape).ReducesTo [3] (⟨3, ![1, a, b]⟩ : Shape)) (hu : 0 < u.numel) (p : Fin a) (q : Fin b) :
    Host.reduce (FloatOps.maximumf : Ideal .f32 → Ideal .f32 → Ideal .f32) v c hr hu (ix3 0 p q)
      = Finset.fold max (c (Shape.Idx.first hu)) (fun k => v (ix4 0 p q k)) Finset.univ := by
  simp only [pointwise]

/-- The head of a lane, and the lane within its head. -/
def hd (l : Fin 2048) : Fin 4 := ⟨l.val / 512, by omega⟩
def pl (l : Fin 2048) : Fin 512 := ⟨l.val % 512, by omega⟩
def lane (h : Fin 4) (d : Fin 512) : Fin 2048 := ⟨h.val * 512 + d.val, by omega⟩
/-- Where a head's keys and values lie among the eight. -/
def key (h : Fin 4) : Fin 8 := ⟨h.val, by omega⟩
def val (h : Fin 4) : Fin 8 := ⟨4 + h.val, by omega⟩

theorem lane_hd (l : Fin 2048) : lane (hd l) (pl l) = l := Fin.ext (by simp only [lane, hd, pl]; omega)
theorem hd_lane (h : Fin 4) (d : Fin 512) : hd (lane h d) = h := Fin.ext (by simp only [lane, hd]; omega)
theorem pl_lane (h : Fin 4) (d : Fin 512) : pl (lane h d) = d := Fin.ext (by simp only [lane, pl]; omega)

end Cert.Attention

end
-- ==== Proof.AttentionBlock.lean ====
/- What one grid point of the softmax attention holds at an index: each head's softmax-weighted sum of its values. -/
module

public import proofs.«01_k».proof.Proof.Attention
public import proofs.«01_k».proof.Proof.Gen.Kernel25Ideal.Skeleton

@[expose] public section

set_option maxRecDepth 16384
set_option maxHeartbeats 1000000

noncomputable section

namespace Cert.AttentionBlock

open Cert.Kernel25Ideal Cert.Kernel25Ideal.Gen Idealize.ShloMosaic
open Cert.Attention (cS score top pr one max_top hd pl lane key val lane_hd hd_lane pl_lane)

section Block

variable {F : FTy → Type} [FloatOps F]

/-- A head's lanes of the block of queries. -/
def qh (x : FVec F S512x2048 .bf16) (o : Nat) (h : S512x2048.Slices ![0, o] S512x512) : FVec F S512x512 .f32 :=
  extractStridedSlice S512x512 ![0, o] (extf .f32 x bitsLt_bf16_f32) h

/-- A head's keys, or its values. -/
def kh (x : FVec F S8x256x512 .bf16) (o : Nat) (h : S8x256x512.Slices ![o, 0, 0] S1x256x512) : FVec F S256x512 .f32 :=
  extf .f32 (shapeCast S256x512 (extractStridedSlice S1x256x512 ![o, 0, 0] x h) shapeCasts_S1x256x512_S256x512) bitsLt_bf16_f32

/-- A head's scores. -/
def sc (q : FVec F S512x512 .f32) (k : FVec F S256x512 .f32) : FVec F S512x256 .f32 :=
  mulf (shapeCast S512x256 (matmul dot_S1x512x512_S1x256x512_S1x512x256_2_2_1_1_0_0 none
    (truncf .bf16 (shapeCast S1x512x512 q shapeCasts_S512x512_S1x512x512) bitsLt_bf16_f32)
    (truncf .bf16 (shapeCast S1x256x512 k shapeCasts_S256x512_S1x256x512) bitsLt_bf16_f32)
    (constant S1x512x256 .f32 0x00000000#32)) shapeCasts_S1x512x256_S512x256)
    (broadcast S512x256 (Scalar.ofBits .f32 0x3D3504F3#32))

/-- The exponentials of the scores less their row's greatest. -/
def ex (s : FVec F S512x256 .f32) : FVec F S512x256 .f32 :=
  exp (subf s (broadcastTo S512x256 (shapeCast S512x1
    (multiReduction .maximumf [1] S512 s 0xFF800000#32 reduces_S512x256_S512 (.inl rfl) rfl) shapeCasts_S512_S512x1) broadcasts_S512x1_S512x256))

/-- A row's sum, over the row. -/
def tot (e : FVec F S512x256 .f32) : FVec F S512x256 .f32 :=
  broadcastTo S512x256 (shapeCast S512x1
    (multiReduction .add [1] S512 e 0x00000000#32 reduces_S512x256_S512 (.inl rfl) rfl) shapeCasts_S512_S512x1) broadcasts_S512x1_S512x256

/-- A head's result. -/
def oh (p : FVec F S512x256 .f32) (v : FVec F S256x512 .f32) : FVec F S512x512 .f32 :=
  shapeCast S512x512 (matmul dot_S1x512x256_S1x256x512_S1x512x512_2_1_1_2_0_0 none
    (truncf .bf16 (shapeCast S1x512x256 p shapeCasts_S512x256_S1x512x256) bitsLt_bf16_f32)
    (truncf .bf16 (shapeCast S1x256x512 v shapeCasts_S256x512_S1x256x512) bitsLt_bf16_f32)
    (constant S1x512x512 .f32 0x00000000#32)) shapeCasts_S1x512x512_S512x512

/-- A head, from its queries, keys and values. -/
def hr (q : FVec F S512x512 .f32) (k v : FVec F S256x512 .f32) : FVec F S512x512 .f32 :=
  oh (divf (ex (sc q k)) (tot (ex (sc q k)))) v

/-- The four heads. -/
def heads (x0 : FVec F S512x2048 .bf16) (x1 : FVec F S8x256x512 .bf16) : Fin 4 → FVec F S512x512 .f32
  | 0 => hr (qh x0 0 slices_S512x2048_o0_0_S512x512) (kh x1 0 slices_S8x256x512_o0_0_0_S1x256x512) (kh x1 4 slices_S8x256x512_o4_0_0_S1x256x512)
  | 1 => hr (qh x0 512 slices_S512x2048_o0_512_S512x512) (kh x1 1 slices_S8x256x512_o1_0_0_S1x256x512) (kh x1 5 slices_S8x256x512_o5_0_0_S1x256x512)
  | 2 => hr (qh x0 1024 slices_S512x2048_o0_1024_S512x512) (kh x1 2 slices_S8x256x512_o2_0_0_S1x256x512) (kh x1 6 slices_S8x256x512_o6_0_0_S1x256x512)
  | 3 => hr (qh x0 1536 slices_S512x2048_o0_1536_S512x512) (kh x1 3 slices_S8x256x512_o3_0_0_S1x256x512) (kh x1 7 slices_S8x256x512_o7_0_0_S1x256x512)

/-- Four heads side by side. -/
def pack (f : Fin 4 → FVec F S512x512 .f32) : FVec F S512x2048 .bf16 :=
  truncf .bf16 (concatenate S512x2048 1 [⟨S512x512, f 0⟩, ⟨S512x512, f 1⟩, ⟨S512x512, f 2⟩, ⟨S512x512, f 3⟩]
    concatenates_S512x512_S512x512_S512x512_S512x512_S512x2048_d1) bitsLt_bf16_f32

end Block

theorem qh_apply (x : FVec Ideal S512x2048 .bf16) (o hs) (h : Fin 4) (ho : o = h.val * 512) (r d : Fin 512) : qh x o hs (ix2 r d) = x (ix2 r (lane h d)) := by
  subst ho
  pointwise [qh]
  rfl

theorem kh_apply (x : FVec Ideal S8x256x512 .bf16) (o hs) (r : Fin 256) (d : Fin 512) (l : Fin 8) (hl : o = l.val) : kh x o hs (ix2 r d) = x (ix3 l r d) := by
  subst hl
  pointwise [kh]

theorem sc_apply (q : FVec Ideal S512x512 .f32) (k : FVec Ideal S256x512 .f32) (r : Fin 512) (i : Fin 256) :
    sc q k (ix2 r i) = score (fun d => q (ix2 r d)) (fun i d => k (ix2 i d)) i := by
  pointwise [sc]
  rfl

theorem ex_apply (s : FVec Ideal S512x256 .f32) (r : Fin 512) (i : Fin 256) :
    ex s (ix2 r i) = Attention.ex (fun i => s (ix2 r i)) i := by
  pointwise [ex]
  rfl

theorem tot_apply (e : FVec Ideal S512x256 .f32) (r : Fin 512) (i : Fin 256) : tot e (ix2 r i) = ∑ x, e (ix2 r x) := by
  pointwise [tot]

theorem oh_apply (p : FVec Ideal S512x256 .f32) (v : FVec Ideal S256x512 .f32) (r d : Fin 512) :
    oh p v (ix2 r d) = ∑ i, p (ix2 r i) * v (ix2 i d) := by
  pointwise [oh]

theorem hr_apply (q : FVec Ideal S512x512 .f32) (k v : FVec Ideal S256x512 .f32) (r d : Fin 512) :
    hr q k v (ix2 r d) = one (fun d => q (ix2 r d)) (fun i d => k (ix2 i d)) (fun i d => v (ix2 i d)) d := by
  rw [hr, oh_apply]
  refine Finset.sum_congr rfl fun i _ => congrArg (· * _) ?_
  pointwise
  rw [tot_apply]
  simp only [ex_apply, sc_apply]
  rfl

theorem heads_apply (x0 : FVec Ideal S512x2048 .bf16) (x1 : FVec Ideal S8x256x512 .bf16) (h : Fin 4) (r d : Fin 512) :
    heads x0 x1 h (ix2 r d) = one (fun d => x0 (ix2 r (lane h d))) (fun i d => x1 (ix3 (key h) i d)) (fun i d => x1 (ix3 (val h) i d)) d := by
  match h with
  | 0 => rw [heads, hr_apply]; simp only [qh_apply x0 0 _ 0 rfl, kh_apply x1 0 _ _ _ (key 0) rfl, kh_apply x1 4 _ _ _ (val 0) rfl]
  | 1 => rw [heads, hr_apply]; simp only [qh_apply x0 512 _ 1 rfl, kh_apply x1 1 _ _ _ (key 1) rfl, kh_apply x1 5 _ _ _ (val 1) rfl]
  | 2 => rw [heads, hr_apply]; simp only [qh_apply x0 1024 _ 2 rfl, kh_apply x1 2 _ _ _ (key 2) rfl, kh_apply x1 6 _ _ _ (val 2) rfl]
  | 3 => rw [heads, hr_apply]; simp only [qh_apply x0 1536 _ 3 rfl, kh_apply x1 3 _ _ _ (key 3) rfl, kh_apply x1 7 _ _ _ (val 3) rfl]

theorem pack_apply (f : Fin 4 → FVec Ideal S512x512 .f32) (r : Fin 512) (l : Fin 2048) : pack f (ix2 r l) = f (hd l) (ix2 r (pl l)) := by
  show concatenate S512x2048 1 (List.ofFn fun n : Fin 4 => (⟨S512x512, f n⟩ : (s : Shape) × (s.Idx → EReal))) concatenates_S512x512_S512x512_S512x512_S512x512_S512x2048_d1 (ix2 r l) = _
  exact concatenate_ofFn_apply (t := S512x2048) 1 f _ rfl 512 rfl (ix2 r l) (hd l) rfl (ix2 r (pl l)) rfl (fun b hb => match b with | ⟨0, _⟩ => rfl | ⟨1, _⟩ => absurd rfl hb)

end Cert.AttentionBlock

end
-- ==== Proof.AttentionRef.lean ====
/- The reference's softmax attention at an index. -/
module

public import proofs.«01_k».proof.Proof.Attention
public import proofs.«01_k».proof.Proof.Gen.Reference25Ideal.Read

@[expose] public section

set_option maxRecDepth 16384
set_option maxHeartbeats 1000000

noncomputable section

namespace Cert.AttentionRef

open Cert.Reference25Ideal Idealize.ShloMosaic
open Cert.Reference25Ideal.Read
open Cert.Attention (cS score top pr one max_top fold_last hd pl lane key val lane_hd hd_lane pl_lane)

/-- The attention at an element. -/
abbrev att (x0 : FVec Ideal S2048x2048 .bf16) (x1 : FVec Ideal S8x256x512 .bf16) : FVec Ideal S2048x2048 .bf16 :=
  fun j => one (fun d => x0 (ix2 (j 0) (lane (hd (j 1)) d))) (fun i d => x1 (ix3 (key (hd (j 1))) i d)) (fun i d => x1 (ix3 (val (hd (j 1))) i d)) (pl (j 1))

theorem ref_score (x0 x1) (h : Fin 4) (r : Fin 2048) (i : Fin 256) :
    val_main_v12 (F := Ideal) x0 x1 (ix4 0 h r i) = score (fun d => x0 (ix2 r (lane h d))) (fun i d => x1 (ix3 (key h) i d)) i := by
  pointwise [val_main_v12, val_main_v11, val_main_v10, val_main_v7, val_main_v6,val_main_v5, val_main_v4,val_main_v3,val_main_v2,val_main_v1,val_main_v0, val_main_cst]
  rfl

theorem ref_big (x0 x1) (h : Fin 4) (r : Fin 2048) :
    val_main_v15 (F := Ideal) x0 x1 (ix3 0 h r) = top (fun i => val_main_v12 (F := Ideal) x0 x1 (ix4 0 h r i)) := by
  rw [val_main_v15_apply]
  unfold val_main_v13
  generalize val_main_v12 (F := Ideal) x0 x1 = y
  exact (congrArg (max _) (fold_last y _ _ _ h r)).trans (max_top _)

theorem ref_pr (x0 x1) (h : Fin 4) (r : Fin 2048) (i : Fin 256) :
    val_main_v23 (F := Ideal) x0 x1 (ix4 0 h r i) = pr (fun i => val_main_v12 (F := Ideal) x0 x1 (ix4 0 h r i)) i := by
  pointwise [val_main_v23, val_main_v22, val_main_v21, val_main_v20, val_main_v19, val_main_v18, val_main_v17, val_main_v16, val_main_cst_2]
  simp only [ref_big]
  rfl

theorem ref (x0 x1) : val_main_v28 (F := Ideal) x0 x1 = att x0 x1 := by
  funext j
  obtain ⟨r, l, rfl⟩ : ∃ (r l : Fin 2048), j = ix2 r l := ⟨j 0, j 1, by funext k; match k with | 0 => rfl | 1 => rfl⟩
  pointwise [val_main_v28,val_main_v27,val_main_v26,val_main_v25,val_main_v24, val_main_v9, val_main_v8, val_main_v5, val_main_v3,val_main_v2,val_main_v1]
  refine Finset.sum_congr rfl fun i _ => ?_
  rw [ref_pr, mul_comm]
  simp only [ref_score]
  rfl

end Cert.AttentionRef

end
-- ==== Proof.P25.lean ====
/- The cross-attention's softmax attention: the kernel and the reference leave each head's softmax-weighted sum of its values. -/
module

public import proofs.«01_k».proof.Defs
public import proofs.«01_k».proof.Proof.AttentionBlock
public import proofs.«01_k».proof.Proof.AttentionRef
public import proofs.«01_k».proof.Proof.Gen.Kernel25Ideal.Value
public import proofs.«01_k».proof.Proof.Gen.Reference25Ideal.Run
public import Idealize.ShloMosaic.Lib.Pipeline.ValueKit

@[expose] public section

set_option maxRecDepth 16384
set_option maxHeartbeats 1000000

noncomputable section

namespace Cert.P25

open Cert.Kernel25Ideal Cert.Kernel25Ideal.Gen Idealize.ShloMosaic Idealize.ShloMosaic.TcCoe Idealize.SL.Sem
open Idealize.ShloMosaic.Pipeline (Dat)
open Cert.Reference25Ideal.Read
open Cert.AttentionBlock (pack heads pack_apply heads_apply)
open Cert.AttentionRef (att ref)
open Cert.Attention (cS score top pr one max_top hd pl lane key val lane_hd hd_lane pl_lane)

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2; omega⟩

theorem q_eq (t : Fin cfg0.N) (r : Fin 512) (l : Fin 2048) : iblk m c 0 t (ix2 r l) = m ((c : Thread nD τ).loc main_arg0) (ix2 (row t r) l) := by
  blk_ext [iblk, V, idx t, row]

theorem kv_eq (t : Fin cfg0.N) (h : Fin 8) (i : Fin 256) (d : Fin 512) : iblk m c 1 t (ix3 h i d) = m ((c : Thread nD τ).loc main_arg1) (ix3 h i d) := by
  blk_ext [iblk, V, idx t]

theorem emb_eq (t : Fin cfg0.N) (r : Fin 512) (l : Fin 2048) : ((cfg0.win 2).blk t).view.emb (ix2 r l) = ix2 (row t r) l := by
  blk_ext [idx t, row]

theorem point (t : Fin cfg0.N) (y : S512x2048.Idx) : pack (heads (iblk m c 0 t) (iblk m c 1 t)) y
    = att (m ((c : Thread nD τ).loc main_arg0)) (m ((c : Thread nD τ).loc main_arg1)) (((cfg0.win 2).blk t).view.emb y) := by
  obtain ⟨r, l, rfl⟩ : ∃ (r : Fin 512) (l : Fin 2048), y = ix2 r l := ⟨y 0, y 1, by funext k; match k with | 0 => rfl | 1 => rfl⟩
  rw [pack_apply, heads_apply, emb_eq]
  simp only [q_eq, kv_eq]
  rfl

theorem out_eq (t : Fin cfg0.N) (y : S512x2048.Idx) : out0_2 (iblk m c 0 t) (iblk m c 1 t) y = pack (F := Ideal) (heads (F := Ideal) (iblk m c 0 t) (iblk m c 1 t)) y := by
  frame_out; sl_kernel_rfl

theorem final : (dats m 0 c).arrAt 2 cfg0.N = att (m ((c : Thread nD τ).loc main_arg0)) (m ((c : Thread nD τ).loc main_arg1)) := by
  refine (dats m 0 c).arrAt_eq_of_covers 2 _ (by decide +kernel) fun t _ y => ?_
  blk_simp
  rw [after0_2]
  exact (out_eq m c t y).trans (point m c t y)

/-- The two programs end with equal results. -/
theorem equal : letI := Cert.Kernel25Ideal.Gen.facts; letI := Cert.Reference25Ideal.Gen.facts; Cert.algebraic_Kernel25Ideal_Reference25Ideal := by
  intro m g m' g' _ hagree
  refine ⟨fun c => att (m ((c.tc : Thread nD τ).loc main_arg0)) (m ((c.tc : Thread nD τ).loc main_arg1)),
    (θ_run _ _ _).mono (fun r h c => ?_) (Cert.Kernel25Ideal.Value.run_blocks m g),
    (θ_run _ _ _).mono (fun r h c => ?_) (Cert.Reference25Ideal.Value.run m' g')⟩
  · obtain ⟨h, hk⟩ := h c
    exact ⟨h.trans (final m c), hk⟩
  · obtain ⟨h, hk⟩ := h c
    obtain ⟨a0, a1⟩ := hagree c
    exact ⟨h.trans ((val_main_v28_eq _ _).trans ((ref _ _).trans (congr (congrArg _ a0) a1))), hk⟩

end Cert.P25

end
-- ==== Proof.AttentionGrad.lean ====
/- The gradient of one row of the softmax attention, as plain formulas on the extended reals. The kernel spreads the sum of
   the row's gradient over the greatest scores, as the derivative of a maximum asks; with finite factors that sum is zero. -/
module

public import proofs.«01_k».proof.Proof.Attention
public import proofs.«01_k».proof.Proof.Curve

@[expose] public section

noncomputable section

namespace Cert.AttentionGrad

open Idealize.ShloMosaic
open Cert.Attention (cS score top ex pr)

/-- One over the square of the exponentials' sum. -/
def inv (s : Fin 256 → EReal) : EReal := Ideal.div 1 ((∑ x, ex s x) * (∑ x, ex s x))

/-- What the normalisation takes from every element. -/
def mean (s g : Fin 256 → EReal) : EReal := ∑ i, (g i * inv s) * ex s i

/-- The gradient of the scores less their greatest. -/
def back (s g : Fin 256 → EReal) (i : Fin 256) : EReal := (Ideal.div (g i) (∑ x, ex s x) + -mean s g) * ex s i

/-- The gradient of the products. -/
def ds (s g : Fin 256 → EReal) (i : Fin 256) : EReal := back s g i * cS

/-- The gradient of the weights. -/
def dp (o : Fin 512 → EReal) (v : Fin 256 → Fin 512 → EReal) (i : Fin 256) : EReal := ∑ d, o d * v i d

theorem le_top (s : Fin 256 → EReal) (i : Fin 256) : s i ≤ top s :=
  (Finset.le_fold_max _).2 (.inr ⟨i, Finset.mem_univ _, le_rfl⟩)

theorem exp_sub (x t : EReal) (h : x ≤ t) : ∃ r : ℝ, 0 ≤ r ∧ Ideal.exp (x - t) = r := by
  induction t with
  | bot =>
    obtain rfl : x = ⊥ := le_bot_iff.1 h
    exact ⟨0, le_rfl, by simp⟩
  | top => exact ⟨0, le_rfl, by rw [EReal.sub_top]; simp⟩
  | coe b =>
    induction x with
    | bot => exact ⟨0, le_rfl, by rw [EReal.bot_sub]; simp⟩
    | top => exact absurd h (by simp)
    | coe a => exact ⟨Real.exp (a - b), (Real.exp_pos _).le, by rw [← EReal.coe_sub]; rfl⟩

theorem ex_real (s : Fin 256 → EReal) (i : Fin 256) : ∃ r : ℝ, 0 ≤ r ∧ ex s i = r := exp_sub _ _ (le_top s i)

theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- The row's gradient sums to zero where its factors are finite. -/
theorem sum_back (s g : Fin 256 → EReal) (hg : ∀ i, ∃ r : ℝ, g i = r) : ∑ x, (0 - back s g x) = 0 := by
  choose e he0 he using ex_real s
  choose a ha using hg
  have hZ : ∑ x, ex s x = ((∑ x, e x : ℝ) : EReal) := by rw [coe_sum]; exact Finset.sum_congr rfl fun i _ => he i
  by_cases z : ∑ x, e x = 0
  · have h0 : ∀ i, e i = 0 := fun i => (Finset.sum_eq_zero_iff_of_nonneg fun i _ => he0 i).1 z i (Finset.mem_univ i)
    refine Finset.sum_eq_zero fun i _ => ?_
    rw [back, he i, h0 i, EReal.coe_zero, mul_zero, sub_zero]
  · have hzz : (∑ x, e x) * (∑ x, e x) ≠ 0 := mul_ne_zero z z
    have hi : inv s = ((1 / ((∑ x, e x) * (∑ x, e x)) : ℝ) : EReal) := by
      rw [inv, hZ, ← EReal.coe_mul, Ideal.div_coe hzz, one_mul]
    have hm : mean s g = ((∑ i, (a i * (1 / ((∑ x, e x) * (∑ x, e x)))) * e i : ℝ) : EReal) := by
      rw [mean, coe_sum]
      exact Finset.sum_congr rfl fun i _ => by rw [hi, ha i, he i, EReal.coe_mul, EReal.coe_mul]
    have hb : ∀ x, 0 - back s g x
        = ((0 - (a x * (1 / ∑ x, e x) + -(∑ i, (a i * (1 / ((∑ x, e x) * (∑ x, e x)))) * e i)) * e x : ℝ) : EReal) := fun x => by
      rw [back, hm, hZ, ha x, he x, Ideal.div_coe z, EReal.coe_sub, EReal.coe_mul, EReal.coe_add, EReal.coe_mul, EReal.coe_neg, EReal.coe_zero]
    rw [Finset.sum_congr rfl fun x _ => hb x, ← coe_sum, ← EReal.coe_zero]
    refine congrArg _ ?_
    have h1 : ∀ c : ℝ, ∑ i, (a i * c) * e i = (∑ i, a i * e i) * c := fun c => by
      rw [Finset.sum_mul]; exact Finset.sum_congr rfl fun i _ => by ring
    have h2 : ∀ c M : ℝ, ∑ x, (0 - (a x * c + -M) * e x) = M * (∑ x, e x) - (∑ i, a i * e i) * c := fun c M => by
      rw [Finset.mul_sum, Finset.sum_mul, ← Finset.sum_sub_distrib]; exact Finset.sum_congr rfl fun i _ => by ring
    rw [h2, h1]
    field_simp
    ring

/-- The share of the greatest scores, nothing where the sum is zero. -/
theorem share (w : Fin 256 → EReal) (hw : ∀ i, 0 ≤ w i) (i : Fin 256) : Ideal.div 0 (∑ x, w x) * w i = 0 := by
  by_cases h : ∑ x, w x = 0
  · rw [(Finset.sum_eq_zero_iff_of_nonneg fun i _ => hw i).1 h i (Finset.mem_univ i), mul_zero]
  · rw [Ideal.div, if_neg h, zero_mul, zero_mul]

/-- What the kernel forms is the gradient of the products. -/
theorem term (s g w : Fin 256 → EReal) (hw : ∀ i, 0 ≤ w i) (hg : ∀ i, ∃ r : ℝ, g i = r) (i : Fin 256) :
    (back s g i + Ideal.div (∑ x, (0 - back s g x)) (∑ x, w x) * w i) * cS = ds s g i := by
  rw [sum_back s g hg, share w hw i, add_zero, ds]

theorem dp_real (o : Fin 512 → EReal) (v : Fin 256 → Fin 512 → EReal) (ho : ∀ d, ∃ r : ℝ, o d = r) (hv : ∀ i d, ∃ r : ℝ, v i d = r)
    (i : Fin 256) : ∃ r : ℝ, dp o v i = r :=
  P2.sum_finite Finset.univ o (v i) ho (hv i)

end Cert.AttentionGrad

end
-- ==== Proof.GradBlock.lean ====
/- What one grid point of the softmax attention's backward pass holds at an index: each head's gradients. -/
module

public import proofs.«01_k».proof.Proof.AttentionGrad
public import proofs.«01_k».proof.Proof.Gen.Kernel26Ideal.Skeleton

@[expose] public section

set_option maxRecDepth 16384
set_option maxHeartbeats 1000000

noncomputable section

namespace Cert.GradBlock

open Cert.Kernel26Ideal Cert.Kernel26Ideal.Gen Idealize.ShloMosaic
open Cert.Attention (cS score top pr hd pl lane key val)

section Block

variable {F : FTy → Type} [FloatOps F]

/-- A head's lanes of the block of queries, or of the incoming gradient. -/
def qh (x : FVec F S512x2048 .bf16) (o : Nat) (h : S512x2048.Slices ![0, o] S512x512) : FVec F S512x512 .f32 :=
  extractStridedSlice S512x512 ![0, o] (extf .f32 x bitsLt_bf16_f32) h

/-- A head's keys, or its values. -/
def kh (x : FVec F S8x256x512 .bf16) (o : Nat) (h : S8x256x512.Slices ![o, 0, 0] S1x256x512) : FVec F S256x512 .f32 :=
  extf .f32 (shapeCast S256x512 (extractStridedSlice S1x256x512 ![o, 0, 0] x h) shapeCasts_S1x256x512_S256x512) bitsLt_bf16_f32

/-- Rows against keys or values. -/
def rowsBy (q : FVec F S512x512 .f32) (k : FVec F S256x512 .f32) : FVec F S1x512x256 .f32 :=
  matmul dot_S1x512x512_S1x256x512_S1x512x256_2_2_1_1_0_0 none
    (truncf .bf16 (shapeCast S1x512x512 q shapeCasts_S512x512_S1x512x512) bitsLt_bf16_f32)
    (truncf .bf16 (shapeCast S1x256x512 k shapeCasts_S256x512_S1x256x512) bitsLt_bf16_f32)
    (constant S1x512x256 .f32 0x00000000#32)

/-- A head's scores. -/
def sc (q : FVec F S512x512 .f32) (k : FVec F S256x512 .f32) : FVec F S512x256 .f32 :=
  mulf (shapeCast S512x256 (rowsBy q k) shapeCasts_S1x512x256_S512x256) (broadcast S512x256 (Scalar.ofBits .f32 0x3D3504F3#32))

/-- A row's greatest, over the row. -/
def big (s : FVec F S512x256 .f32) : FVec F S512x256 .f32 :=
  broadcastTo S512x256 (shapeCast S512x1
    (multiReduction .maximumf [1] S512 s 0xFF800000#32 reduces_S512x256_S512 (.inl rfl) rfl) shapeCasts_S512_S512x1) broadcasts_S512x1_S512x256

/-- The exponentials of the scores less their row's greatest. -/
def ex (s : FVec F S512x256 .f32) : FVec F S512x256 .f32 := exp (subf s (big s))

/-- One where a score is its row's greatest, else zero. -/
def wt (s : FVec F S512x256 .f32) : FVec F S512x256 .f32 := sitofp .f32 (extui 32 (cmpf .oeq s (big s)) natLt_1_32)

/-- A row's sum. -/
def tot0 (e : FVec F S512x256 .f32) : FVec F S512 .f32 := multiReduction .add [1] S512 e 0x00000000#32 reduces_S512x256_S512 (.inl rfl) rfl
def tot1 (e : FVec F S512x256 .f32) : FVec F S512x1 .f32 := shapeCast S512x1 (tot0 e) shapeCasts_S512_S512x1
def over (x : FVec F S512x1 .f32) : FVec F S512x256 .f32 := broadcastTo S512x256 x broadcasts_S512x1_S512x256
/-- The sum over the single column. -/
def sum1 (x : FVec F S512x1 .f32) : FVec F S512 .f32 := multiReduction .add [1] S512 x 0x00000000#32 reduces_S512x1_S512 (.inl rfl) rfl

/-- The weights. -/
def wts (e : FVec F S512x256 .f32) : FVec F S512x256 .f32 := divf e (over (tot1 e))

/-- One over the square of the exponentials' sum. -/
def inv (e : FVec F S512x256 .f32) : FVec F S512x1 .f32 := divf (broadcast S512x1 (Scalar.ofBits .f32 0x3F800000#32)) (mulf (tot1 e) (tot1 e))

/-- The gradient of the weights. -/
def dp (o : FVec F S512x512 .f32) (v : FVec F S256x512 .f32) : FVec F S512x256 .f32 :=
  multiReduction .add [0] S512x256 (rowsBy o v) 0x00000000#32 reduces_S1x512x256_S512x256 (.inl rfl) rfl

/-- The gradient of the scores less their greatest. -/
def back (e g : FVec F S512x256 .f32) : FVec F S512x256 .f32 :=
  mulf (addf (divf g (over (tot1 e))) (over (shapeCast S512x1 (sum1 (subf (broadcast S512x1 (Scalar.ofBits .f32 0x00000000#32))
    (tot1 (mulf (mulf g (over (inv e))) e)))) shapeCasts_S512_S512x1))) e

/-- The gradient of the products. -/
def ds (s e g : FVec F S512x256 .f32) : FVec F S512x256 .f32 :=
  mulf (addf (back e g) (mulf (over (shapeCast S512x1 (divf (sum1 (tot1 (subf (broadcast S512x256 (Scalar.ofBits .f32 0x00000000#32)) (back e g))))
    (tot0 (wt s))) shapeCasts_S512_S512x1)) (wt s))) (broadcast S512x256 (Scalar.ofBits .f32 0x3D3504F3#32))

/-- Rows' coefficients against keys. -/
def byKeys (p : FVec F S512x256 .f32) (k : FVec F S256x512 .f32) : FVec F S512x512 .f32 :=
  multiReduction .add [0] S512x512 (matmul dot_S1x512x256_S1x256x512_S1x512x512_2_1_1_2_0_0 none
    (truncf .bf16 (shapeCast S1x512x256 p shapeCasts_S512x256_S1x512x256) bitsLt_bf16_f32)
    (truncf .bf16 (shapeCast S1x256x512 k shapeCasts_S256x512_S1x256x512) bitsLt_bf16_f32)
    (constant S1x512x512 .f32 0x00000000#32)) 0x00000000#32 reduces_S1x512x512_S512x512 (.inl rfl) rfl

/-- Coefficients against rows, summed over the rows. -/
def byRows (p : FVec F S512x256 .f32) (q : FVec F S512x512 .f32) : FVec F S256x512 .f32 :=
  multiReduction .add [0] S256x512 (matmul dot_S1x512x256_S1x512x512_S1x256x512_1_1_2_2_0_0 none
    (truncf .bf16 (shapeCast S1x512x256 p shapeCasts_S512x256_S1x512x256) bitsLt_bf16_f32)
    (truncf .bf16 (shapeCast S1x512x512 q shapeCasts_S512x512_S1x512x512) bitsLt_bf16_f32)
    (constant S1x256x512 .f32 0x00000000#32)) 0x00000000#32 reduces_S1x256x512_S256x512 (.inl rfl) rfl

/-- A head's gradients, from its queries, keys, values and incoming gradient. -/
def hds (q : FVec F S512x512 .f32) (k v : FVec F S256x512 .f32) (o : FVec F S512x512 .f32) : FVec F S512x256 .f32 := ds (sc q k) (ex (sc q k)) (dp o v)
def hdq (q : FVec F S512x512 .f32) (k v : FVec F S256x512 .f32) (o : FVec F S512x512 .f32) : FVec F S512x512 .f32 := byKeys (hds q k v o) k
def hdk (q : FVec F S512x512 .f32) (k v : FVec F S256x512 .f32) (o : FVec F S512x512 .f32) : FVec F S256x512 .f32 := byRows (hds q k v o) q
def hdv (q : FVec F S512x512 .f32) (k v : FVec F S256x512 .f32) (o : FVec F S512x512 .f32) : FVec F S256x512 .f32 := byRows (wts (ex (sc q k))) o

/-- The four heads of the block of rows. -/
def qs (x : FVec F S512x2048 .bf16) : Fin 4 → FVec F S512x512 .f32
  | 0 => qh x 0 slices_S512x2048_o0_0_S512x512
  | 1 => qh x 512 slices_S512x2048_o0_512_S512x512
  | 2 => qh x 1024 slices_S512x2048_o0_1024_S512x512
  | 3 => qh x 1536 slices_S512x2048_o0_1536_S512x512
def ks (x : FVec F S8x256x512 .bf16) : Fin 4 → FVec F S256x512 .f32
  | 0 => kh x 0 slices_S8x256x512_o0_0_0_S1x256x512
  | 1 => kh x 1 slices_S8x256x512_o1_0_0_S1x256x512
  | 2 => kh x 2 slices_S8x256x512_o2_0_0_S1x256x512
  | 3 => kh x 3 slices_S8x256x512_o3_0_0_S1x256x512
def vs (x : FVec F S8x256x512 .bf16) : Fin 4 → FVec F S256x512 .f32
  | 0 => kh x 4 slices_S8x256x512_o4_0_0_S1x256x512
  | 1 => kh x 5 slices_S8x256x512_o5_0_0_S1x256x512
  | 2 => kh x 6 slices_S8x256x512_o6_0_0_S1x256x512
  | 3 => kh x 7 slices_S8x256x512_o7_0_0_S1x256x512

/-- Four heads side by side. -/
def pack (f : Fin 4 → FVec F S512x512 .f32) : FVec F S512x2048 .bf16 :=
  truncf .bf16 (concatenate S512x2048 1 [⟨S512x512, f 0⟩, ⟨S512x512, f 1⟩, ⟨S512x512, f 2⟩, ⟨S512x512, f 3⟩]
    concatenates_S512x512_S512x512_S512x512_S512x512_S512x2048_d1) bitsLt_bf16_f32

def lift (x : FVec F S256x512 .f32) : FVec F S1x256x512 .f32 := shapeCast S1x256x512 x shapeCasts_S256x512_S1x256x512

/-- The keys' and the values' gradients, one above another. -/
def stack (f g : Fin 4 → FVec F S256x512 .f32) : FVec F S8x256x512 .f32 :=
  concatenate S8x256x512 0 [⟨S1x256x512, lift (f 0)⟩, ⟨S1x256x512, lift (f 1)⟩, ⟨S1x256x512, lift (f 2)⟩, ⟨S1x256x512, lift (f 3)⟩,
    ⟨S1x256x512, lift (g 0)⟩, ⟨S1x256x512, lift (g 1)⟩, ⟨S1x256x512, lift (g 2)⟩, ⟨S1x256x512, lift (g 3)⟩]
    concatenates_S1x256x512_S1x256x512_S1x256x512_S1x256x512_S1x256x512_S1x256x512_S1x256x512_S1x256x512_S8x256x512_d0

/-- The block of the queries' gradient. -/
def outQ (x : FVec F S512x2048 .bf16) (y : FVec F S8x256x512 .bf16) (o : FVec F S1x512x2048 .bf16) : FVec F S512x2048 .bf16 :=
  pack fun h => hdq (qs x h) (ks y h) (vs y h) (qs (k0_pay4 o) h)

/-- The keys' and values' gradient so far, plus the block's. -/
def outKV (x : FVec F S512x2048 .bf16) (y : FVec F S8x256x512 .bf16) (o : FVec F S1x512x2048 .bf16) (a : FVec F S8x256x512 .f32) : FVec F S8x256x512 .f32 :=
  addf a (stack (fun h => hdk (qs x h) (ks y h) (vs y h) (qs (k0_pay4 o) h)) (fun h => hdv (qs x h) (ks y h) (vs y h) (qs (k0_pay4 o) h)))

end Block

theorem qh_apply (x : FVec Ideal S512x2048 .bf16) (o hs) (h : Fin 4) (ho : o = h.val * 512) (r d : Fin 512) : qh x o hs (ix2 r d) = x (ix2 r (lane h d)) := by
  subst ho
  pointwise [qh]
  rfl

theorem kh_apply (x : FVec Ideal S8x256x512 .bf16) (o hs) (r : Fin 256) (d : Fin 512) (l : Fin 8) (hl : o = l.val) : kh x o hs (ix2 r d) = x (ix3 l r d) := by
  subst hl
  pointwise [kh]

theorem sc_apply (q : FVec Ideal S512x512 .f32) (k : FVec Ideal S256x512 .f32) (r : Fin 512) (i : Fin 256) :
    sc q k (ix2 r i) = score (fun d => q (ix2 r d)) (fun i d => k (ix2 i d)) i := by
  pointwise [sc, rowsBy]
  rfl

theorem big_apply (s : FVec Ideal S512x256 .f32) (r : Fin 512) (i : Fin 256) : big s (ix2 r i) = top (fun i => s (ix2 r i)) := by
  pointwise [big]
  rfl

theorem ex_apply (s : FVec Ideal S512x256 .f32) (r : Fin 512) (i : Fin 256) : ex s (ix2 r i) = Attention.ex (fun i => s (ix2 r i)) i := by
  pointwise [ex]
  rw [big_apply]
  rfl

theorem tot0_apply (e : FVec Ideal S512x256 .f32) (r : Fin 512) : tot0 e (ix1 r) = ∑ x, e (ix2 r x) := by
  pointwise [tot0]

theorem tot1_apply (e : FVec Ideal S512x256 .f32) (r : Fin 512) (i : Fin 1) : tot1 e (ix2 r i) = ∑ x, e (ix2 r x) := by
  pointwise [tot1]
  rw [tot0_apply]

theorem over_apply (x : FVec Ideal S512x1 .f32) (r : Fin 512) (i : Fin 256) : over x (ix2 r i) = x (ix2 r 0) := by
  pointwise [over]

theorem sum1_apply (x : FVec Ideal S512x1 .f32) (r : Fin 512) : sum1 x (ix1 r) = x (ix2 r 0) := by
  pointwise [sum1]
  simp

theorem wts_apply (e : FVec Ideal S512x256 .f32) (r : Fin 512) (i : Fin 256) : wts e (ix2 r i) = Ideal.div (e (ix2 r i)) (∑ x, e (ix2 r x)) := by
  pointwise [wts]
  rw [over_apply, tot1_apply]

theorem inv_apply (e : FVec Ideal S512x256 .f32) (r : Fin 512) : inv e (ix2 r 0) = Ideal.div 1 ((∑ x, e (ix2 r x)) * (∑ x, e (ix2 r x))) := by
  pointwise [inv]
  rw [tot1_apply]

theorem dp_apply (o : FVec Ideal S512x512 .f32) (v : FVec Ideal S256x512 .f32) (r : Fin 512) (i : Fin 256) :
    dp o v (ix2 r i) = AttentionGrad.dp (fun d => o (ix2 r d)) (fun i d => v (ix2 i d)) i := by
  pointwise [dp, rowsBy]
  simp only [Finset.univ_unique, Finset.sum_singleton]
  rfl

theorem byKeys_apply (p : FVec Ideal S512x256 .f32) (k : FVec Ideal S256x512 .f32) (r d : Fin 512) :
    byKeys p k (ix2 r d) = ∑ i, p (ix2 r i) * k (ix2 i d) := by
  pointwise [byKeys]
  simp only [Finset.univ_unique, Finset.sum_singleton]

theorem byRows_apply (p : FVec Ideal S512x256 .f32) (q : FVec Ideal S512x512 .f32) (i : Fin 256) (d : Fin 512) :
    byRows p q (ix2 i d) = ∑ r, p (ix2 r i) * q (ix2 r d) := by
  pointwise [byRows]
  simp only [Finset.univ_unique, Finset.sum_singleton]

theorem wt_nonneg (s : FVec Ideal S512x256 .f32) (r : Fin 512) (i : Fin 256) : (0 : EReal) ≤ wt s (ix2 r i) := by
  pointwise [wt]
  generalize BitVec.ofBool _ = b
  exact EReal.coe_nonneg.2 (Int.cast_nonneg ((by decide : ∀ b : BitVec 1, 0 ≤ (BitVec.setWidth 32 b).toInt) b))

theorem back_apply (s : FVec Ideal S512x256 .f32) (g : FVec Ideal S512x256 .f32) (r : Fin 512) (i : Fin 256) :
    back (ex s) g (ix2 r i) = AttentionGrad.back (fun i => s (ix2 r i)) (fun i => g (ix2 r i)) i := by
  pointwise [back]
  simp only [over_apply, tot1_apply, ex_apply]
  pointwise
  rw [sum1_apply]
  pointwise
  rw [tot1_apply]
  pointwise
  simp only [over_apply, inv_apply, ex_apply, zero_sub]
  rfl

theorem ds_apply (s : FVec Ideal S512x256 .f32) (g : FVec Ideal S512x256 .f32) (r : Fin 512) (i : Fin 256) (hg : ∀ i, ∃ a : ℝ, g (ix2 r i) = a) :
    ds s (ex s) g (ix2 r i) = AttentionGrad.ds (fun i => s (ix2 r i)) (fun i => g (ix2 r i)) i := by
  rw [← AttentionGrad.term _ _ (fun i => wt s (ix2 r i)) (fun i => wt_nonneg s r i) hg]
  pointwise [ds]
  simp only [over_apply, back_apply]
  pointwise
  rw [sum1_apply, tot1_apply, tot0_apply]
  pointwise
  simp only [back_apply]

theorem pack_apply (f : Fin 4 → FVec Ideal S512x512 .f32) (r : Fin 512) (l : Fin 2048) : pack f (ix2 r l) = f (hd l) (ix2 r (pl l)) := by
  show concatenate S512x2048 1 (List.ofFn fun n : Fin 4 => (⟨S512x512, f n⟩ : (s : Shape) × (s.Idx → EReal))) concatenates_S512x512_S512x512_S512x512_S512x512_S512x2048_d1 (ix2 r l) = _
  exact concatenate_ofFn_apply (t := S512x2048) 1 f _ rfl 512 rfl (ix2 r l) (hd l) rfl (ix2 r (pl l)) rfl (fun b hb => match b with | ⟨0, _⟩ => rfl | ⟨1, _⟩ => absurd rfl hb)

theorem stack_keys (f g : Fin 4 → FVec Ideal S256x512 .f32) (h : Fin 4) (i : Fin 256) (d : Fin 512) : stack f g (ix3 (key h) i d) = f h (ix2 i d) := by
  match h with
  | 0 | 1 | 2 | 3 => pointwise [stack, lift, key]

theorem stack_values (f g : Fin 4 → FVec Ideal S256x512 .f32) (h : Fin 4) (i : Fin 256) (d : Fin 512) : stack f g (ix3 (val h) i d) = g h (ix2 i d) := by
  match h with
  | 0 | 1 | 2 | 3 => pointwise [stack, lift, val]

end Cert.GradBlock

end
-- ==== Proof.GradRef.lean ====
/- The reference's gradients of the softmax attention at an index. -/
module

public import proofs.«01_k».proof.Proof.AttentionGrad
public import proofs.«01_k».proof.Proof.Gen.Reference26Ideal.Read

@[expose] public section

set_option maxRecDepth 16384
set_option maxHeartbeats 1000000

noncomputable section

namespace Cert.GradRef

open Cert.Reference26Ideal Idealize.ShloMosaic
open Cert.Reference26Ideal.Read
open Cert.Attention (cS score top pr max_top fold_last hd pl lane key val lane_hd hd_lane pl_lane)

/-- A row's queries, a head's keys and values, and a row's incoming gradient. -/
abbrev qy (x0 : FVec Ideal S2048x2048 .bf16) (h : Fin 4) (r : Fin 2048) : Fin 512 → EReal := fun d => x0 (ix2 r (lane h d))
abbrev ky (x1 : FVec Ideal S8x256x512 .bf16) (h : Fin 4) : Fin 256 → Fin 512 → EReal := fun i d => x1 (ix3 (key h) i d)
abbrev vy (x1 : FVec Ideal S8x256x512 .bf16) (h : Fin 4) : Fin 256 → Fin 512 → EReal := fun i d => x1 (ix3 (val h) i d)
abbrev oy (x2 : FVec Ideal S1x2048x2048 .bf16) (h : Fin 4) (r : Fin 2048) : Fin 512 → EReal := fun d => x2 (ix3 0 r (lane h d))

/-- The gradient of the products at a head, a row and a key. -/
def gs (x0 : FVec Ideal S2048x2048 .bf16) (x1 : FVec Ideal S8x256x512 .bf16) (x2 : FVec Ideal S1x2048x2048 .bf16) (h : Fin 4) (r : Fin 2048) (i : Fin 256) : EReal :=
  AttentionGrad.ds (score (qy x0 h r) (ky x1 h)) (AttentionGrad.dp (oy x2 h r) (vy x1 h)) i

/-- The gradients of the queries, the keys and the values. -/
def gq (x0 : FVec Ideal S2048x2048 .bf16) (x1 : FVec Ideal S8x256x512 .bf16) (x2 : FVec Ideal S1x2048x2048 .bf16) (r : Fin 2048) (h : Fin 4) (d : Fin 512) : EReal :=
  ∑ i, gs x0 x1 x2 h r i * ky x1 h i d
def gk (x0 : FVec Ideal S2048x2048 .bf16) (x1 : FVec Ideal S8x256x512 .bf16) (x2 : FVec Ideal S1x2048x2048 .bf16) (h : Fin 4) (i : Fin 256) (d : Fin 512) : EReal :=
  ∑ r, gs x0 x1 x2 h r i * qy x0 h r d
def gv (x0 : FVec Ideal S2048x2048 .bf16) (x1 : FVec Ideal S8x256x512 .bf16) (x2 : FVec Ideal S1x2048x2048 .bf16) (h : Fin 4) (i : Fin 256) (d : Fin 512) : EReal :=
  ∑ r, pr (score (qy x0 h r) (ky x1 h)) i * oy x2 h r d

theorem ref_score (x0 x1) (h : Fin 4) (r : Fin 2048) (i : Fin 256) :
    val_main_v12 (F := Ideal) x0 x1 (ix4 0 h r i) = score (qy x0 h r) (ky x1 h) i := by
  pointwise [val_main_v12, val_main_v11, val_main_v10, val_main_v7, val_main_v6,val_main_v5, val_main_v4,val_main_v3,val_main_v2,val_main_v1,val_main_v0, val_main_cst]
  rfl

theorem ref_big (x0 x1) (h : Fin 4) (r : Fin 2048) :
    val_main_v20 (F := Ideal) x0 x1 (ix3 0 h r) = top (fun i => val_main_v12 (F := Ideal) x0 x1 (ix4 0 h r i)) := by
  rw [val_main_v20_apply]
  unfold val_main_v13
  generalize val_main_v12 (F := Ideal) x0 x1 = y
  exact (congrArg (max _) (fold_last y _ _ _ h r)).trans (max_top _)

theorem ref_ex (x0 x1) (h : Fin 4) (r : Fin 2048) (i : Fin 256) :
    val_main_v33 (F := Ideal) x0 x1 (ix4 0 h r i) = Attention.ex (score (qy x0 h r) (ky x1 h)) i := by
  pointwise [val_main_v33, val_main_v32, val_main_v31, val_main_v30]
  rw [ref_big]
  simp only [ref_score]
  rfl

theorem ref_tot (x0 x1) (h : Fin 4) (r : Fin 2048) :
    val_main_v35 (F := Ideal) x0 x1 (ix4 0 h r 0) = ∑ x, Attention.ex (score (qy x0 h r) (ky x1 h)) x := by
  pointwise [val_main_v35, val_main_v34, val_main_cst_8]
  simp only [ref_ex]

theorem ref_pr (x0 x1) (h : Fin 4) (r : Fin 2048) (i : Fin 256) :
    val_main_v37 (F := Ideal) x0 x1 (ix4 0 h r i) = pr (score (qy x0 h r) (ky x1 h)) i := by
  pointwise [val_main_v37, val_main_v36]
  rw [ref_ex, ref_tot]
  rfl

theorem ref_dp (x1 x2) (h : Fin 4) (r : Fin 2048) (i : Fin 256) :
    val_main_v47 (F := Ideal) x1 x2 (ix4 0 h r i) = AttentionGrad.dp (oy x2 h r) (vy x1 h) i := by
  pointwise [val_main_v47, val_main_v46, val_main_v45, val_main_v44, val_main_v9, val_main_v8, val_main_v5, val_main_v3, val_main_v2, val_main_v1]
  rfl

theorem one_fiber (v : S1x4x2048x1.Idx → EReal) (init : EReal) (hh : S1x4x2048x1.ReducesTo [0, 3] S4x2048) (h : Fin 4) (r : Fin 2048) :
    Ideal.hostReduceAdd hh v init (ix2 h r) = init + v (ix4 0 h r 0) := by
  refine congrArg (init + ·) ?_
  rw [show (Finset.univ.filter fun i => hh.drop i = ix2 h r) = {ix4 0 h r 0} from ?_, Finset.sum_singleton]
  ext i
  simp only [Finset.mem_filter, Finset.mem_univ, true_and, Finset.mem_singleton]
  constructor
  · intro e
    funext a; apply Fin.ext
    match a with
    | ⟨0, _⟩ => exact Nat.lt_one_iff.1 (i 0).isLt
    | ⟨1, _⟩ => exact congrArg Fin.val (congrFun e 0)
    | ⟨2, _⟩ => exact congrArg Fin.val (congrFun e 1)
    | ⟨3, _⟩ => exact Nat.lt_one_iff.1 (i 3).isLt
  · rintro rfl
    funext a; apply Fin.ext
    match a with
    | ⟨0, _⟩ => rfl
    | ⟨1, _⟩ => rfl

theorem ref_mean (x0 x1 x2) (h : Fin 4) (r : Fin 2048) :
    val_main_v58 (F := Ideal) x0 x1 x2 (ix2 h r) = -AttentionGrad.mean (score (qy x0 h r) (ky x1 h)) (AttentionGrad.dp (oy x2 h r) (vy x1 h)) := by
  refine (one_fiber _ _ _ h r).trans ?_
  pointwise [val_main_cst_11, val_main_v55, val_main_v54, val_main_v53, val_main_v52, val_main_v51, val_main_v50, val_main_v40, val_main_v39, val_main_v38, val_main_cst_9, val_main_cst_10]
  simp only [ref_ex, ref_tot, ref_dp]
  rfl

theorem ref_ds (x0 x1 x2) (h : Fin 4) (r : Fin 2048) (i : Fin 256) : val_main_v64 (F := Ideal) x0 x1 x2 (ix4 0 h r i) = gs x0 x1 x2 h r i := by
  pointwise [val_main_v64, val_main_v63, val_main_cst_12, val_main_v62, val_main_v61, val_main_v60, val_main_v59, val_main_v57, val_main_v56]
  rw [ref_dp, ref_tot, ref_ex, ref_mean]
  rfl

end Cert.GradRef

end
-- ==== Proof.GradRefOut.lean ====
/- The reference's gradients of the queries, the keys and the values at an index. -/
module

public import proofs.«01_k».proof.Proof.GradRef

@[expose] public section

set_option maxRecDepth 16384
set_option maxHeartbeats 1000000

noncomputable section

namespace Cert.GradRef

open Cert.Reference26Ideal Idealize.ShloMosaic
open Cert.Reference26Ideal.Read
open Cert.Attention (cS score top pr max_top hd pl lane key val lane_hd hd_lane pl_lane)

theorem key_div (h : Fin 4) (p) : (⟨(key h).val / 4, p⟩ : Fin 2) = 0 := Fin.ext (by show h.val / 4 = 0; omega)
theorem key_mod (h : Fin 4) (p) : (⟨(key h).val % 4, p⟩ : Fin 4) = h := Fin.ext (by show h.val % 4 = h.val; omega)
theorem val_div (h : Fin 4) (p) : (⟨(val h).val / 4, p⟩ : Fin 2) = 1 := Fin.ext (by show (4 + h.val) / 4 = 1; omega)
theorem val_mod (h : Fin 4) (p) : (⟨(val h).val % 4, p⟩ : Fin 4) = h := Fin.ext (by show (4 + h.val) % 4 = h.val; omega)

theorem low_k (x0 x1 x2) (h : Fin 4) (i : Fin 256) (d : Fin 512) : val_main_v72 (F := Ideal) x0 x1 x2 (ix5 0 i 0 h d) = val_main_v66 (F := Ideal) x0 x1 x2 (ix4 0 i h d) := by
  pointwise [val_main_v72, val_main_v71]
theorem low_v (x0 x1 x2) (h : Fin 4) (i : Fin 256) (d : Fin 512) : val_main_v72 (F := Ideal) x0 x1 x2 (ix5 0 i 1 h d) = 0 := by
  pointwise [val_main_v72, val_main_cst_14]
theorem high_k (x0 x1 x2) (h : Fin 4) (i : Fin 256) (d : Fin 512) : val_main_v70 (F := Ideal) x0 x1 x2 (ix5 0 i 0 h d) = 0 := by
  pointwise [val_main_v70, val_main_cst_13]
theorem high_v (x0 x1 x2) (h : Fin 4) (i : Fin 256) (d : Fin 512) : val_main_v70 (F := Ideal) x0 x1 x2 (ix5 0 i 1 h d) = val_main_v49 (F := Ideal) x0 x1 x2 (ix4 0 i h d) := by
  pointwise [val_main_v70, val_main_v69]

theorem ref_q (x0 x1 x2) (r l : Fin 2048) : val_main_v76 (F := Ideal) x0 x1 x2 (ix2 r l) = gq x0 x1 x2 r (hd l) (pl l) := by
  pointwise [val_main_v76, val_main_v75, val_main_v68, val_main_v67, val_main_v7, val_main_v6, val_main_v5, val_main_v3, val_main_v2, val_main_v1]
  simp only [ref_ds]
  rfl

theorem ref_k (x0 x1 x2) (h : Fin 4) (i : Fin 256) (d : Fin 512) : val_main_v78 (F := Ideal) x0 x1 x2 (ix3 (key h) i d) = gk x0 x1 x2 h i d := by
  pointwise [val_main_v78, val_main_v77, val_main_v74, val_main_v73]
  rw [key_div, key_mod, high_k, low_k, zero_add]
  pointwise [val_main_v66, val_main_v65, val_main_v4, val_main_v0]
  simp only [ref_ds]
  rfl

theorem ref_v (x0 x1 x2) (h : Fin 4) (i : Fin 256) (d : Fin 512) : val_main_v78 (F := Ideal) x0 x1 x2 (ix3 (val h) i d) = gv x0 x1 x2 h i d := by
  pointwise [val_main_v78, val_main_v77, val_main_v74, val_main_v73]
  rw [val_div, val_mod, high_v, low_v, add_zero]
  pointwise [val_main_v49, val_main_v48, val_main_v46, val_main_v45, val_main_v44]
  simp only [ref_pr]
  exact Finset.sum_congr rfl fun r _ => mul_comm _ _

end Cert.GradRef

end
-- ==== Proof.P26.lean ====
/- The softmax attention's backward pass: the kernel and the reference leave the gradients of the queries, and of the keys and values. -/
module

public import proofs.«01_k».proof.Defs
public import proofs.«01_k».proof.Proof.GradBlock
public import proofs.«01_k».proof.Proof.GradRefOut
public import proofs.«01_k».proof.Proof.P2
public import proofs.«01_k».proof.Proof.Gen.Kernel26Ideal.Value
public import proofs.«01_k».proof.Proof.Gen.Reference26Ideal.Run
public import Idealize.ShloMosaic.Lib.Pipeline.ValueKit

@[expose] public section

set_option maxRecDepth 16384
set_option maxHeartbeats 4000000

noncomputable section

namespace Cert.P26

open Cert.Kernel26Ideal Cert.Kernel26Ideal.Gen Idealize.ShloMosaic Idealize.ShloMosaic.TcCoe Idealize.SL.Sem
open Cert.GradBlock
open Cert.GradRef
open Cert.Reference26Ideal.Read
open Cert.Attention (score pr hd pl lane key val)

section Points

variable {F : FTy → Type} [FloatOps F]
variable (m : (ℓ : Loc nD τ sig) → Buf (Elt F) ℓ)

theorem first_q (c : Dev nD) (t : Fin cfg0.N) (h0 : t.val % 4 = 0) : (outsAt0 m c t.val t.isLt).1 = outQ (F := F) (iblk m c 0 t) (iblk m c 1 t) (iblk m c 2 t) := by
  rw [outsAt0_A m c t h0]; frame_out; sl_kernel_rfl
theorem next_q (c : Dev nD) (t : Fin cfg0.N) (h0 : ¬t.val % 4 = 0) : (outsAt0 m c t.val t.isLt).1 = outQ (F := F) (iblk m c 0 t) (iblk m c 1 t) (iblk m c 2 t) := by
  rw [outsAt0_B m c t h0]; frame_out; sl_kernel_rfl
theorem first_kv (c : Dev nD) (t : Fin cfg0.N) (h0 : t.val % 4 = 0) :
    (outsAt0 m c t.val t.isLt).2 = outKV (F := F) (iblk m c 0 t) (iblk m c 1 t) (iblk m c 2 t) (k0_pay5 k0_pay3) := by
  rw [outsAt0_A m c t h0]; frame_out; sl_kernel_rfl
theorem next_kv (c : Dev nD) (t : Fin cfg0.N) (h0 : ¬t.val % 4 = 0) :
    (outsAt0 m c t.val t.isLt).2 = outKV (F := F) (iblk m c 0 t) (iblk m c 1 t) (iblk m c 2 t) (k0_pay5 (outsAt0 m c (t.val - 1) (by omega)).2) := by
  rw [outsAt0_B m c t h0]; frame_out; sl_kernel_rfl

/-- Every point leaves its block of the queries' gradient. -/
theorem out_q (c : Dev nD) (t : Fin cfg0.N) : (outsAt0 m c t.val t.isLt).1 = outQ (F := F) (iblk m c 0 t) (iblk m c 1 t) (iblk m c 2 t) := by
  by_cases h0 : t.val % 4 = 0
  · exact first_q m c t h0
  · exact next_q m c t h0

end Points

section Ideal

theorem qs_apply (x : FVec Ideal S512x2048 .bf16) (h : Fin 4) (r d : Fin 512) : qs x h (ix2 r d) = x (ix2 r (lane h d)) := by
  match h with
  | 0 => exact qh_apply x 0 _ 0 rfl r d
  | 1 => exact qh_apply x 512 _ 1 rfl r d
  | 2 => exact qh_apply x 1024 _ 2 rfl r d
  | 3 => exact qh_apply x 1536 _ 3 rfl r d

theorem ks_apply (x : FVec Ideal S8x256x512 .bf16) (h : Fin 4) (i : Fin 256) (d : Fin 512) : ks x h (ix2 i d) = x (ix3 (key h) i d) := by
  match h with
  | 0 => exact kh_apply x 0 _ i d (key 0) rfl
  | 1 => exact kh_apply x 1 _ i d (key 1) rfl
  | 2 => exact kh_apply x 2 _ i d (key 2) rfl
  | 3 => exact kh_apply x 3 _ i d (key 3) rfl

theorem vs_apply (x : FVec Ideal S8x256x512 .bf16) (h : Fin 4) (i : Fin 256) (d : Fin 512) : vs x h (ix2 i d) = x (ix3 (val h) i d) := by
  match h with
  | 0 => exact kh_apply x 4 _ i d (val 0) rfl
  | 1 => exact kh_apply x 5 _ i d (val 1) rfl
  | 2 => exact kh_apply x 6 _ i d (val 2) rfl
  | 3 => exact kh_apply x 7 _ i d (val 3) rfl

theorem flat (o : FVec Ideal S1x512x2048 .bf16) (r : Fin 512) (l : Fin 2048) : k0_pay4 o (ix2 r l) = o (ix3 0 r l) := by pointwise [k0_pay4]

theorem same (a : FVec Ideal S8x256x512 .f32) (j) : k0_pay5 a j = a j := by pointwise [k0_pay5]

theorem zero (j) : k0_pay3 (F := Ideal) j = 0 := by pointwise [k0_pay3]

theorem hds_apply (q : FVec Ideal S512x512 .f32) (k v : FVec Ideal S256x512 .f32) (o : FVec Ideal S512x512 .f32) (r : Fin 512) (i : Fin 256)
    (hv : ∀ i d, ∃ a : ℝ, v (ix2 i d) = a) (ho : ∀ d, ∃ a : ℝ, o (ix2 r d) = a) :
    hds q k v o (ix2 r i) = AttentionGrad.ds (score (fun d => q (ix2 r d)) (fun i d => k (ix2 i d)))
      (AttentionGrad.dp (fun d => o (ix2 r d)) (fun i d => v (ix2 i d))) i := by
  unfold hds
  rw [ds_apply _ _ _ _ fun i => by rw [dp_apply]; exact AttentionGrad.dp_real _ _ ho hv i]
  simp only [sc_apply, dp_apply]

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, t.val, 0] ∧ win0_3.index t = ![t.val, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2; omega⟩

theorem q_eq (t : Fin cfg0.N) (r : Fin 512) (l : Fin 2048) : iblk m c 0 t (ix2 r l) = m ((c : Thread nD τ).loc main_arg0) (ix2 (row t r) l) := by
  blk_ext [iblk, V, idx t, row]

theorem kv_eq (t : Fin cfg0.N) (h : Fin 8) (i : Fin 256) (d : Fin 512) : iblk m c 1 t (ix3 h i d) = m ((c : Thread nD τ).loc main_arg1) (ix3 h i d) := by
  blk_ext [iblk, V, idx t]

theorem o_eq (t : Fin cfg0.N) (r : Fin 512) (l : Fin 2048) : iblk m c 2 t (ix3 0 r l) = m ((c : Thread nD τ).loc main_arg2) (ix3 0 (row t r) l) := by
  blk_ext [iblk, V, idx t, row]

theorem emb_eq (t : Fin cfg0.N) (r : Fin 512) (l : Fin 2048) : ((cfg0.win 3).blk t).view.emb (ix2 r l) = ix2 (row t r) l := by
  blk_ext [idx t, row]

/-- The values and the incoming gradient are finite. -/
def Fin1 (x1 : FVec Ideal S8x256x512 .bf16) : Prop := ∀ (h : Fin 4) (i : Fin 256) (d : Fin 512), ∃ a : ℝ, x1 (ix3 (val h) i d) = a
def Fin2 (x2 : FVec Ideal S1x2048x2048 .bf16) : Prop := ∀ (r l : Fin 2048), ∃ a : ℝ, x2 (ix3 0 r l) = a

variable (h1 : Fin1 (m ((c : Thread nD τ).loc main_arg1))) (h2 : Fin2 (m ((c : Thread nD τ).loc main_arg2)))

include h1 h2 in
theorem grad_eq (t : Fin cfg0.N) (h : Fin 4) (r : Fin 512) (i : Fin 256) :
    hds (F := Ideal) (qs (iblk m c 0 t) h) (ks (iblk m c 1 t) h) (vs (iblk m c 1 t) h) (qs (k0_pay4 (iblk m c 2 t)) h) (ix2 r i)
      = gs (m ((c : Thread nD τ).loc main_arg0)) (m ((c : Thread nD τ).loc main_arg1)) (m ((c : Thread nD τ).loc main_arg2)) h (row t r) i := by
  rw [hds_apply _ _ _ _ _ _ (fun i d => by rw [vs_apply, kv_eq]; exact h1 h i d) (fun d => by rw [qs_apply, flat, o_eq]; exact h2 _ _)]
  simp only [qs_apply, ks_apply, vs_apply, flat, q_eq, kv_eq, o_eq]
  rfl

include h1 h2 in
theorem point_q (t : Fin cfg0.N) (r : Fin 512) (l : Fin 2048) : outQ (F := Ideal) (iblk m c 0 t) (iblk m c 1 t) (iblk m c 2 t) (ix2 r l)
    = gq (m ((c : Thread nD τ).loc main_arg0)) (m ((c : Thread nD τ).loc main_arg1)) (m ((c : Thread nD τ).loc main_arg2)) (row t r) (hd l) (pl l) := by
  unfold outQ
  rw [pack_apply]
  unfold hdq
  rw [byKeys_apply]
  simp only [grad_eq m c h1 h2, ks_apply, kv_eq]
  rfl

/-- What a row adds to the gradients of the keys and the values. -/
def adds (x0 : FVec Ideal S2048x2048 .bf16) (x1 : FVec Ideal S8x256x512 .bf16) (x2 : FVec Ideal S1x2048x2048 .bf16) (r : Fin 2048) (j : S8x256x512.Idx) : EReal :=
  if (j 0).val < 4 then gs x0 x1 x2 ⟨(j 0).val % 4, Nat.mod_lt _ (by decide)⟩ r (j 1) * qy x0 ⟨(j 0).val % 4, Nat.mod_lt _ (by decide)⟩ r (j 2)
  else pr (score (qy x0 ⟨(j 0).val % 4, Nat.mod_lt _ (by decide)⟩ r) (ky x1 ⟨(j 0).val % 4, Nat.mod_lt _ (by decide)⟩)) (j 1)
    * oy x2 ⟨(j 0).val % 4, Nat.mod_lt _ (by decide)⟩ r (j 2)

theorem adds_key (x0 x1 x2) (r : Fin 2048) (h : Fin 4) (i : Fin 256) (d : Fin 512) : adds x0 x1 x2 r (ix3 (key h) i d) = gs x0 x1 x2 h r i * qy x0 h r d := by
  refine (if_pos h.isLt).trans ?_
  rw [show (⟨((ix3 (key h) i d : S8x256x512.Idx) 0).val % 4, Nat.mod_lt _ (by decide)⟩ : Fin 4) = h from key_mod h _]
  rfl

theorem adds_val (x0 x1 x2) (r : Fin 2048) (h : Fin 4) (i : Fin 256) (d : Fin 512) :
    adds x0 x1 x2 r (ix3 (val h) i d) = pr (score (qy x0 h r) (ky x1 h)) i * oy x2 h r d := by
  refine (if_neg (by show ¬ 4 + h.val < 4; omega)).trans ?_
  rw [show (⟨((ix3 (val h) i d : S8x256x512.Idx) 0).val % 4, Nat.mod_lt _ (by decide)⟩ : Fin 4) = h from val_mod h _]
  rfl

/-- The gradients of the keys and the values. -/
def gkv (x0 : FVec Ideal S2048x2048 .bf16) (x1 : FVec Ideal S8x256x512 .bf16) (x2 : FVec Ideal S1x2048x2048 .bf16) : FVec Ideal S8x256x512 .f32 :=
  fun j => ∑ r, adds x0 x1 x2 r j

theorem cases_kv (P : S8x256x512.Idx → Prop) (hk : ∀ h i d, P (ix3 (key h) i d)) (hv : ∀ h i d, P (ix3 (val h) i d)) (j) : P j := by
  obtain ⟨n, i, d, rfl⟩ : ∃ (n : Fin 8) (i : Fin 256) (d : Fin 512), j = ix3 n i d := ⟨j 0, j 1, j 2, by funext k; match k with | 0 => rfl | 1 => rfl | 2 => rfl⟩
  by_cases hn : n.val < 4
  · exact (show key ⟨n.val, hn⟩ = n from rfl) ▸ hk ⟨n.val, hn⟩ i d
  · have e : val ⟨n.val - 4, by omega⟩ = n := Fin.ext (by show 4 + (n.val - 4) = n.val; omega)
    exact e ▸ hv ⟨n.val - 4, by omega⟩ i d

include h1 h2 in
theorem point_kv (t : Fin cfg0.N) (a : FVec Ideal S8x256x512 .f32) (j) : outKV (F := Ideal) (iblk m c 0 t) (iblk m c 1 t) (iblk m c 2 t) a j
    = a j + ∑ r, adds (m ((c : Thread nD τ).loc main_arg0)) (m ((c : Thread nD τ).loc main_arg1)) (m ((c : Thread nD τ).loc main_arg2)) (row t r) j := by
  revert j
  refine cases_kv _ (fun h i d => ?_) (fun h i d => ?_)
  · refine congrArg (a _ + ·) ((stack_keys _ _ h i d).trans ?_)
    unfold hdk
    rw [byRows_apply]
    simp only [grad_eq m c h1 h2, adds_key, qs_apply, q_eq]
  · refine congrArg (a _ + ·) ((stack_values _ _ h i d).trans ?_)
    unfold hdv
    rw [byRows_apply]
    refine Finset.sum_congr rfl fun r _ => ?_
    rw [adds_val, wts_apply]
    simp only [ex_apply, sc_apply, qs_apply, ks_apply, flat, q_eq, kv_eq, o_eq]
    rfl

include h1 h2 in
theorem final_q : (dats m 0 c).arrAt 3 cfg0.N
    = fun j => gq (m ((c : Thread nD τ).loc main_arg0)) (m ((c : Thread nD τ).loc main_arg1)) (m ((c : Thread nD τ).loc main_arg2)) (j 0) (hd (j 1)) (pl (j 1)) := by
  refine (dats m 0 c).arrAt_eq_of_covers 3 _ (by decide +kernel) fun t _ y => ?_
  blk_simp
  rw [after0_3, out_q]
  obtain ⟨r, l, rfl⟩ : ∃ (r : Fin 512) (l : Fin 2048), y = ix2 r l := ⟨y 0, y 1, by funext k; match k with | 0 => rfl | 1 => rfl⟩
  rw [emb_eq]
  exact point_q m c h1 h2 t r l

include h1 h2 in
theorem final_kv : (dats m 0 c).arrAt 4 cfg0.N
    = gkv (m ((c : Thread nD τ).loc main_arg0)) (m ((c : Thread nD τ).loc main_arg1)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0)
    (fun t (j : S8x256x512.Idx) => ∑ r, adds (m ((c : Thread nD τ).loc main_arg0)) (m ((c : Thread nD τ).loc main_arg1)) (m ((c : Thread nD τ).loc main_arg2)) (row t r) j)
    (fun t h j => ?_) (fun t h j => ?_) (le_of_eq N_0) t0_3 rfl j]
  · rw [zero_add]
    exact Fin.sum_mul_add_congr fun s k hl => congrArg (fun r => adds _ _ _ r j) rfl
  · rw [first_kv m c t h, point_kv m c h1 h2, same, zero]
  · rw [next_kv m c t h, point_kv m c h1 h2, same]

theorem ref_kv (x0 x1 x2) : val_main_v78 (F := Ideal) x0 x1 x2 = gkv x0 x1 x2 := by
  funext j
  revert j
  refine cases_kv _ (fun h i d => ?_) (fun h i d => ?_)
  · rw [ref_k]
    exact Finset.sum_congr rfl fun r _ => (adds_key x0 x1 x2 r h i d).symm
  · rw [ref_v]
    exact Finset.sum_congr rfl fun r _ => (adds_val x0 x1 x2 r h i d).symm

theorem ref_q' (x0 x1 x2) : val_main_v76 (F := Ideal) x0 x1 x2 = fun j => gq x0 x1 x2 (j 0) (hd (j 1)) (pl (j 1)) := by
  funext j
  obtain ⟨r, l, rfl⟩ : ∃ (r : Fin 2048) (l : Fin 2048), j = ix2 r l := ⟨j 0, j 1, by funext k; match k with | 0 => rfl | 1 => rfl⟩
  exact ref_q x0 x1 x2 r l

/-- A comparison with infinity that holds makes the value a real number. -/
theorem real (x : EReal) (h : BitVec.ofBool (decide (FloatOps.absf (F := Ideal) (φ := .f32) x < Ideal.ofBits .f32 0x7F800000#32)) = 1#1) : ∃ a : ℝ, x = a := by
  have e : (Ideal.ofBits .f32 0x7F800000#32 : EReal) = ⊤ := P2.inf
  rw [e] at h
  refine P2.real_of x ?_
  by_contra hn
  have : ¬(FloatOps.absf (F := Ideal) (φ := .f32) x : EReal) < ⊤ := hn
  rw [decide_eq_false this] at h
  exact absurd h (by decide)

section Pre

variable [Cert.Pre_finite_attend.Facts]

theorem finite1 (x0 : FVec Ideal S2048x2048 .bf16) (x1 : FVec Ideal S8x256x512 .bf16) (x2 : FVec Ideal S1x2048x2048 .bf16)
    (h : (Cert.Pre_finite_attend.fn (F := Ideal) x0 x1 x2).1 = fun _ => 1#1) : Fin1 x1 := by
  intro b i d
  have hj := congrFun h (ix3 b i d)
  revert hj
  pointwise [Cert.Pre_finite_attend.fn]
  exact real _

theorem finite2 (x0 : FVec Ideal S2048x2048 .bf16) (x1 : FVec Ideal S8x256x512 .bf16) (x2 : FVec Ideal S1x2048x2048 .bf16)
    (h : (Cert.Pre_finite_attend.fn (F := Ideal) x0 x1 x2).2 = fun _ => 1#1) : Fin2 x2 := by
  intro r l
  have hj := congrFun h (ix3 0 r l)
  revert hj
  pointwise [Cert.Pre_finite_attend.fn]
  exact real _

end Pre

instance facts : Cert.Pre_finite_attend.Facts where
  slices_S8x256x512_S4x256x512_4_0_0 := by decide
  bitsLt_bf16_f32 := by decide
  bcast_S_S4x256x512 := by decide
  bcast_S_S1x2048x2048 := by decide

/-- The two programs end with equal results. -/
theorem equal : letI := Cert.Kernel26Ideal.Gen.facts; letI := Cert.Reference26Ideal.Gen.facts; letI := Cert.P26.facts; Cert.algebraic_Kernel26Ideal_Reference26Ideal_pre_finite_attend := by
  intro m g m' g' hpre hagree
  refine ⟨fun c j => gq (m ((c.tc : Thread nD τ).loc main_arg0)) (m ((c.tc : Thread nD τ).loc main_arg1)) (m ((c.tc : Thread nD τ).loc main_arg2)) (j 0) (hd (j 1)) (pl (j 1)),
    fun c => gkv (m ((c.tc : Thread nD τ).loc main_arg0)) (m ((c.tc : Thread nD τ).loc main_arg1)) (m ((c.tc : Thread nD τ).loc main_arg2)),
    (θ_run _ _ _).mono (fun r h c => ?_) (Cert.Kernel26Ideal.Value.run_blocks m g),
    (θ_run _ _ _).mono (fun r h c => ?_) (Cert.Reference26Ideal.Value.run m' g')⟩
  · obtain ⟨hq, hkv, hk⟩ := h c
    obtain ⟨p1, p2⟩ := hpre c
    exact ⟨hq.trans (final_q m c (finite1 _ _ _ p1) (finite2 _ _ _ p2)), hkv.trans (final_kv m c (finite1 _ _ _ p1) (finite2 _ _ _ p2)), hk⟩
  · obtain ⟨hq, hkv, hk⟩ := h c
    obtain ⟨a0, a1, a2⟩ := hagree c
    refine ⟨hq.trans ((val_main_v76_eq _ _).trans ((ref_q' _ _ _).trans ?_)), hkv.trans ((val_main_v78_eq _ _).trans ((ref_kv _ _ _).trans (congr (congr (congrArg _ a0) a1) a2))), hk⟩
    funext j
    exact congr (congr (congr (congr (congr (congrArg _ a0) a1) a2) rfl) rfl) rfl

end Ideal

end Cert.P26

end
-- ==== Proof.P27.lean ====
/- The gated activation: the kernel and the reference leave each gate's silu times its partner. -/
module

public import proofs.«01_k».proof.Defs
public import proofs.«01_k».proof.Proof.Curve
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit

@[expose] public section

set_option maxRecDepth 16384
set_option maxHeartbeats 1000000

noncomputable section

namespace Cert.P27

open Cert.Kernel27Ideal Cert.Kernel27Ideal.Gen Idealize.ShloMosaic Idealize.ShloMosaic.TcCoe Idealize.SL.Sem
open Idealize.ShloMosaic.Pipeline (Dat)
open Cert.Reference27Ideal.Read
open Cert.P2 (sg)

variable (m : (ℓ : Loc nD τ sig) → Buf (Elt Ideal) ℓ) (c : Dev nD)

theorem idx : ∀ t : Fin cfg0.N, win0_0.index t = ![t.val / 4, t.val % 4, 0] ∧ win0_1.index t = ![t.val / 4 + 4, t.val % 4, 0]
    ∧ win0_2.index t = ![t.val / 4, t.val % 4, 0] ∧ t.val < 16 :=
  (by decide +kernel : ∀ t : Fin grid0.N, _)

/-- Row `r` of a point's block, and the slab it lies in. -/
def row (t : Fin cfg0.N) (r : Fin 512) : Fin 2048 := ⟨t.val % 4 * 512 + r.val, by omega⟩
def slab (t : Fin cfg0.N) : Fin 4 := ⟨t.val / 4, by have := (idx t).2.2.2; omega⟩

/-- A gate's slab and its partner's. -/
abbrev gate (b : Fin 4) : Fin 8 := ⟨b.val, by omega⟩
abbrev up (b : Fin 4) : Fin 8 := ⟨b.val + 4, by omega⟩

theorem gate_eq (t : Fin cfg0.N) (r : Fin 512) (l : Fin 1408) : iblk m c 0 t (ix3 0 r l) = m ((c : Thread nD τ).loc main_arg0) (ix3 (gate (slab t)) (row t r) l) := by
  blk_ext [iblk, V, idx t, row, slab]

theorem up_eq (t : Fin cfg0.N) (r : Fin 512) (l : Fin 1408) : iblk m c 1 t (ix3 0 r l) = m ((c : Thread nD τ).loc main_arg0) (ix3 (up (slab t)) (row t r) l) := by
  blk_ext [iblk, V, idx t, row, slab]

theorem emb_eq (t : Fin cfg0.N) (r : Fin 512) (l : Fin 1408) : ((cfg0.win 2).blk t).view.emb (ix3 0 r l) = ix3 (slab t) (row t r) l := by
  blk_ext [idx t, row, slab]

/-- The result. -/
def act (x : FVec Ideal S8x2048x1408 .bf16) (b : Fin 4) (r : Fin 2048) (l : Fin 1408) : EReal :=
  x (ix3 (gate b) r l) * sg (x (ix3 (gate b) r l)) * x (ix3 (up b) r l)
def spec (x : FVec Ideal S8x2048x1408 .bf16) : FVec Ideal S4x2048x1408 .bf16 := fun j => act x (j 0) (j 1) (j 2)

theorem pay_apply (x0 x1 : FVec Ideal S1x512x1408 .bf16) (r : Fin 512) (l : Fin 1408) :
    k0_pay1 (F := Ideal) x0 x1 (ix3 0 r l) = x0 (ix3 0 r l) * sg (x0 (ix3 0 r l)) * x1 (ix3 0 r l) := by
  pointwise [k0_pay1]
  rw [zero_sub]

theorem mid (x : FVec Ideal S8x2048x1408 .bf16) (r : Fin 2048) (l : Fin 5632) : val_main_v6 (F := Ideal) x (ix2 r l)
    = x (ix3 (⟨l.val / 1408, by omega⟩ : Fin 8) r (⟨l.val % 1408, by omega⟩ : Fin 1408))
        * sg (x (ix3 (⟨l.val / 1408, by omega⟩ : Fin 8) r (⟨l.val % 1408, by omega⟩ : Fin 1408)))
        * x (ix3 (⟨(5632 + l.val) / 1408, by omega⟩ : Fin 8) r (⟨(5632 + l.val) % 1408, by omega⟩ : Fin 1408)) := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6]

theorem ref (x : FVec Ideal S8x2048x1408 .bf16) : val_main_v9 (F := Ideal) x = spec x := by
  funext j
  obtain ⟨b, r, k, rfl⟩ : ∃ (b : Fin 4) (r : Fin 2048) (k : Fin 1408), j = ix3 b r k := ⟨j 0, j 1, j 2, by funext k; match k with | 0 => rfl | 1 => rfl | 2 => rfl⟩
  have h : val_main_v9 (F := Ideal) x (ix3 b r k) = val_main_v6 (F := Ideal) x (ix2 r ⟨b.val * 1408 + k.val, by omega⟩) := by
    pointwise [val_main_v9, val_main_v8, val_main_v7]
  have e1 : (⟨(b.val * 1408 + k.val) / 1408, by omega⟩ : Fin 8) = gate b := Fin.ext (by show (b.val * 1408 + k.val) / 1408 = b.val; omega)
  have e2 : (⟨(b.val * 1408 + k.val) % 1408, by omega⟩ : Fin 1408) = k := Fin.ext (by show (b.val * 1408 + k.val) % 1408 = k.val; omega)
  have e3 : (⟨(5632 + (b.val * 1408 + k.val)) / 1408, by omega⟩ : Fin 8) = up b := Fin.ext (by show (5632 + (b.val * 1408 + k.val)) / 1408 = b.val + 4; omega)
  have e4 : (⟨(5632 + (b.val * 1408 + k.val)) % 1408, by omega⟩ : Fin 1408) = k := Fin.ext (by show (5632 + (b.val * 1408 + k.val)) % 1408 = k.val; omega)
  rw [h, mid]
  simp only [e1, e2, e3, e4]
  rfl

theorem point (t : Fin cfg0.N) (y : S1x512x1408.Idx) : k0_pay1 (F := Ideal) (iblk m c 0 t) (iblk m c 1 t) y
    = spec (m ((c : Thread nD τ).loc main_arg0)) (((cfg0.win 2).blk t).view.emb y) := by
  obtain ⟨r, l, rfl⟩ : ∃ (r : Fin 512) (l : Fin 1408), y = ix3 0 r l :=
    ⟨y 1, y 2, by funext k; match k with | 0 => exact Subsingleton.elim (α := Fin 1) _ _ | 1 => rfl | 2 => rfl⟩
  rw [pay_apply, emb_eq]
  simp only [gate_eq, up_eq]
  rfl

theorem out_eq (t : Fin cfg0.N) (y : S1x512x1408.Idx) : out0_2 (iblk m c 0 t) (iblk m c 1 t) y
    = k0_pay1 (F := Ideal) (iblk m c 0 t) (iblk m c 1 t) y := by
  frame_out

theorem final : (dats m 0 c).arrAt 2 cfg0.N = spec (m ((c : Thread nD τ).loc main_arg0)) := by
  refine (dats m 0 c).arrAt_eq_of_covers 2 _ (by decide +kernel) fun t _ y => ?_
  blk_simp
  rw [after0_2]
  exact (out_eq m c t y).trans (point m c t y)

/-- The two programs end with equal results. -/
theorem equal : letI := Cert.Kernel27Ideal.Gen.facts; letI := Cert.Reference27Ideal.Gen.facts; Cert.algebraic_Kernel27Ideal_Reference27Ideal := by
  intro m g m' g' _ hagree
  refine ⟨fun c => spec (m ((c.tc : Thread nD τ).loc main_arg0)),
    (θ_run _ _ _).mono (fun r h c => ?_) (Cert.Kernel27Ideal.Value.run_blocks m g),
    (θ_run _ _ _).mono (fun r h c => ?_) (Cert.Reference27Ideal.Value.run m' g')⟩
  · obtain ⟨h, hk⟩ := h c
    exact ⟨h.trans (final m c), hk⟩
  · obtain ⟨h, hk⟩ := h c
    have a0 := hagree c
    exact ⟨h.trans ((val_main_v9_eq _).trans ((ref _).trans (congrArg _ a0))), hk⟩

end Cert.P27

end
-- ==== Proof.Norm.lean ====
/- The root-mean-square norm of a row: each value by the reciprocal root of the row's mean square and a gain. -/
module

public import Idealize.ShloMosaic.PureOps.Ideal.Laws

@[expose] public section

noncomputable section

namespace Cert.Norm

open Idealize.ShloMosaic

/-- The normed row at a place. -/
def nrm (x : Fin 2048 → EReal) (g : EReal) (l : Fin 2048) : EReal :=
  x l * Ideal.rsqrt (Ideal.div (∑ k, x k * x k) (Ideal.ofBits .f32 0x45000000#32) + Ideal.ofBits .f32 0x358637BD#32) * g

end Cert.Norm

end
-- ==== Proof.P28.lean ====
/- A row norm of the activations: the kernel and the reference leave each row normed. -/
module

public import proofs.«01_k».proof.Defs
public import proofs.«01_k».proof.Proof.Norm
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit

@[expose] public section

set_option maxRecDepth 16384
set_option maxHeartbeats 1000000

noncomputable section

namespace Cert.P28

open Cert.Kernel28Ideal Cert.Kernel28Ideal.Gen Idealize.ShloMosaic Idealize.ShloMosaic.TcCoe Idealize.SL.Sem
open Idealize.ShloMosaic.Pipeline (Dat)
open Cert.Reference28Ideal.Read
open Cert.Norm (nrm)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem gain_eq (t : Fin cfg0.N) (l : Fin 2048) : iblk m c 1 t (ix2 0 l) = m ((c : Thread nD τ).loc main_arg1) (ix2 0 l) := by
  blk_ext [iblk, V, idx t]

theorem emb_eq (t : Fin cfg0.N) (r : Fin 512) (l : Fin 2048) : ((cfg0.win 2).blk t).view.emb (ix2 r l) = ix2 (row t r) l := by
  blk_ext [idx t, row]

/-- The result. -/
def spec (x0 : FVec Ideal S2048x2048 .f32) (x1 : FVec Ideal S1x2048 .f32) : FVec Ideal S2048x2048 .bf16 :=
  fun j => nrm (fun k => x0 (ix2 (j 0) k)) (x1 (ix2 0 (j 1))) (j 1)

theorem pay_apply (x0 : FVec Ideal S512x2048 .f32) (x1 : FVec Ideal S1x2048 .f32) (r : Fin 512) (l : Fin 2048) : k0_pay1 (F := Ideal) x0 x1 (ix2 r l) = nrm (fun k => x0 (ix2 r k)) (x1 (ix2 0 l)) l := by
  pointwise [k0_pay1]
  rfl

theorem ref (x0 : FVec Ideal S2048x2048 .f32) (x1 : FVec Ideal S1x2048 .f32) : val_main_v16 (F := Ideal) x0 x1 = spec x0 x1 := by
  funext j
  obtain ⟨r, l, rfl⟩ : ∃ (r : Fin 2048) (l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16]
  rfl

theorem point (t : Fin cfg0.N) (y : S512x2048.Idx) : k0_pay1 (F := Ideal) (iblk m c 0 t) (iblk m c 1 t) y
    = spec (m ((c : Thread nD τ).loc main_arg0)) (m ((c : Thread nD τ).loc main_arg1)) (((cfg0.win 2).blk t).view.emb y) := by
  obtain ⟨r, l, rfl⟩ : ∃ (r : Fin 512) (l : Fin 2048), y = ix2 r l := ⟨y 0, y 1, by funext k; match k with | 0 => rfl | 1 => rfl⟩
  rw [pay_apply, emb_eq]
  simp only [x0_eq, gain_eq]
  rfl

theorem out_eq (t : Fin cfg0.N) (y : S512x2048.Idx) : out0_2 (iblk m c 0 t) (iblk m c 1 t) y
    = k0_pay1 (F := Ideal) (iblk m c 0 t) (iblk m c 1 t) y := by
  frame_out

theorem final : (dats m 0 c).arrAt 2 cfg0.N = spec (m ((c : Thread nD τ).loc main_arg0)) (m ((c : Thread nD τ).loc main_arg1)) := by
  refine (dats m 0 c).arrAt_eq_of_covers 2 _ (by decide +kernel) fun t _ y => ?_
  blk_simp
  rw [after0_2]
  exact (out_eq m c t y).trans (point m c t y)

/-- The two programs end with equal results. -/
theorem equal : letI := Cert.Kernel28Ideal.Gen.facts; letI := Cert.Reference28Ideal.Gen.facts; Cert.algebraic_Kernel28Ideal_Reference28Ideal := by
  intro m g m' g' _ hagree
  refine ⟨fun c => spec (m ((c.tc : Thread nD τ).loc main_arg0)) (m ((c.tc : Thread nD τ).loc main_arg1)),
    (θ_run _ _ _).mono (fun r h c => ?_) (Cert.Kernel28Ideal.Value.run_blocks m g),
    (θ_run _ _ _).mono (fun r h c => ?_) (Cert.Reference28Ideal.Value.run m' g')⟩
  · obtain ⟨h, hk⟩ := h c
    exact ⟨h.trans (final m c), hk⟩
  · obtain ⟨h, hk⟩ := h c
    obtain ⟨a0, a1⟩ := hagree c
    exact ⟨h.trans ((val_main_v16_eq _ _).trans ((ref _ _).trans (congr (congrArg _ a0) a1))), hk⟩

end Cert.P28

end
-- ==== Proof.P29.lean ====
/- The row norm of the memory: the kernel and the reference leave each row normed. -/
module

public import proofs.«01_k».proof.Defs
public import proofs.«01_k».proof.Proof.Norm
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit

@[expose] public section

set_option maxRecDepth 16384
set_option maxHeartbeats 1000000

noncomputable section

namespace Cert.P29

open Cert.Kernel29Ideal Cert.Kernel29Ideal.Gen Idealize.ShloMosaic Idealize.ShloMosaic.TcCoe Idealize.SL.Sem
open Idealize.ShloMosaic.Pipeline (Dat)
open Cert.Reference29Ideal.Read
open Cert.Norm (nrm)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ t.val < 1 :=
  (by decide +kernel : ∀ t : Fin grid0.N, _)

/-- Row `r` of block `t`. -/
def row (t : Fin cfg0.N) (r : Fin 256) : Fin 256 := ⟨t.val * 256 + r.val, by have := (idx t).2.2.2; omega⟩

theorem x0_eq (t : Fin cfg0.N) (r : Fin 256) (l : Fin 2048) : iblk m c 0 t (ix2 r l) = m ((c : Thread nD τ).loc main_arg0) (ix2 (row t r) l) := by
  blk_ext [iblk, V, idx t, row]

theorem gain_eq (t : Fin cfg0.N) (l : Fin 2048) : iblk m c 1 t (ix2 0 l) = m ((c : Thread nD τ).loc main_arg1) (ix2 0 l) := by
  blk_ext [iblk, V, idx t]

theorem emb_eq (t : Fin cfg0.N) (r : Fin 256) (l : Fin 2048) : ((cfg0.win 2).blk t).view.emb (ix2 r l) = ix2 (row t r) l := by
  blk_ext [idx t, row]

/-- The result. -/
def spec (x0 : FVec Ideal S256x2048 .f32) (x1 : FVec Ideal S1x2048 .f32) : FVec Ideal S256x2048 .bf16 :=
  fun j => nrm (fun k => x0 (ix2 (j 0) k)) (x1 (ix2 0 (j 1))) (j 1)

theorem pay_apply (x0 : FVec Ideal S256x2048 .f32) (x1 : FVec Ideal S1x2048 .f32) (r : Fin 256) (l : Fin 2048) : k0_pay1 (F := Ideal) x0 x1 (ix2 r l) = nrm (fun k => x0 (ix2 r k)) (x1 (ix2 0 l)) l := by
  pointwise [k0_pay1]
  rfl

theorem ref (x0 : FVec Ideal S256x2048 .f32) (x1 : FVec Ideal S1x2048 .f32) : val_main_v16 (F := Ideal) x0 x1 = spec x0 x1 := by
  funext j
  obtain ⟨r, l, rfl⟩ : ∃ (r : Fin 256) (l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16]
  rfl

theorem point (t : Fin cfg0.N) (y : S256x2048.Idx) : k0_pay1 (F := Ideal) (iblk m c 0 t) (iblk m c 1 t) y
    = spec (m ((c : Thread nD τ).loc main_arg0)) (m ((c : Thread nD τ).loc main_arg1)) (((cfg0.win 2).blk t).view.emb y) := by
  obtain ⟨r, l, rfl⟩ : ∃ (r : Fin 256) (l : Fin 2048), y = ix2 r l := ⟨y 0, y 1, by funext k; match k with | 0 => rfl | 1 => rfl⟩
  rw [pay_apply, emb_eq]
  simp only [x0_eq, gain_eq]
  rfl

theorem out_eq (t : Fin cfg0.N) (y : S256x2048.Idx) : out0_2 (iblk m c 0 t) (iblk m c 1 t) y
    = k0_pay1 (F := Ideal) (iblk m c 0 t) (iblk m c 1 t) y := by
  frame_out

theorem final : (dats m 0 c).arrAt 2 cfg0.N = spec (m ((c : Thread nD τ).loc main_arg0)) (m ((c : Thread nD τ).loc main_arg1)) := by
  refine (dats m 0 c).arrAt_eq_of_covers 2 _ (by decide +kernel) fun t _ y => ?_
  blk_simp
  rw [after0_2]
  exact (out_eq m c t y).trans (point m c t y)

/-- The two programs end with equal results. -/
theorem equal : letI := Cert.Kernel29Ideal.Gen.facts; letI := Cert.Reference29Ideal.Gen.facts; Cert.algebraic_Kernel29Ideal_Reference29Ideal := by
  intro m g m' g' _ hagree
  refine ⟨fun c => spec (m ((c.tc : Thread nD τ).loc main_arg0)) (m ((c.tc : Thread nD τ).loc main_arg1)),
    (θ_run _ _ _).mono (fun r h c => ?_) (Cert.Kernel29Ideal.Value.run_blocks m g),
    (θ_run _ _ _).mono (fun r h c => ?_) (Cert.Reference29Ideal.Value.run m' g')⟩
  · obtain ⟨h, hk⟩ := h c
    exact ⟨h.trans (final m c), hk⟩
  · obtain ⟨h, hk⟩ := h c
    obtain ⟨a0, a1⟩ := hagree c
    exact ⟨h.trans ((val_main_v16_eq _ _).trans ((ref _ _).trans (congr (congrArg _ a0) a1))), hk⟩

end Cert.P29

end
-- ==== Proof.P30.lean ====
/- A feed-forward block's residual: the kernel and the reference add half of each row's norm. -/
module

public import proofs.«01_k».proof.Defs
public import proofs.«01_k».proof.Proof.Norm
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pipeline.ValueKit

@[expose] public section

set_option maxRecDepth 16384
set_option maxHeartbeats 1000000

noncomputable section

namespace Cert.P30

open Cert.Kernel30Ideal Cert.Kernel30Ideal.Gen Idealize.ShloMosaic Idealize.ShloMosaic.TcCoe Idealize.SL.Sem
open Idealize.ShloMosaic.Pipeline (Dat)
open Cert.Reference30Ideal.Read
open Cert.Norm (nrm)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (r : Fin 512) (l : Fin 2048) : iblk m c 1 t (ix2 r l) = m ((c : Thread nD τ).loc main_arg1) (ix2 (row t r) l) := by
  blk_ext [iblk, V, idx t, row]

theorem gain_eq (t : Fin cfg0.N) (l : Fin 2048) : iblk m c 2 t (ix2 0 l) = m ((c : Thread nD τ).loc main_arg2) (ix2 0 l) := by
  blk_ext [iblk, V, idx t]

theorem emb_eq (t : Fin cfg0.N) (r : Fin 512) (l : Fin 2048) : ((cfg0.win 3).blk t).view.emb (ix2 r l) = ix2 (row t r) l := by
  blk_ext [idx t, row]

/-- The result. -/
def spec (x0 : FVec Ideal S2048x2048 .f32) (x1 : FVec Ideal S2048x2048 .f32) (x2 : FVec Ideal S1x2048 .f32) : FVec Ideal S2048x2048 .f32 :=
  fun j => x0 (ix2 (j 0) (j 1)) + Ideal.ofBits .f32 0x3F000000#32 * nrm (fun k => x1 (ix2 (j 0) k)) (x2 (ix2 0 (j 1))) (j 1)

theorem pay_apply (x0 : FVec Ideal S512x2048 .f32) (x1 : FVec Ideal S512x2048 .f32) (x2 : FVec Ideal S1x2048 .f32) (r : Fin 512) (l : Fin 2048) : k0_pay1 (F := Ideal) x0 x1 x2 (ix2 r l) = x0 (ix2 r l) + Ideal.ofBits .f32 0x3F000000#32 * nrm (fun k => x1 (ix2 r k)) (x2 (ix2 0 l)) l := by
  pointwise [k0_pay1]
  rfl

theorem ref (x0 : FVec Ideal S2048x2048 .f32) (x1 : FVec Ideal S2048x2048 .f32) (x2 : FVec Ideal S1x2048 .f32) : val_main_v19 (F := Ideal) x0 x1 x2 = spec x0 x1 x2 := by
  funext j
  obtain ⟨r, l, rfl⟩ : ∃ (r : Fin 2048) (l : Fin 2048), j = ix2 r l := ⟨j 0, j 1, by funext k; match k with | 0 => rfl | 1 => rfl⟩
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_cst_2, val_main_v16, val_main_v17, val_main_v18, val_main_v19]
  rfl

theorem point (t : Fin cfg0.N) (y : S512x2048.Idx) : k0_pay1 (F := Ideal) (iblk m c 0 t) (iblk m c 1 t) (iblk m c 2 t) y
    = spec (m ((c : Thread nD τ).loc main_arg0)) (m ((c : Thread nD τ).loc main_arg1)) (m ((c : Thread nD τ).loc main_arg2)) (((cfg0.win 3).blk t).view.emb y) := by
  obtain ⟨r, l, rfl⟩ : ∃ (r : Fin 512) (l : Fin 2048), y = ix2 r l := ⟨y 0, y 1, by funext k; match k with | 0 => rfl | 1 => rfl⟩
  rw [pay_apply, emb_eq]
  simp only [x0_eq, x1_eq, gain_eq]
  rfl

theorem out_eq (t : Fin cfg0.N) (y : S512x2048.Idx) : out0_3 (iblk m c 0 t) (iblk m c 1 t) (iblk m c 2 t) y
    = k0_pay1 (F := Ideal) (iblk m c 0 t) (iblk m c 1 t) (iblk m c 2 t) y := by
  frame_out

theorem final : (dats m 0 c).arrAt 3 cfg0.N = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact (out_eq m c t y).trans (point m c t y)

/-- The two programs end with equal results. -/
theorem equal : letI := Cert.Kernel30Ideal.Gen.facts; letI := Cert.Reference30Ideal.Gen.facts; Cert.algebraic_Kernel30Ideal_Reference30Ideal := by
  intro m g m' g' _ hagree
  refine ⟨fun c => spec (m ((c.tc : Thread nD τ).loc main_arg0)) (m ((c.tc : Thread nD τ).loc main_arg1)) (m ((c.tc : Thread nD τ).loc main_arg2)),
    (θ_run _ _ _).mono (fun r h c => ?_) (Cert.Kernel30Ideal.Value.run_blocks m g),
    (θ_run _ _ _).mono (fun r h c => ?_) (Cert.Reference30Ideal.Value.run m' g')⟩
  · obtain ⟨h, hk⟩ := h c
    exact ⟨h.trans (final m c), hk⟩
  · obtain ⟨h, hk⟩ := h c
    obtain ⟨a0, a1, a2⟩ := hagree c
    exact ⟨h.trans ((val_main_v19_eq _ _ _).trans ((ref _ _ _).trans (congr (congr (congrArg _ a0) a1) a2))), hk⟩

end Cert.P30

end
-- ==== Proof.P31.lean ====
/- A mixer's or an attention's residual: the kernel and the reference add each row's norm. -/
module

public import proofs.«01_k».proof.Defs
public import proofs.«01_k».proof.Proof.Norm
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pipeline.ValueKit

@[expose] public section

set_option maxRecDepth 16384
set_option maxHeartbeats 1000000

noncomputable section

namespace Cert.P31

open Cert.Kernel31Ideal Cert.Kernel31Ideal.Gen Idealize.ShloMosaic Idealize.ShloMosaic.TcCoe Idealize.SL.Sem
open Idealize.ShloMosaic.Pipeline (Dat)
open Cert.Reference31Ideal.Read
open Cert.Norm (nrm)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (r : Fin 512) (l : Fin 2048) : iblk m c 1 t (ix2 r l) = m ((c : Thread nD τ).loc main_arg1) (ix2 (row t r) l) := by
  blk_ext [iblk, V, idx t, row]

theorem gain_eq (t : Fin cfg0.N) (l : Fin 2048) : iblk m c 2 t (ix2 0 l) = m ((c : Thread nD τ).loc main_arg2) (ix2 0 l) := by
  blk_ext [iblk, V, idx t]

theorem emb_eq (t : Fin cfg0.N) (r : Fin 512) (l : Fin 2048) : ((cfg0.win 3).blk t).view.emb (ix2 r l) = ix2 (row t r) l := by
  blk_ext [idx t, row]

/-- The result. -/
def spec (x0 : FVec Ideal S2048x2048 .f32) (x1 : FVec Ideal S2048x2048 .f32) (x2 : FVec Ideal S1x2048 .f32) : FVec Ideal S2048x2048 .f32 :=
  fun j => x0 (ix2 (j 0) (j 1)) + nrm (fun k => x1 (ix2 (j 0) k)) (x2 (ix2 0 (j 1))) (j 1)

theorem pay_apply (x0 : FVec Ideal S512x2048 .f32) (x1 : FVec Ideal S512x2048 .f32) (x2 : FVec Ideal S1x2048 .f32) (r : Fin 512) (l : Fin 2048) : k0_pay1 (F := Ideal) x0 x1 x2 (ix2 r l) = x0 (ix2 r l) + nrm (fun k => x1 (ix2 r k)) (x2 (ix2 0 l)) l := by
  pointwise [k0_pay1]
  rfl

theorem ref (x0 : FVec Ideal S2048x2048 .f32) (x1 : FVec Ideal S2048x2048 .f32) (x2 : FVec Ideal S1x2048 .f32) : val_main_v17 (F := Ideal) x0 x1 x2 = spec x0 x1 x2 := by
  funext j
  obtain ⟨r, l, rfl⟩ : ∃ (r : Fin 2048) (l : Fin 2048), j = ix2 r l := ⟨j 0, j 1, by funext k; match k with | 0 => rfl | 1 => rfl⟩
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17]
  rfl

theorem point (t : Fin cfg0.N) (y : S512x2048.Idx) : k0_pay1 (F := Ideal) (iblk m c 0 t) (iblk m c 1 t) (iblk m c 2 t) y
    = spec (m ((c : Thread nD τ).loc main_arg0)) (m ((c : Thread nD τ).loc main_arg1)) (m ((c : Thread nD τ).loc main_arg2)) (((cfg0.win 3).blk t).view.emb y) := by
  obtain ⟨r, l, rfl⟩ : ∃ (r : Fin 512) (l : Fin 2048), y = ix2 r l := ⟨y 0, y 1, by funext k; match k with | 0 => rfl | 1 => rfl⟩
  rw [pay_apply, emb_eq]
  simp only [x0_eq, x1_eq, gain_eq]
  rfl

theorem out_eq (t : Fin cfg0.N) (y : S512x2048.Idx) : out0_3 (iblk m c 0 t) (iblk m c 1 t) (iblk m c 2 t) y
    = k0_pay1 (F := Ideal) (iblk m c 0 t) (iblk m c 1 t) (iblk m c 2 t) y := by
  frame_out

theorem final : (dats m 0 c).arrAt 3 cfg0.N = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact (out_eq m c t y).trans (point m c t y)

/-- The two programs end with equal results. -/
theorem equal : letI := Cert.Kernel31Ideal.Gen.facts; letI := Cert.Reference31Ideal.Gen.facts; Cert.algebraic_Kernel31Ideal_Reference31Ideal := by
  intro m g m' g' _ hagree
  refine ⟨fun c => spec (m ((c.tc : Thread nD τ).loc main_arg0)) (m ((c.tc : Thread nD τ).loc main_arg1)) (m ((c.tc : Thread nD τ).loc main_arg2)),
    (θ_run _ _ _).mono (fun r h c => ?_) (Cert.Kernel31Ideal.Value.run_blocks m g),
    (θ_run _ _ _).mono (fun r h c => ?_) (Cert.Reference31Ideal.Value.run m' g')⟩
  · obtain ⟨h, hk⟩ := h c
    exact ⟨h.trans (final m c), hk⟩
  · obtain ⟨h, hk⟩ := h c
    obtain ⟨a0, a1, a2⟩ := hagree c
    exact ⟨h.trans ((val_main_v17_eq _ _ _).trans ((ref _ _ _).trans (congr (congr (congrArg _ a0) a1) a2))), hk⟩

end Cert.P31

end
-- ==== Proof.P32.lean ====
/- The loss: the kernel and the reference leave half the sum of the rows' mean squared errors, and its gradient. -/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit

@[expose] public section

set_option maxRecDepth 16384
set_option maxHeartbeats 1000000

noncomputable section

namespace Cert.P32

open Cert.Kernel32Ideal Cert.Kernel32Ideal.Gen Idealize.ShloMosaic Idealize.ShloMosaic.TcCoe Idealize.SL.Sem
open Idealize.ShloMosaic.Pipeline (Dat)
open Cert.Reference32Ideal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2; omega⟩

theorem x_eq (t : Fin cfg0.N) (r : Fin 512) (l : Fin 2048) : iblk m c 0 t (ix2 r l) = m ((c : Thread nD τ).loc main_arg0) (ix2 (row t r) l) := by
  blk_ext [iblk, V, idx t, row]

theorem y_eq (t : Fin cfg0.N) (r : Fin 512) (l : Fin 2048) : iblk m c 1 t (ix2 r l) = m ((c : Thread nD τ).loc main_arg1) (ix2 (row t r) l) := by
  blk_ext [iblk, V, idx t, row]

theorem emb_eq (t : Fin cfg0.N) (r : Fin 512) (l : Fin 2048) : ((cfg0.win 2).blk t).view.emb (ix2 r l) = ix2 (row t r) l := by
  blk_ext [idx t, row]

/-! ## Constants -/

theorem two : (Ideal.ofBits .f32 0x40000000#32 : EReal) = ((2 : ℝ) : EReal) := by
  simp [Ideal.ofBits, Ideal.ieee, -EReal.coe_mul]; norm_num
theorem half : (Ideal.ofBits .f32 0x3F000000#32 : EReal) = ((1 / 2 : ℝ) : EReal) := by
  simp [Ideal.ofBits, Ideal.ieee, -EReal.coe_mul]; norm_num
theorem one : (Ideal.ofBits .f32 0x3F800000#32 : EReal) = ((1 : ℝ) : EReal) := by
  simp [Ideal.ofBits, Ideal.ieee, -EReal.coe_mul]; norm_num
theorem width : (Ideal.ofBits .f32 0x45000000#32 : EReal) = ((2048 : ℝ) : EReal) := by
  simp [Ideal.ofBits, Ideal.ieee, -EReal.coe_mul]; norm_num
theorem step : (Ideal.ofBits .f32 0x3A000000#32 : EReal) = ((1 / 2048 : ℝ) : EReal) := by
  simp [Ideal.ofBits, Ideal.ieee, -EReal.coe_mul]; norm_num
theorem scale : (Ideal.ofBits .f32 0x39800000#32 : EReal) = ((1 / 4096 : ℝ) : EReal) := by
  simp [Ideal.ofBits, Ideal.ieee, -EReal.coe_mul]; norm_num

/-- A division by the width. -/
theorem div_width (x : EReal) : Ideal.div x (Ideal.ofBits .f32 0x45000000#32) = x * ((1 / 2048 : ℝ) : EReal) := by
  rw [width]
  unfold Ideal.div
  rw [if_neg (by exact_mod_cast (by norm_num : (2048 : ℝ) ≠ 0)), ← EReal.coe_inv]
  norm_num

/-- A nonnegative finite constant goes into a sum. -/
theorem into {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-! ## The results -/

/-- The error, and the sum of a row's squared errors. -/
def err (x y : FVec Ideal S2048x2048 .f32) (r l : Fin 2048) : EReal := x (ix2 r l) - y (ix2 r l)
def sq (x y : FVec Ideal S2048x2048 .f32) (r : Fin 2048) : EReal := ∑ l, err x y r l * err x y r l

/-- The gradient and the loss. -/
def grad (x y : FVec Ideal S2048x2048 .f32) : FVec Ideal S2048x2048 .f32 := fun j => err x y (j 0) (j 1) * ((1 / 2048 : ℝ) : EReal)
def loss (x y : FVec Ideal S2048x2048 .f32) : FVec Ideal S1x1 .f32 := fun _ => ∑ r, ((1 / 4096 : ℝ) : EReal) * sq x y r

theorem pay3_apply (x y : FVec Ideal S512x2048 .f32) (r : Fin 512) (l : Fin 2048) :
    k0_pay3 (F := Ideal) x y (ix2 r l) = (x (ix2 r l) - y (ix2 r l)) * ((1 / 2048 : ℝ) : EReal) := by
  rw [← step]
  pointwise [k0_pay3, k0_pay2]

theorem pay4_apply (x y : FVec Ideal S512x2048 .f32) (a : FVec Ideal S1x1 .f32) :
    k0_pay4 (F := Ideal) x y a (ix2 0 0) = a (ix2 0 0) + ∑ r, ((1 / 4096 : ℝ) : EReal) * ∑ l, (x (ix2 r l) - y (ix2 r l)) * (x (ix2 r l) - y (ix2 r l)) := by
  rw [← into _ _ (by norm_num), ← scale]
  pointwise [k0_pay4, k0_pay2]

theorem zero : k0_pay1 (F := Ideal) (ix2 0 0) = 0 := by pointwise [k0_pay1]

theorem ref_grad (x y : FVec Ideal S2048x2048 .f32) : val_main_v17 (F := Ideal) x y = grad x y := by
  funext j
  obtain ⟨r, l, rfl⟩ : ∃ (r l : Fin 2048), j = ix2 r l := ⟨j 0, j 1, by funext k; match k with | 0 => rfl | 1 => rfl⟩
  have h : val_main_v17 (F := Ideal) x y (ix2 r l) = Ideal.div (Ideal.ofBits .f32 0x3F000000#32 * Ideal.ofBits .f32 0x3F800000#32) (Ideal.ofBits .f32 0x45000000#32)
      * (Ideal.ofBits .f32 0x40000000#32 * err x y r l) := by
    pointwise [val_main_v0, val_main_v1, val_main_v2, val_main_v3, val_main_cst, val_main_v4, val_main_v5, val_main_cst_0, val_main_v6, val_main_cst_1, val_main_v7, val_main_v8, val_main_cst_2, val_main_v9, val_main_cst_3, val_main_v10, val_main_cst_4, val_main_cst_5, val_main_v11, val_main_v12, val_main_cst_6, val_main_v13, val_main_v14, val_main_v15, val_main_v16, val_main_v17, val_main_v18]
    rfl
  rw [h, div_width, half, one, two, ← mul_assoc, ← EReal.coe_mul, ← EReal.coe_mul, ← EReal.coe_mul, mul_comm]
  show err x y r l * _ = err x y r l * _
  norm_num

theorem ref_row (x y : FVec Ideal S2048x2048 .f32) (r : Fin 2048) : val_main_v8 (F := Ideal) x y (ix2 0 r) = ((1 / 2048 : ℝ) : EReal) * sq x y r := by
  have h : val_main_v8 (F := Ideal) x y (ix2 0 r) = Ideal.div (sq x y r) (Ideal.ofBits .f32 0x45000000#32) := by
    pointwise [val_main_v8, val_main_v7, val_main_v6, val_main_v3, val_main_v2, val_main_v1, val_main_v0, val_main_cst_0, val_main_cst_1]
    rfl
  rw [h, div_width, mul_comm]

theorem rows_eq (f : Cert.Reference32Ideal.S1x2048.Idx → EReal) : ∑ j, f j = ∑ r : Fin 2048, f (ix2 0 r) :=
  (Fintype.sum_equiv ⟨fun r : Fin 2048 => (ix2 0 r : Cert.Reference32Ideal.S1x2048.Idx), fun j => j 1, fun r => rfl,
    fun j => by funext k; match k with | 0 => exact Subsingleton.elim (α := Fin 1) _ _ | 1 => rfl⟩ _ _ fun r => rfl).symm

theorem ref_loss (x y : FVec Ideal S2048x2048 .f32) : val_main_v18 (F := Ideal) x y = loss x y := by
  funext j
  rw [val_main_v18_apply, val_main_v10_apply, val_main_v9_apply, rows_eq]
  simp only [ref_row]
  show Ideal.ofBits .f32 0x3F000000#32 * (Ideal.ofBits .f32 0x00000000#32 + _) = _
  rw [Ideal.ofBits_zero_f32, zero_add, half, into _ _ (by norm_num)]
  refine Finset.sum_congr rfl fun r _ => ?_
  rw [← mul_assoc, ← EReal.coe_mul]
  norm_num

/-! ## The kernel's points -/

theorem first_g (t : Fin cfg0.N) (h0 : t.val % 4 = 0) : (outsAt0 m c t.val t.isLt).1 = k0_pay3 (F := Ideal) (iblk m c 0 t) (iblk m c 1 t) := by
  rw [outsAt0_A m c t h0]; frame_out
theorem next_g (t : Fin cfg0.N) (h0 : ¬t.val % 4 = 0) : (outsAt0 m c t.val t.isLt).1 = k0_pay3 (F := Ideal) (iblk m c 0 t) (iblk m c 1 t) := by
  rw [outsAt0_B m c t h0]; frame_out
theorem first_l (t : Fin cfg0.N) (h0 : t.val % 4 = 0) : (outsAt0 m c t.val t.isLt).2 = k0_pay4 (F := Ideal) (iblk m c 0 t) (iblk m c 1 t) (k0_pay1 (F := Ideal)) := by
  rw [outsAt0_A m c t h0]; frame_out
theorem next_l (t : Fin cfg0.N) (h0 : ¬t.val % 4 = 0) :
    (outsAt0 m c t.val t.isLt).2 = k0_pay4 (F := Ideal) (iblk m c 0 t) (iblk m c 1 t) (outsAt0 m c (t.val - 1) (by omega)).2 := by
  rw [outsAt0_B m c t h0]; frame_out

theorem out_g (t : Fin cfg0.N) : (outsAt0 m c t.val t.isLt).1 = k0_pay3 (F := Ideal) (iblk m c 0 t) (iblk m c 1 t) := by
  by_cases h0 : t.val % 4 = 0
  · exact first_g m c t h0
  · exact next_g m c t h0

theorem final_g : (dats m 0 c).arrAt 2 cfg0.N = grad (m ((c : Thread nD τ).loc main_arg0)) (m ((c : Thread nD τ).loc main_arg1)) := by
  refine (dats m 0 c).arrAt_eq_of_covers 2 _ (by decide +kernel) fun t _ y => ?_
  blk_simp
  rw [after0_2, out_g]
  obtain ⟨r, l, rfl⟩ : ∃ (r : Fin 512) (l : Fin 2048), y = ix2 r l := ⟨y 0, y 1, by funext k; match k with | 0 => rfl | 1 => rfl⟩
  rw [emb_eq, pay3_apply, x_eq, y_eq]
  rfl

theorem point_l (t : Fin cfg0.N) (a : FVec Ideal S1x1 .f32) (j : S1x1.Idx) : k0_pay4 (F := Ideal) (iblk m c 0 t) (iblk m c 1 t) a j
    = a j + ∑ r, ((1 / 4096 : ℝ) : EReal) * sq (m ((c : Thread nD τ).loc main_arg0)) (m ((c : Thread nD τ).loc main_arg1)) (row t r) := by
  obtain rfl : j = ix2 0 0 := by funext k; match k with | 0 => exact Subsingleton.elim (α := Fin 1) _ _ | 1 => exact Subsingleton.elim (α := Fin 1) _ _
  rw [pay4_apply]
  simp only [x_eq, y_eq]
  rfl

theorem zero' (j : S1x1.Idx) : k0_pay1 (F := Ideal) j = 0 := by
  obtain rfl : j = ix2 0 0 := by funext k; match k with | 0 => exact Subsingleton.elim (α := Fin 1) _ _ | 1 => exact Subsingleton.elim (α := Fin 1) _ _
  exact zero

theorem final_l : (dats m 0 c).arrAt 3 cfg0.N = loss (m ((c : Thread nD τ).loc main_arg0)) (m ((c : Thread nD τ).loc main_arg1)) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0)
    (fun t (j : S1x1.Idx) => ∑ r, ((1 / 4096 : ℝ) : EReal) * sq (m ((c : Thread nD τ).loc main_arg0)) (m ((c : Thread nD τ).loc main_arg1)) (row t r))
    (fun t h j => ?_) (fun t h j => ?_) (le_of_eq N_0) t0_3 rfl j]
  · rw [zero_add]
    exact Fin.sum_mul_add_congr fun s k hl => congrArg (fun r => ((1 / 4096 : ℝ) : EReal) * sq _ _ r) rfl
  · rw [first_l m c t h, point_l, zero']
  · rw [next_l m c t h, point_l]

/-- The two programs end with equal results. -/
theorem equal : letI := Cert.Kernel32Ideal.Gen.facts; letI := Cert.Reference32Ideal.Gen.facts; Cert.algebraic_Kernel32Ideal_Reference32Ideal := by
  intro m g m' g' _ hagree
  refine ⟨fun c => grad (m ((c.tc : Thread nD τ).loc main_arg0)) (m ((c.tc : Thread nD τ).loc main_arg1)), fun c => loss (m ((c.tc : Thread nD τ).loc main_arg0)) (m ((c.tc : Thread nD τ).loc main_arg1)),
    (θ_run _ _ _).mono (fun r h c => ?_) (Cert.Kernel32Ideal.Value.run_blocks m g),
    (θ_run _ _ _).mono (fun r h c => ?_) (Cert.Reference32Ideal.Value.run m' g')⟩
  · obtain ⟨hg, hl, hk⟩ := h c
    exact ⟨hg.trans (final_g m c), hl.trans (final_l m c), hk⟩
  · obtain ⟨hg, hl, hk⟩ := h c
    obtain ⟨a0, a1⟩ := hagree c
    exact ⟨hg.trans ((val_main_v17_eq _ _).trans ((ref_grad _ _).trans (congr (congrArg _ a0) a1))),
      hl.trans ((val_main_v18_eq _ _).trans ((ref_loss _ _).trans (congr (congrArg _ a0) a1))), hk⟩

end Cert.P32

end
-- ==== Proof.P33.lean ====
/- The optimizer's step on the packed small weights: the kernel and the reference leave the step and the two moments. -/
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit

@[expose] public section

set_option maxRecDepth 16384
set_option maxHeartbeats 1000000

noncomputable section

namespace Cert.P33

open Cert.Kernel33Ideal Cert.Kernel33Ideal.Gen Idealize.ShloMosaic Idealize.ShloMosaic.TcCoe Idealize.SL.Sem
open Idealize.ShloMosaic.Pipeline (Dat)
open Cert.Reference33Ideal.Read

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem x0_eq (t : Fin cfg0.N) : iblk m c 0 t = m ((c : Thread nD τ).loc main_arg0) := by
  funext y
  obtain ⟨r, l, rfl⟩ : ∃ (r : Fin 2432) (l : Fin 128), y = ix2 r l := ⟨y 0, y 1, by funext k; match k with | 0 => rfl | 1 => rfl⟩
  blk_ext [iblk, V, idx t]

theorem x1_eq (t : Fin cfg0.N) : iblk m c 1 t = m ((c : Thread nD τ).loc main_arg1) := by
  funext y
  obtain ⟨r, l, rfl⟩ : ∃ (r : Fin 2432) (l : Fin 128), y = ix2 r l := ⟨y 0, y 1, by funext k; match k with | 0 => rfl | 1 => rfl⟩
  blk_ext [iblk, V, idx t]

theorem x2_eq (t : Fin cfg0.N) : iblk m c 2 t = m ((c : Thread nD τ).loc main_arg2) := by
  funext y
  obtain ⟨r, l, rfl⟩ : ∃ (r : Fin 2432) (l : Fin 128), y = ix2 r l := ⟨y 0, y 1, by funext k; match k with | 0 => rfl | 1 => rfl⟩
  blk_ext [iblk, V, idx t]

theorem x3_eq (t : Fin cfg0.N) : iblk m c 3 t = m ((c : Thread nD τ).loc main_arg3) := by
  funext y
  obtain ⟨r, l, rfl⟩ : ∃ (r : Fin 2432) (l : Fin 128), y = ix2 r l := ⟨y 0, y 1, by funext k; match k with | 0 => rfl | 1 => rfl⟩
  blk_ext [iblk, V, idx t]

theorem emb4 (t : Fin cfg0.N) (y : S2432x128.Idx) : ((cfg0.win 4).blk t).view.emb y = y := by
  obtain ⟨r, l, rfl⟩ : ∃ (r : Fin 2432) (l : Fin 128), y = ix2 r l := ⟨y 0, y 1, by funext k; match k with | 0 => rfl | 1 => rfl⟩
  blk_ext [idx t]

theorem emb5 (t : Fin cfg0.N) (y : S2432x128.Idx) : ((cfg0.win 5).blk t).view.emb y = y := by
  obtain ⟨r, l, rfl⟩ : ∃ (r : Fin 2432) (l : Fin 128), y = ix2 r l := ⟨y 0, y 1, by funext k; match k with | 0 => rfl | 1 => rfl⟩
  blk_ext [idx t]

theorem emb6 (t : Fin cfg0.N) (y : S2432x128.Idx) : ((cfg0.win 6).blk t).view.emb y = y := by
  obtain ⟨r, l, rfl⟩ : ∃ (r : Fin 2432) (l : Fin 128), y = ix2 r l := ⟨y 0, y 1, by funext k; match k with | 0 => rfl | 1 => rfl⟩
  blk_ext [idx t]

theorem emb7 (t : Fin cfg0.N) (y : S2432x128.Idx) : ((cfg0.win 7).blk t).view.emb y = y := by
  obtain ⟨r, l, rfl⟩ : ∃ (r : Fin 2432) (l : Fin 128), y = ix2 r l := ⟨y 0, y 1, by funext k; match k with | 0 => rfl | 1 => rfl⟩
  blk_ext [idx t]

theorem same_m (x0 x2 : FVec Ideal S2432x128 .f32) : k0_pay1 (F := Ideal) x0 x2 = val_main_v4 (F := Ideal) x0 x2 := by
  funext y
  obtain ⟨r, l, rfl⟩ : ∃ (r : Fin 2432) (l : Fin 128), y = ix2 r l := ⟨y 0, y 1, by funext k; match k with | 0 => rfl | 1 => rfl⟩
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem same_v (x0 x3 : FVec Ideal S2432x128 .f32) : k0_pay2 (F := Ideal) x0 x3 = val_main_v10 (F := Ideal) x0 x3 := by
  funext y
  obtain ⟨r, l, rfl⟩ : ∃ (r : Fin 2432) (l : Fin 128), y = ix2 r l := ⟨y 0, y 1, by funext k; match k with | 0 => rfl | 1 => rfl⟩
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem same_d (x0 x1 x2 x3 : FVec Ideal S2432x128 .f32) : k0_pay3 (F := Ideal) x0 x1 x2 x3 = val_main_v23 (F := Ideal) x0 x1 x2 x3 := by
  funext y
  obtain ⟨r, l, rfl⟩ : ∃ (r : Fin 2432) (l : Fin 128), y = ix2 r l := ⟨y 0, y 1, by funext k; match k with | 0 => rfl | 1 => rfl⟩
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]

theorem out4 (t : Fin cfg0.N) (y : S2432x128.Idx) : out0_4 (iblk m c 0 t) (iblk m c 1 t) (iblk m c 2 t) (iblk m c 3 t) y = (iblk m c 0 t) y := by
  frame_out

theorem final4 : (dats m 0 c).arrAt 4 cfg0.N = (m ((c : Thread nD τ).loc main_arg0)) := by
  refine (dats m 0 c).arrAt_eq_of_covers 4 _ (by decide +kernel) fun t _ y => ?_
  blk_simp
  rw [after0_4]
  refine (out4 m c t y).trans ?_
  rw [emb4, x0_eq]

theorem out5 (t : Fin cfg0.N) (y : S2432x128.Idx) : out0_5 (iblk m c 0 t) (iblk m c 1 t) (iblk m c 2 t) (iblk m c 3 t) y = k0_pay3 (F := Ideal) (iblk m c 0 t) (iblk m c 1 t) (iblk m c 2 t) (iblk m c 3 t) y := by
  frame_out

theorem final5 : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine (out5 m c t y).trans ?_
  rw [emb5, x0_eq, x1_eq, x2_eq, x3_eq, same_d]

theorem out6 (t : Fin cfg0.N) (y : S2432x128.Idx) : out0_6 (iblk m c 0 t) (iblk m c 1 t) (iblk m c 2 t) (iblk m c 3 t) y = k0_pay1 (F := Ideal) (iblk m c 0 t) (iblk m c 2 t) y := by
  frame_out

theorem final6 : (dats m 0 c).arrAt 6 cfg0.N = val_main_v4 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  refine (out6 m c t y).trans ?_
  rw [emb6, x0_eq, x2_eq, same_m]

theorem out7 (t : Fin cfg0.N) (y : S2432x128.Idx) : out0_7 (iblk m c 0 t) (iblk m c 1 t) (iblk m c 2 t) (iblk m c 3 t) y = k0_pay2 (F := Ideal) (iblk m c 0 t) (iblk m c 3 t) y := by
  frame_out

theorem final7 : (dats m 0 c).arrAt 7 cfg0.N = val_main_v10 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  refine (out7 m c t y).trans ?_
  rw [emb7, x0_eq, x3_eq, same_v]

/-- The two programs end with equal results. -/
theorem equal : letI := Cert.Kernel33Ideal.Gen.facts; letI := Cert.Reference33Ideal.Gen.facts; Cert.algebraic_Kernel33Ideal_Reference33Ideal := by
  intro m g m' g' _ hagree
  refine ⟨fun c => (m ((c.tc : Thread nD τ).loc main_arg0)), fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)),
    (θ_run _ _ _).mono (fun r h c => ?_) (Cert.Kernel33Ideal.Value.run_blocks m g),
    (θ_run _ _ _).mono (fun r h c => ?_) (Cert.Reference33Ideal.Value.run m' g')⟩
  · obtain ⟨h4, h5, h6, h7, hk⟩ := h c
    exact ⟨h4.trans (final4 m c), h5.trans (final5 m c), h6.trans (final6 m c), h7.trans (final7 m c), hk⟩
  · obtain ⟨h4, h5, h6, h7, hk⟩ := h c
    obtain ⟨a0, a1, a2, a3⟩ := hagree c
    exact ⟨h4.trans a0, h5.trans ((val_main_v23_eq _ _ _ _).trans (congr (congr (congr (congrArg _ a0) a1) a2) a3)), h6.trans ((val_main_v4_eq _ _).trans (congr (congrArg _ a0) a2)),
      h7.trans ((val_main_v10_eq _ _).trans (congr (congrArg _ a0) a3)), hk⟩

end Cert.P33

end
-- ==== Proof.NormGrad.lean ====
/- The gradient of a row's root-mean-square norm, in the row and in the gain, and sums over axes of size one. -/
module

public import proofs.«01_k».proof.Proof.Norm
public import proofs.«01_k».proof.Proof.Sums

@[expose] public section

set_option maxRecDepth 16384

noncomputable section

namespace Cert.NormGrad

open Cert.Sums Idealize.ShloMosaic

/-- A row's mean square, above zero. -/
def ms (x : Fin 2048 → EReal) : EReal := Ideal.div (∑ k, x k * x k) (Ideal.ofBits .f32 0x45000000#32) + Ideal.ofBits .f32 0x358637BD#32

/-- The gradient of the row's square sum, from the gain `g` and the incoming gradient `d`. -/
def q (x g d : Fin 2048 → EReal) : EReal :=
  Ideal.div ((∑ k, x k * (d k * g k)) * (Ideal.ofBits .f32 0xBF000000#32 * Ideal.div (Ideal.rsqrt (ms x)) (ms x))) (Ideal.ofBits .f32 0x45000000#32)

/-- The row's gradient at a place. -/
def back (x g d : Fin 2048 → EReal) (l : Fin 2048) : EReal := d l * g l * Ideal.rsqrt (ms x) + x l * q x g d + q x g d * x l

/-- What the row adds to the gain's gradient. -/
def adds (x d : Fin 2048 → EReal) (l : Fin 2048) : EReal := x l * Ideal.rsqrt (ms x) * d l

/-- A sum over two axes of size one is the element itself. -/
theorem outer (n : ℕ) (h : (⟨3, ![1, n, 1]⟩ : Shape).ReducesTo [0, 2] ⟨1, ![n]⟩) (x : (⟨3, ![1, n, 1]⟩ : Shape).Idx → EReal) (c : EReal) (i : Fin n) :
    Ideal.hostReduceAdd h x c (ix1 i) = c + x (ix3 0 i 0) := by
  rw [reduce_eq (κ := Unit) _ x c _ (fun _ => ix3 0 i 0) (fun _ _ _ => rfl) fun j => ?_]
  · simp
  · constructor
    · intro e
      refine ⟨(), funext fun a => Fin.ext ?_⟩
      match a with
      | ⟨0, _⟩ => have : (j 0).val < 1 := (j 0).isLt; show 0 = (j 0).val; omega
      | ⟨1, _⟩ => exact (congrArg Fin.val (congrFun e 0)).symm
      | ⟨2, _⟩ => have : (j 2).val < 1 := (j 2).isLt; show 0 = (j 2).val; omega
    · rintro ⟨k, rfl⟩
      exact funext fun b => match b with | ⟨0, _⟩ => rfl

theorem front (n : ℕ) (h : (⟨3, ![1, 1, n]⟩ : Shape).ReducesTo [0, 1] ⟨1, ![n]⟩) (x : (⟨3, ![1, 1, n]⟩ : Shape).Idx → EReal) (c : EReal) (i : Fin n) :
    Ideal.hostReduceAdd h x c (ix1 i) = c + x (ix3 0 0 i) := by
  rw [reduce_eq (κ := Unit) _ x c _ (fun _ => ix3 0 0 i) (fun _ _ _ => rfl) fun j => ?_]
  · simp
  · constructor
    · intro e
      refine ⟨(), funext fun a => Fin.ext ?_⟩
      match a with
      | ⟨0, _⟩ => have : (j 0).val < 1 := (j 0).isLt; show 0 = (j 0).val; omega
      | ⟨1, _⟩ => have : (j 1).val < 1 := (j 1).isLt; show 0 = (j 1).val; omega
      | ⟨2, _⟩ => exact (congrArg Fin.val (congrFun e 0)).symm
    · rintro ⟨k, rfl⟩
      exact funext fun b => match b with | ⟨0, _⟩ => rfl

end Cert.NormGrad

end
-- ==== Proof.P34.lean ====
/- The gradient of a feed-forward block's residual, in the block's output and in the gain of its norm. -/
module

public import proofs.«01_k».proof.Defs
public import proofs.«01_k».proof.Proof.NormGrad
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pipeline.ValueKit

@[expose] public section

set_option maxRecDepth 16384
set_option maxHeartbeats 1000000

noncomputable section

namespace Cert.P34

open Cert.Kernel34Ideal Cert.Kernel34Ideal.Gen Idealize.ShloMosaic Idealize.ShloMosaic.TcCoe Idealize.SL.Sem
open Idealize.ShloMosaic.Pipeline (Dat)
open Cert.Reference34Ideal.Read
open Cert.NormGrad

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (l : Fin 2048) : iblk m c 1 t (ix2 0 l) = m ((c : Thread nD τ).loc main_arg1) (ix2 0 l) := by
  blk_ext [iblk, V, idx t]

theorem x2_eq (t : Fin cfg0.N) (r : Fin 512) (l : Fin 2048) : iblk m c 2 t (ix2 r l) = m ((c : Thread nD τ).loc main_arg2) (ix2 (row t r) l) := by
  blk_ext [iblk, V, idx t, row]

theorem emb_eq (t : Fin cfg0.N) (r : Fin 512) (l : Fin 2048) : ((cfg0.win 3).blk t).view.emb (ix2 r l) = ix2 (row t r) l := by
  blk_ext [idx t, row]

/-- The gradients of the rows and of the gain. -/
def dx (x0 : FVec Ideal S2048x2048 .f32) (x1 : FVec Ideal S1x2048 .f32) (x2 : FVec Ideal S2048x2048 .f32) : FVec Ideal S2048x2048 .bf16 :=
  fun j => back (fun k => x0 (ix2 (j 0) k)) (fun k => x1 (ix2 0 k)) (fun k => Ideal.ofBits .f32 0x3F000000#32 * x2 (ix2 (j 0) k)) (j 1)
def dg (x0 : FVec Ideal S2048x2048 .f32) (x2 : FVec Ideal S2048x2048 .f32) : FVec Ideal S1x2048 .f32 :=
  fun j => ∑ r : Fin 2048, adds (fun k => x0 (ix2 r k)) (fun k => Ideal.ofBits .f32 0x3F000000#32 * x2 (ix2 r k)) (j 1)

theorem dx_apply (x0 : FVec Ideal S512x2048 .f32) (x1 : FVec Ideal S1x2048 .f32) (x2 : FVec Ideal S512x2048 .f32) (r : Fin 512) (l : Fin 2048) : k0_pay2 (F := Ideal) x0 (k0_pay10 x0 x1 x2) (k0_pay11 x0 x1 x2) (ix2 r l)
    = back (fun k => x0 (ix2 r k)) (fun k => x1 (ix2 0 k)) (fun k => Ideal.ofBits .f32 0x3F000000#32 * x2 (ix2 r k)) l := by
  pointwise [k0_pay11, k0_pay10, k0_pay9, k0_pay8, k0_pay7, k0_pay6, k0_pay5, k0_pay4, k0_pay3, k0_pay2, k0_pay1]
  simp only [Fin.sum_univ_one]
  rfl

theorem dg_apply (x0 : FVec Ideal S512x2048 .f32) (x2 : FVec Ideal S512x2048 .f32) (a : FVec Ideal S1x2048 .f32) (l : Fin 2048) : k0_pay1 (F := Ideal) (k0_pay4 a) (k0_pay8 x0 x2) (ix2 0 l)
    = a (ix2 0 l) + ∑ r : Fin 512, adds (fun k => x0 (ix2 r k)) (fun k => Ideal.ofBits .f32 0x3F000000#32 * x2 (ix2 r k)) l := by
  pointwise [k0_pay11, k0_pay10, k0_pay9, k0_pay8, k0_pay7, k0_pay6, k0_pay5, k0_pay4, k0_pay3, k0_pay2, k0_pay1]
  rfl

theorem zero (l : Fin 2048) : k0_pay3 (F := Ideal) (ix2 0 l) = 0 := by pointwise [k0_pay3]

theorem ref_q (x0 : FVec Ideal S2048x2048 .f32) (x1 : FVec Ideal S1x2048 .f32) (x2 : FVec Ideal S2048x2048 .f32) (r : Fin 2048) : val_main_v37 (F := Ideal) x0 x1 x2 (ix1 r) = q (fun k => x0 (ix2 r k)) (fun k => x1 (ix2 0 k)) (fun k => Ideal.ofBits .f32 0x3F000000#32 * x2 (ix2 r k)) := by
  unfold val_main_v37
  simp only [Host.reduceAdd, Ideal.hostReduceAdd_def]
  refine (outer 2048 _ _ _ r).trans ?_
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_cst_3, val_main_v18, val_main_v19, val_main_v20, val_main_cst_4, val_main_v21, val_main_v22, val_main_v23, val_main_cst_5, val_main_v24, val_main_v25, val_main_v26, val_main_v27, val_main_cst_6, val_main_v28, val_main_v29, val_main_cst_7, val_main_v30, val_main_v31, val_main_v32, val_main_v33, val_main_v34, val_main_cst_8, val_main_v35, val_main_v36, val_main_cst_9]
  rfl

theorem ref_dx (x0 : FVec Ideal S2048x2048 .f32) (x1 : FVec Ideal S1x2048 .f32) (x2 : FVec Ideal S2048x2048 .f32) : val_main_v46 (F := Ideal) x0 x1 x2 = dx x0 x1 x2 := by
  funext j
  obtain ⟨r, l, rfl⟩ : ∃ (r l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_cst_3, val_main_v18, val_main_v19, val_main_v20, val_main_cst_4, val_main_v21, val_main_v22, val_main_v23, val_main_cst_5, val_main_v24, val_main_v25, val_main_v26, val_main_v27, val_main_cst_6, val_main_v29, val_main_cst_7, val_main_v30, val_main_v31, val_main_v32, val_main_v33, val_main_v34, val_main_cst_8, val_main_v35, val_main_v36, val_main_cst_9, val_main_v38, val_main_v39, val_main_v40, val_main_v41, val_main_v42, val_main_v43, val_main_v45, val_main_v46]
  simp only [ref_q]
  rfl

theorem ref_dg (x0 : FVec Ideal S2048x2048 .f32) (x2 : FVec Ideal S2048x2048 .f32) : val_main_v44 (F := Ideal) x0 x2 = dg x0 x2 := by
  funext j
  obtain ⟨l, rfl⟩ : ∃ l : Fin 2048, j = ix2 0 l := ⟨j 1, by funext k; match k with | 0 => exact Subsingleton.elim (α := Fin 1) _ _ | 1 => rfl⟩
  have h : val_main_v28 (F := Ideal) x0 x2 (ix1 l) = ∑ r : Fin 2048, adds (fun k => x0 (ix2 r k)) (fun k => Ideal.ofBits .f32 0x3F000000#32 * x2 (ix2 r k)) l := by
    unfold val_main_v28
    simp only [Host.reduceAdd, Ideal.hostReduceAdd_def]
    refine (front 2048 _ _ _ l).trans ?_
    pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_cst_3, val_main_v18, val_main_v19, val_main_v20, val_main_cst_4, val_main_v21, val_main_v22, val_main_v23, val_main_cst_5, val_main_v24, val_main_v25, val_main_v26, val_main_v27, val_main_cst_6, val_main_v28, val_main_v29, val_main_cst_7, val_main_v30, val_main_v31, val_main_v32, val_main_v33, val_main_v34, val_main_cst_8, val_main_v35, val_main_v36, val_main_cst_9]
    rfl
  refine Eq.trans ?_ h
  pointwise [val_main_v44]

theorem first_x (t : Fin cfg0.N) (h0 : t.val % 4 = 0) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  rw [outsAt0_A m c t h0]; frame_out
theorem next_x (t : Fin cfg0.N) (h0 : ¬t.val % 4 = 0) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  rw [outsAt0_B m c t h0]; frame_out
theorem first_g (t : Fin cfg0.N) (h0 : t.val % 4 = 0) : (outsAt0 m c t.val t.isLt).2 = k0_pay1 (F := Ideal) (k0_pay4 (k0_pay3 (F := Ideal))) (k0_pay8 (iblk m c 0 t) (iblk m c 2 t)) := by
  rw [outsAt0_A m c t h0]; frame_out
theorem next_g (t : Fin cfg0.N) (h0 : ¬t.val % 4 = 0) : (outsAt0 m c t.val t.isLt).2 = k0_pay1 (F := Ideal) (k0_pay4 (outsAt0 m c (t.val - 1) (by omega)).2) (k0_pay8 (iblk m c 0 t) (iblk m c 2 t)) := by
  rw [outsAt0_B m c t h0]; frame_out

theorem out_x (t : Fin cfg0.N) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  by_cases h0 : t.val % 4 = 0
  · exact first_x m c t h0
  · exact next_x m c t h0

theorem final_x : (dats m 0 c).arrAt 3 cfg0.N = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_x]
  obtain ⟨r, l, rfl⟩ : ∃ (r : Fin 512) (l : Fin 2048), y = ix2 r l := ⟨y 0, y 1, by funext k; match k with | 0 => rfl | 1 => rfl⟩
  rw [emb_eq, dx_apply]
  simp only [x0_eq, x1_eq, x2_eq]
  rfl

theorem point_g (t : Fin cfg0.N) (a : FVec Ideal S1x2048 .f32) (j : S1x2048.Idx) : k0_pay1 (F := Ideal) (k0_pay4 a) (k0_pay8 (iblk m c 0 t) (iblk m c 2 t)) j
    = a j + ∑ r : Fin 512, adds (fun k => (m ((c : Thread nD τ).loc main_arg0)) (ix2 (row t r) k)) (fun k => Ideal.ofBits .f32 0x3F000000#32 * (m ((c : Thread nD τ).loc main_arg2)) (ix2 (row t r) k)) (j 1) := by
  obtain ⟨l, rfl⟩ : ∃ l : Fin 2048, j = ix2 0 l := ⟨j 1, by funext k; match k with | 0 => exact Subsingleton.elim (α := Fin 1) _ _ | 1 => rfl⟩
  rw [dg_apply]
  simp only [x0_eq, x2_eq]
  rfl

theorem zero' (j : S1x2048.Idx) : k0_pay3 (F := Ideal) j = 0 := by
  obtain ⟨l, rfl⟩ : ∃ l : Fin 2048, j = ix2 0 l := ⟨j 1, by funext k; match k with | 0 => exact Subsingleton.elim (α := Fin 1) _ _ | 1 => rfl⟩
  exact zero l

theorem final_g : (dats m 0 c).arrAt 4 cfg0.N = dg (m ((c : Thread nD τ).loc main_arg0)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0)
    (fun t (j : S1x2048.Idx) => ∑ r : Fin 512, adds (fun k => (m ((c : Thread nD τ).loc main_arg0)) (ix2 (row t r) k)) (fun k => Ideal.ofBits .f32 0x3F000000#32 * (m ((c : Thread nD τ).loc main_arg2)) (ix2 (row t r) k)) (j 1))
    (fun t h j => ?_) (fun t h j => ?_) (le_of_eq N_0) t0_3 rfl j]
  · rw [zero_add]
    exact Fin.sum_mul_add_congr fun s k hl => congrArg (fun r => adds (fun k => (m ((c : Thread nD τ).loc main_arg0)) (ix2 r k)) (fun k => Ideal.ofBits .f32 0x3F000000#32 * (m ((c : Thread nD τ).loc main_arg2)) (ix2 r k)) (j 1)) rfl
  · rw [first_g m c t h, point_g, zero']
  · rw [next_g m c t h, point_g]

/-- The two programs end with equal results. -/
theorem equal : letI := Cert.Kernel34Ideal.Gen.facts; letI := Cert.Reference34Ideal.Gen.facts; Cert.algebraic_Kernel34Ideal_Reference34Ideal := by
  intro m g m' g' _ hagree
  refine ⟨fun c => dx (m ((c.tc : Thread nD τ).loc main_arg0)) (m ((c.tc : Thread nD τ).loc main_arg1)) (m ((c.tc : Thread nD τ).loc main_arg2)), fun c => dg (m ((c.tc : Thread nD τ).loc main_arg0)) (m ((c.tc : Thread nD τ).loc main_arg2)),
    (θ_run _ _ _).mono (fun r h c => ?_) (Cert.Kernel34Ideal.Value.run_blocks m g),
    (θ_run _ _ _).mono (fun r h c => ?_) (Cert.Reference34Ideal.Value.run m' g')⟩
  · obtain ⟨hx, hg, hk⟩ := h c
    exact ⟨hx.trans (final_x m c), hg.trans (final_g m c), hk⟩
  · obtain ⟨hx, hg, hk⟩ := h c
    obtain ⟨a0, a1, a2⟩ := hagree c
    exact ⟨hx.trans ((val_main_v46_eq _ _).trans ((ref_dx _ _ _).trans (congr (congr (congrArg _ a0) a1) a2))),
      hg.trans ((val_main_v44_eq _ _).trans ((ref_dg _ _).trans (congr (congrArg _ a0) a2))), hk⟩

end Cert.P34

end
-- ==== Proof.P35.lean ====
/- The gradient of a mixer's or an attention's residual, in its output and in the gain of its norm. -/
module

public import proofs.«01_k».proof.Defs
public import proofs.«01_k».proof.Proof.NormGrad
public import proofs.«01_k».proof.Proof.Gen.Kernel35Ideal.Value
public import proofs.«01_k».proof.Proof.Gen.Reference35Ideal.Run
public import proofs.«01_k».proof.Proof.Gen.Reference35Ideal.Read
public import Idealize.ShloMosaic.Lib.Pipeline.ValueKit

@[expose] public section

set_option maxRecDepth 16384
set_option maxHeartbeats 1000000

noncomputable section

namespace Cert.P35

open Cert.Kernel35Ideal Cert.Kernel35Ideal.Gen Idealize.ShloMosaic Idealize.ShloMosaic.TcCoe Idealize.SL.Sem
open Idealize.ShloMosaic.Pipeline (Dat)
open Cert.Reference35Ideal.Read
open Cert.NormGrad

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (l : Fin 2048) : iblk m c 1 t (ix2 0 l) = m ((c : Thread nD τ).loc main_arg1) (ix2 0 l) := by
  blk_ext [iblk, V, idx t]

theorem x2_eq (t : Fin cfg0.N) (r : Fin 512) (l : Fin 2048) : iblk m c 2 t (ix2 r l) = m ((c : Thread nD τ).loc main_arg2) (ix2 (row t r) l) := by
  blk_ext [iblk, V, idx t, row]

theorem emb_eq (t : Fin cfg0.N) (r : Fin 512) (l : Fin 2048) : ((cfg0.win 3).blk t).view.emb (ix2 r l) = ix2 (row t r) l := by
  blk_ext [idx t, row]

/-- The gradients of the rows and of the gain. -/
def dx (x0 : FVec Ideal S2048x2048 .f32) (x1 : FVec Ideal S1x2048 .f32) (x2 : FVec Ideal S2048x2048 .f32) : FVec Ideal S2048x2048 .bf16 :=
  fun j => back (fun k => x0 (ix2 (j 0) k)) (fun k => x1 (ix2 0 k)) (fun k => x2 (ix2 (j 0) k)) (j 1)
def dg (x0 : FVec Ideal S2048x2048 .f32) (x2 : FVec Ideal S2048x2048 .f32) : FVec Ideal S1x2048 .f32 :=
  fun j => ∑ r : Fin 2048, adds (fun k => x0 (ix2 r k)) (fun k => x2 (ix2 r k)) (j 1)

theorem dx_apply (x0 : FVec Ideal S512x2048 .f32) (x1 : FVec Ideal S1x2048 .f32) (x2 : FVec Ideal S512x2048 .f32) (r : Fin 512) (l : Fin 2048) : k0_pay2 (F := Ideal) x0 (k0_pay10 x0 x1 x2) (k0_pay11 x0 x1 x2) (ix2 r l)
    = back (fun k => x0 (ix2 r k)) (fun k => x1 (ix2 0 k)) (fun k => x2 (ix2 r k)) l := by
  pointwise [k0_pay11, k0_pay10, k0_pay9, k0_pay8, k0_pay7, k0_pay6, k0_pay5, k0_pay4, k0_pay3, k0_pay2, k0_pay1]
  simp only [Fin.sum_univ_one]
  rfl

theorem dg_apply (x0 : FVec Ideal S512x2048 .f32) (x2 : FVec Ideal S512x2048 .f32) (a : FVec Ideal S1x2048 .f32) (l : Fin 2048) : k0_pay1 (F := Ideal) (k0_pay4 a) (k0_pay8 x0 x2) (ix2 0 l)
    = a (ix2 0 l) + ∑ r : Fin 512, adds (fun k => x0 (ix2 r k)) (fun k => x2 (ix2 r k)) l := by
  pointwise [k0_pay11, k0_pay10, k0_pay9, k0_pay8, k0_pay7, k0_pay6, k0_pay5, k0_pay4, k0_pay3, k0_pay2, k0_pay1]
  rfl

theorem zero (l : Fin 2048) : k0_pay3 (F := Ideal) (ix2 0 l) = 0 := by pointwise [k0_pay3]

theorem ref_q (x0 : FVec Ideal S2048x2048 .f32) (x1 : FVec Ideal S1x2048 .f32) (x2 : FVec Ideal S2048x2048 .f32) (r : Fin 2048) : val_main_v33 (F := Ideal) x0 x1 x2 (ix1 r) = q (fun k => x0 (ix2 r k)) (fun k => x1 (ix2 0 k)) (fun k => x2 (ix2 r k)) := by
  unfold val_main_v33
  simp only [Host.reduceAdd, Ideal.hostReduceAdd_def]
  refine (outer 2048 _ _ _ r).trans ?_
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7]
  rfl

theorem ref_dx (x0 : FVec Ideal S2048x2048 .f32) (x1 : FVec Ideal S1x2048 .f32) (x2 : FVec Ideal S2048x2048 .f32) : val_main_v42 (F := Ideal) x0 x1 x2 = dx x0 x1 x2 := by
  funext j
  obtain ⟨r, l, rfl⟩ : ∃ (r l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_v22, val_main_v23, val_main_cst_4, val_main_v25, val_main_cst_5, val_main_v26, val_main_v27, val_main_v28, val_main_v29, val_main_v30, val_main_cst_6, val_main_v31, val_main_v32, val_main_cst_7, val_main_v34, val_main_v35, val_main_v36, val_main_v37, val_main_v38, val_main_v39, val_main_v41, val_main_v42]
  simp only [ref_q]
  rfl

theorem ref_dg (x0 : FVec Ideal S2048x2048 .f32) (x2 : FVec Ideal S2048x2048 .f32) : val_main_v40 (F := Ideal) x0 x2 = dg x0 x2 := by
  funext j
  obtain ⟨l, rfl⟩ : ∃ l : Fin 2048, j = ix2 0 l := ⟨j 1, by funext k; match k with | 0 => exact Subsingleton.elim (α := Fin 1) _ _ | 1 => rfl⟩
  have h : val_main_v24 (F := Ideal) x0 x2 (ix1 l) = ∑ r : Fin 2048, adds (fun k => x0 (ix2 r k)) (fun k => x2 (ix2 r k)) l := by
    unfold val_main_v24
    simp only [Host.reduceAdd, Ideal.hostReduceAdd_def]
    refine (front 2048 _ _ _ l).trans ?_
    pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7]
    rfl
  refine Eq.trans ?_ h
  pointwise [val_main_v40]

theorem first_x (t : Fin cfg0.N) (h0 : t.val % 4 = 0) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  rw [outsAt0_A m c t h0]; frame_out
theorem next_x (t : Fin cfg0.N) (h0 : ¬t.val % 4 = 0) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  rw [outsAt0_B m c t h0]; frame_out
theorem first_g (t : Fin cfg0.N) (h0 : t.val % 4 = 0) : (outsAt0 m c t.val t.isLt).2 = k0_pay1 (F := Ideal) (k0_pay4 (k0_pay3 (F := Ideal))) (k0_pay8 (iblk m c 0 t) (iblk m c 2 t)) := by
  rw [outsAt0_A m c t h0]; frame_out
theorem next_g (t : Fin cfg0.N) (h0 : ¬t.val % 4 = 0) : (outsAt0 m c t.val t.isLt).2 = k0_pay1 (F := Ideal) (k0_pay4 (outsAt0 m c (t.val - 1) (by omega)).2) (k0_pay8 (iblk m c 0 t) (iblk m c 2 t)) := by
  rw [outsAt0_B m c t h0]; frame_out

theorem out_x (t : Fin cfg0.N) : (outsAt0 m c t.val t.isLt).1 = k0_pay2 (F := Ideal) (iblk m c 0 t) (k0_pay10 (iblk m c 0 t) (iblk m c 1 t) (iblk m c 2 t)) (k0_pay11 (iblk m c 0 t) (iblk m c 1 t) (iblk m c 2 t)) := by
  by_cases h0 : t.val % 4 = 0
  · exact first_x m c t h0
  · exact next_x m c t h0

theorem final_x : (dats m 0 c).arrAt 3 cfg0.N = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_x]
  obtain ⟨r, l, rfl⟩ : ∃ (r : Fin 512) (l : Fin 2048), y = ix2 r l := ⟨y 0, y 1, by funext k; match k with | 0 => rfl | 1 => rfl⟩
  rw [emb_eq, dx_apply]
  simp only [x0_eq, x1_eq, x2_eq]
  rfl

theorem point_g (t : Fin cfg0.N) (a : FVec Ideal S1x2048 .f32) (j : S1x2048.Idx) : k0_pay1 (F := Ideal) (k0_pay4 a) (k0_pay8 (iblk m c 0 t) (iblk m c 2 t)) j
    = a j + ∑ r : Fin 512, adds (fun k => (m ((c : Thread nD τ).loc main_arg0)) (ix2 (row t r) k)) (fun k => (m ((c : Thread nD τ).loc main_arg2)) (ix2 (row t r) k)) (j 1) := by
  obtain ⟨l, rfl⟩ : ∃ l : Fin 2048, j = ix2 0 l := ⟨j 1, by funext k; match k with | 0 => exact Subsingleton.elim (α := Fin 1) _ _ | 1 => rfl⟩
  rw [dg_apply]
  simp only [x0_eq, x2_eq]
  rfl

theorem zero' (j : S1x2048.Idx) : k0_pay3 (F := Ideal) j = 0 := by
  obtain ⟨l, rfl⟩ : ∃ l : Fin 2048, j = ix2 0 l := ⟨j 1, by funext k; match k with | 0 => exact Subsingleton.elim (α := Fin 1) _ _ | 1 => rfl⟩
  exact zero l

theorem final_g : (dats m 0 c).arrAt 4 cfg0.N = dg (m ((c : Thread nD τ).loc main_arg0)) (m ((c : Thread nD τ).loc main_arg2)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0)
    (fun t (j : S1x2048.Idx) => ∑ r : Fin 512, adds (fun k => (m ((c : Thread nD τ).loc main_arg0)) (ix2 (row t r) k)) (fun k => (m ((c : Thread nD τ).loc main_arg2)) (ix2 (row t r) k)) (j 1))
    (fun t h j => ?_) (fun t h j => ?_) (le_of_eq N_0) t0_3 rfl j]
  · rw [zero_add]
    exact Fin.sum_mul_add_congr fun s k hl => congrArg (fun r => adds (fun k => (m ((c : Thread nD τ).loc main_arg0)) (ix2 r k)) (fun k => (m ((c : Thread nD τ).loc main_arg2)) (ix2 r k)) (j 1)) rfl
  · rw [first_g m c t h, point_g, zero']
  · rw [next_g m c t h, point_g]

/-- The two programs end with equal results. -/
theorem equal : letI := Cert.Kernel35Ideal.Gen.facts; letI := Cert.Reference35Ideal.Gen.facts; Cert.algebraic_Kernel35Ideal_Reference35Ideal := by
  intro m g m' g' _ hagree
  refine ⟨fun c => dx (m ((c.tc : Thread nD τ).loc main_arg0)) (m ((c.tc : Thread nD τ).loc main_arg1)) (m ((c.tc : Thread nD τ).loc main_arg2)), fun c => dg (m ((c.tc : Thread nD τ).loc main_arg0)) (m ((c.tc : Thread nD τ).loc main_arg2)),
    (θ_run _ _ _).mono (fun r h c => ?_) (Cert.Kernel35Ideal.Value.run_blocks m g),
    (θ_run _ _ _).mono (fun r h c => ?_) (Cert.Reference35Ideal.Value.run m' g')⟩
  · obtain ⟨hx, hg, hk⟩ := h c
    exact ⟨hx.trans (final_x m c), hg.trans (final_g m c), hk⟩
  · obtain ⟨hx, hg, hk⟩ := h c
    obtain ⟨a0, a1, a2⟩ := hagree c
    exact ⟨hx.trans ((val_main_v42_eq _ _).trans ((ref_dx _ _ _).trans (congr (congr (congrArg _ a0) a1) a2))),
      hg.trans ((val_main_v40_eq _ _).trans ((ref_dg _ _).trans (congr (congrArg _ a0) a2))), hk⟩

end Cert.P35

end
-- ==== Proof.P36.lean ====
/- The gradient of the norm before a block, in the block's input and in the gain. -/
module

public import proofs.«01_k».proof.Defs
public import proofs.«01_k».proof.Proof.NormGrad
public import proofs.«01_k».proof.Proof.Gen.Kernel36Ideal.Value
public import proofs.«01_k».proof.Proof.Gen.Reference36Ideal.Run
public import proofs.«01_k».proof.Proof.Gen.Reference36Ideal.Read
public import Idealize.ShloMosaic.Lib.Pipeline.ValueKit

@[expose] public section

set_option maxRecDepth 16384
set_option maxHeartbeats 1000000

noncomputable section

namespace Cert.P36

open Cert.Kernel36Ideal Cert.Kernel36Ideal.Gen Idealize.ShloMosaic Idealize.ShloMosaic.TcCoe Idealize.SL.Sem
open Idealize.ShloMosaic.Pipeline (Dat)
open Cert.Reference36Ideal.Read
open Cert.NormGrad

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (l : Fin 2048) : iblk m c 1 t (ix2 0 l) = m ((c : Thread nD τ).loc main_arg1) (ix2 0 l) := by
  blk_ext [iblk, V, idx t]

theorem x2_eq (t : Fin cfg0.N) (r : Fin 512) (l : Fin 2048) : iblk m c 2 t (ix2 r l) = m ((c : Thread nD τ).loc main_arg2) (ix2 (row t r) l) := by
  blk_ext [iblk, V, idx t, row]

theorem x3_eq (t : Fin cfg0.N) (r : Fin 512) (l : Fin 2048) : iblk m c 3 t (ix2 r l) = m ((c : Thread nD τ).loc main_arg3) (ix2 (row t r) l) := by
  blk_ext [iblk, V, idx t, row]

theorem emb_eq (t : Fin cfg0.N) (r : Fin 512) (l : Fin 2048) : ((cfg0.win 4).blk t).view.emb (ix2 r l) = ix2 (row t r) l := by
  blk_ext [idx t, row]

/-- The gradients of the rows and of the gain. -/
def dx (x0 : FVec Ideal S2048x2048 .f32) (x1 : FVec Ideal S1x2048 .f32) (x2 : FVec Ideal S2048x2048 .bf16) (x3 : FVec Ideal S2048x2048 .f32) : FVec Ideal S2048x2048 .f32 :=
  fun j => back (fun k => x0 (ix2 (j 0) k)) (fun k => x1 (ix2 0 k)) (fun k => x2 (ix2 (j 0) k)) (j 1) + x3 (ix2 (j 0) (j 1))
def dg (x0 : FVec Ideal S2048x2048 .f32) (x2 : FVec Ideal S2048x2048 .bf16) : FVec Ideal S1x2048 .f32 :=
  fun j => ∑ r : Fin 2048, adds (fun k => x0 (ix2 r k)) (fun k => x2 (ix2 r k)) (j 1)

theorem dx_apply (x0 : FVec Ideal S512x2048 .f32) (x1 : FVec Ideal S1x2048 .f32) (x2 : FVec Ideal S512x2048 .bf16) (x3 : FVec Ideal S512x2048 .f32) (r : Fin 512) (l : Fin 2048) : k0_pay1 (F := Ideal) x0 x3 (k0_pay10 x0 x1 x2) (k0_pay11 x0 x1 x2) (ix2 r l)
    = back (fun k => x0 (ix2 r k)) (fun k => x1 (ix2 0 k)) (fun k => x2 (ix2 r k)) l + x3 (ix2 r l) := by
  pointwise [k0_pay11, k0_pay10, k0_pay9, k0_pay8, k0_pay7, k0_pay6, k0_pay5, k0_pay4, k0_pay3, k0_pay2, k0_pay1]
  simp only [Fin.sum_univ_one]
  rfl

theorem dg_apply (x0 : FVec Ideal S512x2048 .f32) (x2 : FVec Ideal S512x2048 .bf16) (a : FVec Ideal S1x2048 .f32) (l : Fin 2048) : k0_pay2 (F := Ideal) (k0_pay4 a) (k0_pay8 x0 x2) (ix2 0 l)
    = a (ix2 0 l) + ∑ r : Fin 512, adds (fun k => x0 (ix2 r k)) (fun k => x2 (ix2 r k)) l := by
  pointwise [k0_pay11, k0_pay10, k0_pay9, k0_pay8, k0_pay7, k0_pay6, k0_pay5, k0_pay4, k0_pay3, k0_pay2, k0_pay1]
  rfl

theorem zero (l : Fin 2048) : k0_pay3 (F := Ideal) (ix2 0 l) = 0 := by pointwise [k0_pay3]

theorem ref_q (x0 : FVec Ideal S2048x2048 .f32) (x1 : FVec Ideal S1x2048 .f32) (x2 : FVec Ideal S2048x2048 .bf16) (r : Fin 2048) : val_main_v36 (F := Ideal) x0 x1 x2 (ix1 r) = q (fun k => x0 (ix2 r k)) (fun k => x1 (ix2 0 k)) (fun k => x2 (ix2 r k)) := by
  unfold val_main_v36
  simp only [Host.reduceAdd, Ideal.hostReduceAdd_def]
  refine (outer 2048 _ _ _ r).trans ?_
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7]
  rfl

theorem ref_dx (x0 : FVec Ideal S2048x2048 .f32) (x1 : FVec Ideal S1x2048 .f32) (x2 : FVec Ideal S2048x2048 .bf16) (x3 : FVec Ideal S2048x2048 .f32) : val_main_v44 (F := Ideal) x0 x1 x2 x3 = dx x0 x1 x2 x3 := by
  funext j
  obtain ⟨r, l, rfl⟩ : ∃ (r l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v27, val_main_cst_5, val_main_v28, val_main_v29, val_main_v30, val_main_v31, val_main_v32, val_main_v33, val_main_cst_6, val_main_v34, val_main_v35, val_main_cst_7, val_main_v37, val_main_v38, val_main_v39, val_main_v40, val_main_v41, val_main_v42, val_main_v44]
  simp only [ref_q]
  have h (a b c d : EReal) : d + a + b + c = a + b + c + d := by rw [add_comm (a + b + c), ← add_assoc, ← add_assoc]
  exact h _ _ _ _

theorem ref_dg (x0 : FVec Ideal S2048x2048 .f32) (x2 : FVec Ideal S2048x2048 .bf16) : val_main_v43 (F := Ideal) x0 x2 = dg x0 x2 := by
  funext j
  obtain ⟨l, rfl⟩ : ∃ l : Fin 2048, j = ix2 0 l := ⟨j 1, by funext k; match k with | 0 => exact Subsingleton.elim (α := Fin 1) _ _ | 1 => rfl⟩
  have h : val_main_v26 (F := Ideal) x0 x2 (ix1 l) = ∑ r : Fin 2048, adds (fun k => x0 (ix2 r k)) (fun k => x2 (ix2 r k)) l := by
    unfold val_main_v26
    simp only [Host.reduceAdd, Ideal.hostReduceAdd_def]
    refine (front 2048 _ _ _ l).trans ?_
    pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7]
    rfl
  refine Eq.trans ?_ h
  pointwise [val_main_v43]

theorem first_x (t : Fin cfg0.N) (h0 : t.val % 4 = 0) : (outsAt0 m c t.val t.isLt).1 = k0_pay1 (F := Ideal) (iblk m c 0 t) (iblk m c 3 t) (k0_pay10 (iblk m c 0 t) (iblk m c 1 t) (iblk m c 2 t)) (k0_pay11 (iblk m c 0 t) (iblk m c 1 t) (iblk m c 2 t)) := by
  rw [outsAt0_A m c t h0]; frame_out
theorem next_x (t : Fin cfg0.N) (h0 : ¬t.val % 4 = 0) : (outsAt0 m c t.val t.isLt).1 = k0_pay1 (F := Ideal) (iblk m c 0 t) (iblk m c 3 t) (k0_pay10 (iblk m c 0 t) (iblk m c 1 t) (iblk m c 2 t)) (k0_pay11 (iblk m c 0 t) (iblk m c 1 t) (iblk m c 2 t)) := by
  rw [outsAt0_B m c t h0]; frame_out
theorem first_g (t : Fin cfg0.N) (h0 : t.val % 4 = 0) : (outsAt0 m c t.val t.isLt).2 = k0_pay2 (F := Ideal) (k0_pay4 (k0_pay3 (F := Ideal))) (k0_pay8 (iblk m c 0 t) (iblk m c 2 t)) := by
  rw [outsAt0_A m c t h0]; frame_out
theorem next_g (t : Fin cfg0.N) (h0 : ¬t.val % 4 = 0) : (outsAt0 m c t.val t.isLt).2 = k0_pay2 (F := Ideal) (k0_pay4 (outsAt0 m c (t.val - 1) (by omega)).2) (k0_pay8 (iblk m c 0 t) (iblk m c 2 t)) := by
  rw [outsAt0_B m c t h0]; frame_out

theorem out_x (t : Fin cfg0.N) : (outsAt0 m c t.val t.isLt).1 = k0_pay1 (F := Ideal) (iblk m c 0 t) (iblk m c 3 t) (k0_pay10 (iblk m c 0 t) (iblk m c 1 t) (iblk m c 2 t)) (k0_pay11 (iblk m c 0 t) (iblk m c 1 t) (iblk m c 2 t)) := by
  by_cases h0 : t.val % 4 = 0
  · exact first_x m c t h0
  · exact next_x m c t h0

theorem final_x : (dats m 0 c).arrAt 4 cfg0.N = dx (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out_x]
  obtain ⟨r, l, rfl⟩ : ∃ (r : Fin 512) (l : Fin 2048), y = ix2 r l := ⟨y 0, y 1, by funext k; match k with | 0 => rfl | 1 => rfl⟩
  rw [emb_eq, dx_apply]
  simp only [x0_eq, x1_eq, x2_eq, x3_eq]
  rfl

theorem point_g (t : Fin cfg0.N) (a : FVec Ideal S1x2048 .f32) (j : S1x2048.Idx) : k0_pay2 (F := Ideal) (k0_pay4 a) (k0_pay8 (iblk m c 0 t) (iblk m c 2 t)) j
    = a j + ∑ r : Fin 512, adds (fun k => (m ((c : Thread nD τ).loc main_arg0)) (ix2 (row t r) k)) (fun k => (m ((c : Thread nD τ).loc main_arg2)) (ix2 (row t r) k)) (j 1) := by
  obtain ⟨l, rfl⟩ : ∃ l : Fin 2048, j = ix2 0 l := ⟨j 1, by funext k; match k with | 0 => exact Subsingleton.elim (α := Fin 1) _ _ | 1 => rfl⟩
  rw [dg_apply]
  simp only [x0_eq, x2_eq]
  rfl

theorem zero' (j : S1x2048.Idx) : k0_pay3 (F := Ideal) j = 0 := by
  obtain ⟨l, rfl⟩ : ∃ l : Fin 2048, j = ix2 0 l := ⟨j 1, by funext k; match k with | 0 => exact Subsingleton.elim (α := Fin 1) _ _ | 1 => rfl⟩
  exact zero l

theorem final_g : (dats m 0 c).arrAt 5 cfg0.N = dg (m ((c : Thread nD τ).loc main_arg0)) (m ((c : Thread nD τ).loc main_arg2)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0)
    (fun t (j : S1x2048.Idx) => ∑ r : Fin 512, adds (fun k => (m ((c : Thread nD τ).loc main_arg0)) (ix2 (row t r) k)) (fun k => (m ((c : Thread nD τ).loc main_arg2)) (ix2 (row t r) k)) (j 1))
    (fun t h j => ?_) (fun t h j => ?_) (le_of_eq N_0) t0_3 rfl j]
  · rw [zero_add]
    exact Fin.sum_mul_add_congr fun s k hl => congrArg (fun r => adds (fun k => (m ((c : Thread nD τ).loc main_arg0)) (ix2 r k)) (fun k => (m ((c : Thread nD τ).loc main_arg2)) (ix2 r k)) (j 1)) rfl
  · rw [first_g m c t h, point_g, zero']
  · rw [next_g m c t h, point_g]

/-- The two programs end with equal results. -/
theorem equal : letI := Cert.Kernel36Ideal.Gen.facts; letI := Cert.Reference36Ideal.Gen.facts; Cert.algebraic_Kernel36Ideal_Reference36Ideal := by
  intro m g m' g' _ hagree
  refine ⟨fun c => dx (m ((c.tc : Thread nD τ).loc main_arg0)) (m ((c.tc : Thread nD τ).loc main_arg1)) (m ((c.tc : Thread nD τ).loc main_arg2)) (m ((c.tc : Thread nD τ).loc main_arg3)), fun c => dg (m ((c.tc : Thread nD τ).loc main_arg0)) (m ((c.tc : Thread nD τ).loc main_arg2)),
    (θ_run _ _ _).mono (fun r h c => ?_) (Cert.Kernel36Ideal.Value.run_blocks m g),
    (θ_run _ _ _).mono (fun r h c => ?_) (Cert.Reference36Ideal.Value.run m' g')⟩
  · obtain ⟨hx, hg, hk⟩ := h c
    exact ⟨hx.trans (final_x m c), hg.trans (final_g m c), hk⟩
  · obtain ⟨hx, hg, hk⟩ := h c
    obtain ⟨a0, a1, a2, a3⟩ := hagree c
    exact ⟨hx.trans ((val_main_v44_eq _ _).trans ((ref_dx _ _ _ _).trans (congr (congr (congr (congrArg _ a0) a1) a2) a3))),
      hg.trans ((val_main_v43_eq _ _).trans ((ref_dg _ _).trans (congr (congrArg _ a0) a2))), hk⟩

end Cert.P36

end
-- ==== Proof.P37.lean ====
/- The gradient of the norm before the mixer, in the mixer's input and in the gain. -/
module

public import proofs.«01_k».proof.Defs
public import proofs.«01_k».proof.Proof.NormGrad
public import proofs.«01_k».proof.Proof.Gen.Kernel37Ideal.Value
public import proofs.«01_k».proof.Proof.Gen.Reference37Ideal.Run
public import proofs.«01_k».proof.Proof.Gen.Reference37Ideal.Read
public import Idealize.ShloMosaic.Lib.Pipeline.ValueKit

@[expose] public section

set_option maxRecDepth 16384
set_option maxHeartbeats 1000000

noncomputable section

namespace Cert.P37

open Cert.Kernel37Ideal Cert.Kernel37Ideal.Gen Idealize.ShloMosaic Idealize.ShloMosaic.TcCoe Idealize.SL.Sem
open Idealize.ShloMosaic.Pipeline (Dat)
open Cert.Reference37Ideal.Read
open Cert.NormGrad

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] ∧ t.val < 4 :=
  (by decide +kernel : ∀ t : Fin grid0.N, _)

/-- Row `r` of block `t`. -/
def row (t : Fin cfg0.N) (r : Fin 512) : Fin 2048 := ⟨t.val * 512 + r.val, by have := (idx t).2.2.2.2.2.2.2; omega⟩

theorem x0_eq (t : Fin cfg0.N) (r : Fin 512) (l : Fin 2048) : iblk m c 0 t (ix2 r l) = m ((c : Thread nD τ).loc main_arg0) (ix2 (row t r) l) := by
  blk_ext [iblk, V, idx t, row]

theorem x1_eq (t : Fin cfg0.N) (l : Fin 2048) : iblk m c 1 t (ix2 0 l) = m ((c : Thread nD τ).loc main_arg1) (ix2 0 l) := by
  blk_ext [iblk, V, idx t]

theorem x2_eq (t : Fin cfg0.N) (r : Fin 512) (l : Fin 2048) : iblk m c 2 t (ix2 r l) = m ((c : Thread nD τ).loc main_arg2) (ix2 (row t r) l) := by
  blk_ext [iblk, V, idx t, row]

theorem x3_eq (t : Fin cfg0.N) (r : Fin 512) (l : Fin 2048) : iblk m c 3 t (ix2 r l) = m ((c : Thread nD τ).loc main_arg3) (ix2 (row t r) l) := by
  blk_ext [iblk, V, idx t, row]

theorem x4_eq (t : Fin cfg0.N) (r : Fin 512) (l : Fin 2048) : iblk m c 4 t (ix2 r l) = m ((c : Thread nD τ).loc main_arg4) (ix2 (row t r) l) := by
  blk_ext [iblk, V, idx t, row]

theorem emb_eq (t : Fin cfg0.N) (r : Fin 512) (l : Fin 2048) : ((cfg0.win 5).blk t).view.emb (ix2 r l) = ix2 (row t r) l := by
  blk_ext [idx t, row]

/-- The gradients of the rows and of the gain. -/
def dx (x0 : FVec Ideal S2048x2048 .f32) (x1 : FVec Ideal S1x2048 .f32) (x2 : FVec Ideal S2048x2048 .bf16) (x3 : FVec Ideal S2048x2048 .bf16) (x4 : FVec Ideal S2048x2048 .f32) : FVec Ideal S2048x2048 .f32 :=
  fun j => back (fun k => x0 (ix2 (j 0) k)) (fun k => x1 (ix2 0 k)) (fun k => (x2 (ix2 (j 0) k) + x3 (ix2 (j 0) k))) (j 1) + x4 (ix2 (j 0) (j 1))
def dg (x0 : FVec Ideal S2048x2048 .f32) (x2 : FVec Ideal S2048x2048 .bf16) (x3 : FVec Ideal S2048x2048 .bf16) : FVec Ideal S1x2048 .f32 :=
  fun j => ∑ r : Fin 2048, adds (fun k => x0 (ix2 r k)) (fun k => (x2 (ix2 r k) + x3 (ix2 r k))) (j 1)

/-- What row `r` adds to the gain's gradient. -/
def part (x0 : FVec Ideal S2048x2048 .f32) (x2 : FVec Ideal S2048x2048 .bf16) (x3 : FVec Ideal S2048x2048 .bf16) (r l : Fin 2048) : EReal := adds (fun k => x0 (ix2 r k)) (fun k => (x2 (ix2 r k) + x3 (ix2 r k))) l

theorem dx_apply (x0 : FVec Ideal S512x2048 .f32) (x1 : FVec Ideal S1x2048 .f32) (x2 : FVec Ideal S512x2048 .bf16) (x3 : FVec Ideal S512x2048 .bf16) (x4 : FVec Ideal S512x2048 .f32) (r : Fin 512) (l : Fin 2048) : k0_pay1 (F := Ideal) x0 x4 (k0_pay8 x0) (k0_pay10 x1 x2 x3) (k0_pay11 x0 x1 x2 x3) (k0_pay12 x0) (ix2 r l)
    = back (fun k => x0 (ix2 r k)) (fun k => x1 (ix2 0 k)) (fun k => (x2 (ix2 r k) + x3 (ix2 r k))) l + x4 (ix2 r l) := by
  pointwise [k0_pay12, k0_pay11, k0_pay10, k0_pay9, k0_pay8, k0_pay7, k0_pay6, k0_pay5, k0_pay4, k0_pay3, k0_pay2, k0_pay1]
  simp only [Fin.sum_univ_one]
  rfl

theorem dg_apply (x0 : FVec Ideal S512x2048 .f32) (x2 : FVec Ideal S512x2048 .bf16) (x3 : FVec Ideal S512x2048 .bf16) (a : FVec Ideal S1x2048 .f32) (l : Fin 2048) : k0_pay2 (F := Ideal) (k0_pay4 a) (k0_pay9 x0 x2 x3) (ix2 0 l)
    = a (ix2 0 l) + ∑ r : Fin 512, adds (fun k => x0 (ix2 r k)) (fun k => (x2 (ix2 r k) + x3 (ix2 r k))) l := by
  pointwise [k0_pay12, k0_pay11, k0_pay10, k0_pay9, k0_pay8, k0_pay7, k0_pay6, k0_pay5, k0_pay4, k0_pay3, k0_pay2, k0_pay1]
  rfl

theorem zero (l : Fin 2048) : k0_pay3 (F := Ideal) (ix2 0 l) = 0 := by pointwise [k0_pay3]

theorem ref_q (x0 : FVec Ideal S2048x2048 .f32) (x1 : FVec Ideal S1x2048 .f32) (x2 : FVec Ideal S2048x2048 .bf16) (x3 : FVec Ideal S2048x2048 .bf16) (r : Fin 2048) : val_main_v38 (F := Ideal) x0 x1 x2 x3 (ix1 r) = q (fun k => x0 (ix2 r k)) (fun k => x1 (ix2 0 k)) (fun k => (x2 (ix2 r k) + x3 (ix2 r k))) := by
  unfold val_main_v38
  simp only [Host.reduceAdd, Ideal.hostReduceAdd_def]
  refine (outer 2048 _ _ _ r).trans ?_
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7]
  rfl

theorem ref_dx (x0 : FVec Ideal S2048x2048 .f32) (x1 : FVec Ideal S1x2048 .f32) (x2 : FVec Ideal S2048x2048 .bf16) (x3 : FVec Ideal S2048x2048 .bf16) (x4 : FVec Ideal S2048x2048 .f32) : val_main_v46 (F := Ideal) x0 x1 x2 x3 x4 = dx x0 x1 x2 x3 x4 := by
  funext j
  obtain ⟨r, l, rfl⟩ : ∃ (r l : Fin 2048), j = ix2 r l := ⟨j 0, j 1, by funext k; match k with | 0 => rfl | 1 => rfl⟩
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_cst_3, val_main_v24, val_main_v25, val_main_v26, val_main_v27, val_main_cst_4, val_main_v29, val_main_cst_5, val_main_v30, val_main_v31, val_main_v32, val_main_v33, val_main_v34, val_main_v35, val_main_cst_6, val_main_v36, val_main_v37, val_main_cst_7, val_main_v39, val_main_v40, val_main_v41, val_main_v42, val_main_v43, val_main_v44, val_main_v46]
  simp only [ref_q]
  have h (a b c d : EReal) : d + a + b + c = a + b + c + d := by rw [add_comm (a + b + c), ← add_assoc, ← add_assoc]
  exact h _ _ _ _

theorem ref_dg (x0 : FVec Ideal S2048x2048 .f32) (x2 : FVec Ideal S2048x2048 .bf16) (x3 : FVec Ideal S2048x2048 .bf16) : val_main_v45 (F := Ideal) x0 x2 x3 = dg x0 x2 x3 := by
  funext j
  obtain ⟨l, rfl⟩ : ∃ l : Fin 2048, j = ix2 0 l := ⟨j 1, by funext k; match k with | 0 => exact Subsingleton.elim (α := Fin 1) _ _ | 1 => rfl⟩
  have h : val_main_v28 (F := Ideal) x0 x2 x3 (ix1 l) = ∑ r : Fin 2048, adds (fun k => x0 (ix2 r k)) (fun k => (x2 (ix2 r k) + x3 (ix2 r k))) l := by
    unfold val_main_v28
    simp only [Host.reduceAdd, Ideal.hostReduceAdd_def]
    refine (front 2048 _ _ _ l).trans ?_
    pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7]
    rfl
  refine Eq.trans ?_ h
  pointwise [val_main_v45]

theorem first_x (t : Fin cfg0.N) (h0 : t.val % 4 = 0) : (outsAt0 m c t.val t.isLt).1 = k0_pay1 (F := Ideal) (iblk m c 0 t) (iblk m c 4 t) (k0_pay8 (iblk m c 0 t)) (k0_pay10 (iblk m c 1 t) (iblk m c 2 t) (iblk m c 3 t)) (k0_pay11 (iblk m c 0 t) (iblk m c 1 t) (iblk m c 2 t) (iblk m c 3 t)) (k0_pay12 (iblk m c 0 t)) := by
  rw [outsAt0_A m c t h0]; frame_out
theorem next_x (t : Fin cfg0.N) (h0 : ¬t.val % 4 = 0) : (outsAt0 m c t.val t.isLt).1 = k0_pay1 (F := Ideal) (iblk m c 0 t) (iblk m c 4 t) (k0_pay8 (iblk m c 0 t)) (k0_pay10 (iblk m c 1 t) (iblk m c 2 t) (iblk m c 3 t)) (k0_pay11 (iblk m c 0 t) (iblk m c 1 t) (iblk m c 2 t) (iblk m c 3 t)) (k0_pay12 (iblk m c 0 t)) := by
  rw [outsAt0_B m c t h0]; frame_out
theorem first_g (t : Fin cfg0.N) (h0 : t.val % 4 = 0) : (outsAt0 m c t.val t.isLt).2 = k0_pay2 (F := Ideal) (k0_pay4 (k0_pay3 (F := Ideal))) (k0_pay9 (iblk m c 0 t) (iblk m c 2 t) (iblk m c 3 t)) := by
  rw [outsAt0_A m c t h0]; frame_out
theorem next_g (t : Fin cfg0.N) (h0 : ¬t.val % 4 = 0) : (outsAt0 m c t.val t.isLt).2 = k0_pay2 (F := Ideal) (k0_pay4 (outsAt0 m c (t.val - 1) (by omega)).2) (k0_pay9 (iblk m c 0 t) (iblk m c 2 t) (iblk m c 3 t)) := by
  rw [outsAt0_B m c t h0]; frame_out

theorem out_x (t : Fin cfg0.N) : (outsAt0 m c t.val t.isLt).1 = k0_pay1 (F := Ideal) (iblk m c 0 t) (iblk m c 4 t) (k0_pay8 (iblk m c 0 t)) (k0_pay10 (iblk m c 1 t) (iblk m c 2 t) (iblk m c 3 t)) (k0_pay11 (iblk m c 0 t) (iblk m c 1 t) (iblk m c 2 t) (iblk m c 3 t)) (k0_pay12 (iblk m c 0 t)) := by
  by_cases h0 : t.val % 4 = 0
  · exact first_x m c t h0
  · exact next_x m c t h0

theorem final_x : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, out_x]
  obtain ⟨r, l, rfl⟩ : ∃ (r : Fin 512) (l : Fin 2048), y = ix2 r l := ⟨y 0, y 1, by funext k; match k with | 0 => rfl | 1 => rfl⟩
  rw [emb_eq, dx_apply]
  simp only [x0_eq, x1_eq, x2_eq, x3_eq, x4_eq]
  rfl

theorem point_g (t : Fin cfg0.N) (a : FVec Ideal S1x2048 .f32) (j : S1x2048.Idx) : k0_pay2 (F := Ideal) (k0_pay4 a) (k0_pay9 (iblk m c 0 t) (iblk m c 2 t) (iblk m c 3 t)) j
    = a j + ∑ r : Fin 512, part (m ((c : Thread nD τ).loc main_arg0)) (m ((c : Thread nD τ).loc main_arg2)) (m ((c : Thread nD τ).loc main_arg3)) (row t r) (j 1) := by
  obtain ⟨l, rfl⟩ : ∃ l : Fin 2048, j = ix2 0 l := ⟨j 1, by funext k; match k with | 0 => exact Subsingleton.elim (α := Fin 1) _ _ | 1 => rfl⟩
  rw [dg_apply]
  simp only [x0_eq, x2_eq, x3_eq]
  rfl

theorem zero' (j : S1x2048.Idx) : k0_pay3 (F := Ideal) j = 0 := by
  obtain ⟨l, rfl⟩ : ∃ l : Fin 2048, j = ix2 0 l := ⟨j 1, by funext k; match k with | 0 => exact Subsingleton.elim (α := Fin 1) _ _ | 1 => rfl⟩
  exact zero l

theorem final_g : (dats m 0 c).arrAt 6 cfg0.N = dg (m ((c : Thread nD τ).loc main_arg0)) (m ((c : Thread nD τ).loc main_arg2)) (m ((c : Thread nD τ).loc main_arg3)) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t (j : S1x2048.Idx) => ∑ r : Fin 512, part (m ((c : Thread nD τ).loc main_arg0)) (m ((c : Thread nD τ).loc main_arg2)) (m ((c : Thread nD τ).loc main_arg3)) (row t r) (j 1))
    (fun t h j => ?_) (fun t h j => ?_) (le_of_eq N_0) t0_3 rfl j]
  · rw [zero_add]
    exact Fin.sum_mul_add_congr fun s k hl => congrArg (fun r => part (m ((c : Thread nD τ).loc main_arg0)) (m ((c : Thread nD τ).loc main_arg2)) (m ((c : Thread nD τ).loc main_arg3)) r (j 1)) rfl
  · rw [first_g m c t h, point_g, zero']
  · rw [next_g m c t h, point_g]

/-- The two programs end with equal results. -/
theorem equal : letI := Cert.Kernel37Ideal.Gen.facts; letI := Cert.Reference37Ideal.Gen.facts; Cert.algebraic_Kernel37Ideal_Reference37Ideal := by
  intro m g m' g' _ hagree
  refine ⟨fun c => dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => dg (m ((c.tc : Thread nD τ).loc main_arg0)) (m ((c.tc : Thread nD τ).loc main_arg2)) (m ((c.tc : Thread nD τ).loc main_arg3)),
    (θ_run _ _ _).mono (fun r h c => ?_) (Cert.Kernel37Ideal.Value.run_blocks m g),
    (θ_run _ _ _).mono (fun r h c => ?_) (Cert.Reference37Ideal.Value.run m' g')⟩
  · obtain ⟨hx, hg, hk⟩ := h c
    exact ⟨hx.trans (final_x m c), hg.trans (final_g m c), hk⟩
  · obtain ⟨hx, hg, hk⟩ := h c
    obtain ⟨a0, a1, a2, a3, a4⟩ := hagree c
    exact ⟨hx.trans ((val_main_v46_eq _ _).trans ((ref_dx _ _ _ _ _).trans (congr (congr (congr (congr (congrArg _ a0) a1) a2) a3) a4))),
      hg.trans ((val_main_v45_eq _ _ _).trans ((ref_dg _ _ _).trans (congr (congr (congrArg _ a0) a2) a3))), hk⟩

end Cert.P37

end
-- ==== Proof.P38.lean ====
/- The gradient of the memory's norm, in the memory and in the gain. -/
module

public import proofs.«01_k».proof.Defs
public import proofs.«01_k».proof.Proof.NormGrad
public import proofs.«01_k».proof.Proof.Gen.Kernel38Ideal.Value
public import proofs.«01_k».proof.Proof.Gen.Reference38Ideal.Run
public import proofs.«01_k».proof.Proof.Gen.Reference38Ideal.Read
public import Idealize.ShloMosaic.Lib.Pipeline.ValueKit

@[expose] public section

set_option maxRecDepth 16384
set_option maxHeartbeats 1000000

noncomputable section

namespace Cert.P38

open Cert.Kernel38Ideal Cert.Kernel38Ideal.Gen Idealize.ShloMosaic Idealize.ShloMosaic.TcCoe Idealize.SL.Sem
open Idealize.ShloMosaic.Pipeline (Dat)
open Cert.Reference38Ideal.Read
open Cert.NormGrad

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ t.val < 1 :=
  (by decide +kernel : ∀ t : Fin grid0.N, _)

/-- Row `r` of block `t`. -/
def row (t : Fin cfg0.N) (r : Fin 256) : Fin 256 := ⟨t.val * 256 + r.val, by have := (idx t).2.2.2.2.2.2; omega⟩

theorem x0_eq (t : Fin cfg0.N) (r : Fin 256) (l : Fin 2048) : iblk m c 0 t (ix2 r l) = m ((c : Thread nD τ).loc main_arg0) (ix2 (row t r) l) := by
  blk_ext [iblk, V, idx t, row]

theorem x1_eq (t : Fin cfg0.N) (l : Fin 2048) : iblk m c 1 t (ix2 0 l) = m ((c : Thread nD τ).loc main_arg1) (ix2 0 l) := by
  blk_ext [iblk, V, idx t]

theorem x2_eq (t : Fin cfg0.N) (r : Fin 256) (l : Fin 2048) : iblk m c 2 t (ix2 r l) = m ((c : Thread nD τ).loc main_arg2) (ix2 (row t r) l) := by
  blk_ext [iblk, V, idx t, row]

theorem emb_eq (t : Fin cfg0.N) (r : Fin 256) (l : Fin 2048) : ((cfg0.win 4).blk t).view.emb (ix2 r l) = ix2 (row t r) l := by
  blk_ext [idx t, row]

/-- The gradients of the rows and of the gain. -/
def dx (x0 : FVec Ideal S256x2048 .f32) (x1 : FVec Ideal S1x2048 .f32) (x2 : FVec Ideal S256x2048 .bf16) : FVec Ideal S256x2048 .f32 :=
  fun j => back (fun k => x0 (ix2 (j 0) k)) (fun k => x1 (ix2 0 k)) (fun k => x2 (ix2 (j 0) k)) (j 1)
def dg (x0 : FVec Ideal S256x2048 .f32) (x2 : FVec Ideal S256x2048 .bf16) : FVec Ideal S1x2048 .f32 :=
  fun j => ∑ r : Fin 256, adds (fun k => x0 (ix2 r k)) (fun k => x2 (ix2 r k)) (j 1)

theorem dx_apply (x0 : FVec Ideal S256x2048 .f32) (x1 : FVec Ideal S1x2048 .f32) (x2 : FVec Ideal S256x2048 .bf16) (z : FVec Ideal S256x2048 .f32) (r : Fin 256) (l : Fin 2048) : k0_pay1 (F := Ideal) x0 (k0_pay4 z) (k0_pay11 x0 x1 x2) (k0_pay12 x0 x1 x2) k0_pay13 (ix2 r l)
    = back (fun k => x0 (ix2 r k)) (fun k => x1 (ix2 0 k)) (fun k => x2 (ix2 r k)) l + z (ix2 r l) := by
  pointwise [k0_pay13, k0_pay12, k0_pay11, k0_pay10, k0_pay9, k0_pay8, k0_pay7, k0_pay6, k0_pay5, k0_pay4, k0_pay3, k0_pay2, k0_pay1]
  simp only [Fin.sum_univ_one]
  rfl

theorem dg_apply (x0 : FVec Ideal S256x2048 .f32) (x2 : FVec Ideal S256x2048 .bf16) (a : FVec Ideal S1x2048 .f32) (l : Fin 2048) : k0_pay2 (F := Ideal) (k0_pay5 a) (k0_pay9 x0 x2) (ix2 0 l)
    = a (ix2 0 l) + ∑ r : Fin 256, adds (fun k => x0 (ix2 r k)) (fun k => x2 (ix2 r k)) l := by
  pointwise [k0_pay13, k0_pay12, k0_pay11, k0_pay10, k0_pay9, k0_pay8, k0_pay7, k0_pay6, k0_pay5, k0_pay4, k0_pay3, k0_pay2, k0_pay1]
  rfl

theorem zero (l : Fin 2048) : k0_pay3 (F := Ideal) (ix2 0 l) = 0 := by pointwise [k0_pay3]

theorem ref_q (x0 : FVec Ideal S256x2048 .f32) (x1 : FVec Ideal S1x2048 .f32) (x2 : FVec Ideal S256x2048 .bf16) (r : Fin 256) : val_main_v34 (F := Ideal) x0 x1 x2 (ix1 r) = q (fun k => x0 (ix2 r k)) (fun k => x1 (ix2 0 k)) (fun k => x2 (ix2 r k)) := by
  unfold val_main_v34
  simp only [Host.reduceAdd, Ideal.hostReduceAdd_def]
  refine (outer 256 _ _ _ r).trans ?_
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_cst_6, val_main_v32, val_main_v33, val_main_cst_7]
  rfl

theorem ref_dx (x0 : FVec Ideal S256x2048 .f32) (x1 : FVec Ideal S1x2048 .f32) (x2 : FVec Ideal S256x2048 .bf16) : val_main_v42 (F := Ideal) x0 x1 x2 = dx x0 x1 x2 := by
  funext j
  obtain ⟨r, l, rfl⟩ : ∃ (r : Fin 256) (l : Fin 2048), j = ix2 r l := ⟨j 0, j 1, by funext k; match k with | 0 => rfl | 1 => rfl⟩
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_cst_3, val_main_v21, val_main_v22, val_main_v23, val_main_v24, val_main_cst_4, val_main_v26, val_main_cst_5, val_main_v27, val_main_v28, val_main_v29, val_main_v30, val_main_v31, val_main_cst_6, val_main_v32, val_main_v33, val_main_cst_7, val_main_v35, val_main_v36, val_main_v37, val_main_v38, val_main_v39, val_main_v40, val_main_v42]
  simp only [ref_q]
  rfl

theorem ref_dg (x0 : FVec Ideal S256x2048 .f32) (x2 : FVec Ideal S256x2048 .bf16) : val_main_v41 (F := Ideal) x0 x2 = dg x0 x2 := by
  funext j
  obtain ⟨l, rfl⟩ : ∃ l : Fin 2048, j = ix2 0 l := ⟨j 1, by funext k; match k with | 0 => exact Subsingleton.elim (α := Fin 1) _ _ | 1 => rfl⟩
  have h : val_main_v25 (F := Ideal) x0 x2 (ix1 l) = ∑ r : Fin 256, adds (fun k => x0 (ix2 r k)) (fun k => x2 (ix2 r k)) l := by
    unfold val_main_v25
    simp only [Host.reduceAdd, Ideal.hostReduceAdd_def]
    refine (front 2048 _ _ _ l).trans ?_
    pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_cst_6, val_main_v32, val_main_v33, val_main_cst_7]
    rfl
  refine Eq.trans ?_ h
  pointwise [val_main_v41]

theorem z_eq (t : Fin cfg0.N) (r : Fin 256) (l : Fin 2048) : iblk m c 3 t (ix2 r l) = (0 : EReal) :=
  Eq.trans (b := Ideal.ofBits .f32 0x00000000#32) rfl (by norm_num)

theorem out_x (t : Fin cfg0.N) : (outsAt0 m c t).1 = k0_pay1 (F := Ideal) (iblk m c 0 t) (k0_pay4 (iblk m c 3 t)) (k0_pay11 (iblk m c 0 t) (iblk m c 1 t) (iblk m c 2 t)) (k0_pay12 (iblk m c 0 t) (iblk m c 1 t) (iblk m c 2 t)) k0_pay13 := by
  unfold outsAt0; frame_out

theorem out_g (t : Fin cfg0.N) : (outsAt0 m c t).2 = k0_pay2 (F := Ideal) (k0_pay5 (k0_pay3 (F := Ideal))) (k0_pay9 (iblk m c 0 t) (iblk m c 2 t)) := by
  unfold outsAt0; frame_out

theorem final_x : (dats m 0 c).arrAt 4 cfg0.N = dx (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out_x]
  obtain ⟨r, l, rfl⟩ : ∃ (r : Fin 256) (l : Fin 2048), y = ix2 r l := ⟨y 0, y 1, by funext k; match k with | 0 => rfl | 1 => rfl⟩
  rw [emb_eq, dx_apply, z_eq, add_zero]
  simp only [x0_eq, x1_eq, x2_eq]
  rfl

theorem row_eq (t : Fin cfg0.N) (r : Fin 256) : row t r = r :=
  Fin.ext (by show t.val * 256 + r.val = r.val; have := (idx t).2.2.2.2.2.2; omega)

theorem embg_eq (t : Fin cfg0.N) (l : Fin 2048) : ((cfg0.win 5).blk t).view.emb (ix2 0 l) = ix2 0 l := by
  blk_ext [idx t]

theorem final_g : (dats m 0 c).arrAt 5 cfg0.N = dg (m ((c : Thread nD τ).loc main_arg0)) (m ((c : Thread nD τ).loc main_arg2)) := by
  refine (dats m 0 c).arrAt_eq_of_covers 5 _ (by decide +kernel) fun t _ y => ?_
  blk_simp
  rw [after0_5, out_g]
  obtain ⟨l, rfl⟩ : ∃ l : Fin 2048, y = ix2 0 l := ⟨y 1, by funext k; match k with | 0 => exact Subsingleton.elim (α := Fin 1) _ _ | 1 => rfl⟩
  rw [embg_eq, dg_apply, zero, zero_add]
  simp only [x0_eq, x2_eq, row_eq]
  rfl

/-- The two programs end with equal results. -/
theorem equal : letI := Cert.Kernel38Ideal.Gen.facts; letI := Cert.Reference38Ideal.Gen.facts; Cert.algebraic_Kernel38Ideal_Reference38Ideal := by
  intro m g m' g' _ hagree
  refine ⟨fun c => dx (m ((c.tc : Thread nD τ).loc main_arg0)) (m ((c.tc : Thread nD τ).loc main_arg1)) (m ((c.tc : Thread nD τ).loc main_arg2)), fun c => dg (m ((c.tc : Thread nD τ).loc main_arg0)) (m ((c.tc : Thread nD τ).loc main_arg2)),
    (θ_run _ _ _).mono (fun r h c => ?_) (Cert.Kernel38Ideal.Value.run_blocks m g),
    (θ_run _ _ _).mono (fun r h c => ?_) (Cert.Reference38Ideal.Value.run m' g')⟩
  · obtain ⟨hx, hg, hk⟩ := h c
    exact ⟨hx.trans (final_x m c), hg.trans (final_g m c), hk⟩
  · obtain ⟨hx, hg, hk⟩ := h c
    obtain ⟨a0, a1, a2⟩ := hagree c
    exact ⟨hx.trans ((val_main_v42_eq _ _).trans ((ref_dx _ _ _).trans (congr (congr (congrArg _ a0) a1) a2))),
      hg.trans ((val_main_v41_eq _ _).trans ((ref_dg _ _).trans (congr (congrArg _ a0) a2))), hk⟩

end Cert.P38

end
-- ==== Proof.lean ====
/- The certificate: the runs' frames, and each kernel's arrays equal to its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Equation
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Kernel38Ideal.Value
public import proofs.«01_k».proof.Proof.Gen.Reference38Ideal.Run
public import proofs.«01_k».proof.Proof.Gen.Reference38Ideal.Read
public import proofs.«01_k».proof.Proof.P2
public import proofs.«01_k».proof.Proof.P3
public import proofs.«01_k».proof.Proof.P4
public import proofs.«01_k».proof.Proof.P5
public import proofs.«01_k».proof.Proof.P6
public import proofs.«01_k».proof.Proof.P7
public import proofs.«01_k».proof.Proof.P8
public import proofs.«01_k».proof.Proof.P9
public import proofs.«01_k».proof.Proof.P10
public import proofs.«01_k».proof.Proof.P11
public import proofs.«01_k».proof.Proof.P12
public import proofs.«01_k».proof.Proof.P13
public import proofs.«01_k».proof.Proof.P14
public import proofs.«01_k».proof.Proof.P15
public import proofs.«01_k».proof.Proof.P16
public import proofs.«01_k».proof.Proof.P17
public import proofs.«01_k».proof.Proof.P18
public import proofs.«01_k».proof.Proof.P19
public import proofs.«01_k».proof.Proof.P20
public import proofs.«01_k».proof.Proof.P21
public import proofs.«01_k».proof.Proof.P22
public import proofs.«01_k».proof.Proof.P23
public import proofs.«01_k».proof.Proof.P24
public import proofs.«01_k».proof.Proof.P25
public import proofs.«01_k».proof.Proof.P26
public import proofs.«01_k».proof.Proof.P27
public import proofs.«01_k».proof.Proof.P28
public import proofs.«01_k».proof.Proof.P29
public import proofs.«01_k».proof.Proof.P30
public import proofs.«01_k».proof.Proof.P31
public import proofs.«01_k».proof.Proof.P32
public import proofs.«01_k».proof.Proof.P33
public import proofs.«01_k».proof.Proof.P34
public import proofs.«01_k».proof.Proof.P35
public import proofs.«01_k».proof.Proof.P36
public import proofs.«01_k».proof.Proof.P37
public import proofs.«01_k».proof.Proof.P38
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- From memories agreeing on the arguments the kernel and the reference end with the same five arrays. -/
theorem algebraic : letI := Cert.KernelIdeal.Gen.facts; letI := Cert.ReferenceIdeal.Gen.facts; Cert.algebraic_KernelIdeal_ReferenceIdeal := by
  pair_intro
  · run_from Cert.KernelIdeal.Value.run_blocks m g
  · run_from Cert.ReferenceIdeal.Value.run m' g'
    all_goals obtain ⟨a0, a1, a2, a3, a4, a5, a6⟩ := hagree c
    · refine (Cert.ReferenceIdeal.Read.val_main_v147_eq (StableHlo.launchContents m' c)).trans (Eq.trans ?_ (Cert.Equation.eq_x m c).symm)
      exact congr (congr (congr (congr (congr (congr (congrArg _ a0) a1) a2) a3) a4) a5) a6
    · refine (Cert.ReferenceIdeal.Read.val_main_v83_eq (StableHlo.launchContents m' c)).trans (Eq.trans ?_ (Cert.Equation.eq_w m c).symm)
      exact congr (congr (congr (congrArg _ a0) a3) a4) a5
    · refine (Cert.ReferenceIdeal.Read.val_main_v148_eq (StableHlo.launchContents m' c)).trans (Eq.trans ?_ (Cert.Equation.eq_b m c).symm)
      exact congr (congrArg _ a0) a5
    · refine (Cert.ReferenceIdeal.Read.val_main_v149_eq (StableHlo.launchContents m' c)).trans (Eq.trans ?_ (Cert.Equation.eq_g m c).symm)
      exact congr (congr (congrArg _ a0) a1) a5
    · refine (Cert.ReferenceIdeal.Read.val_main_v150_eq (StableHlo.launchContents m' c)).trans (Eq.trans ?_ (Cert.Equation.eq_l m c).symm)
      exact congr (congr (congrArg _ a0) a1) a5

/-- The reference runs, keeps its arguments and leaves no counter raised. -/
theorem reference_frame : letI := Cert.ReferenceIdeal.Gen.facts; Cert.quiescent_ReferenceIdeal := by
  intro m g _
  exact (θ_run _ _ _).mono (fun r h => ⟨fun c => by obtain ⟨-, -, -, -, -, h⟩ := h c; exact h, sem_eq_zero_of_no_sems (by decide) r.2⟩)
    (Cert.ReferenceIdeal.Value.run m g)

/-- The same for the gradient of the hidden values, the incoming gradient, the weights and the hidden values' second half finite. -/
theorem algebraic2 : letI := Cert.Kernel2Ideal.Gen.facts; letI := Cert.Reference2Ideal.Gen.facts; letI := Cert.P2.facts; Cert.algebraic_Kernel2Ideal_Reference2Ideal_pre_finite := by
  intro m g m' g' hpre hagree
  refine ⟨_, Cert.P2.run m g, (θ_run _ _ _).mono (fun r h c => ?_) (Cert.Reference2Ideal.Value.run m' g')⟩
  obtain ⟨h, hk⟩ := h c
  refine ⟨h.trans ((Cert.Reference2Ideal.Read.val_main_v18_eq m' c).trans ?_), hk⟩
  obtain ⟨a0, a1, a2⟩ := hagree c
  obtain ⟨p0, p1, p2⟩ := hpre c
  refine Eq.trans ?_ (Cert.P2.eq _ _ _ (Cert.P2.finite0 _ _ _ p0) (Cert.P2.finite1 _ _ _ p1) (Cert.P2.finite2 _ _ _ p2)).symm
  exact congr (congr (congrArg _ a0) a1) a2

/-- The same for the first feed-forward weight's gradient. -/
theorem algebraic3 : letI := Cert.Kernel3Ideal.Gen.facts; letI := Cert.Reference3Ideal.Gen.facts; Cert.algebraic_Kernel3Ideal_Reference3Ideal := by
  intro m g m' g' _ hagree
  refine ⟨fun c => Cert.P3.prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), (θ_run _ _ _).mono (fun r h c => ?_) (Cert.Kernel3Ideal.Value.run_blocks m g),
    (θ_run _ _ _).mono (fun r h c => ?_) (Cert.Reference3Ideal.Value.run m' g')⟩
  · obtain ⟨h, hk⟩ := h c
    exact ⟨h.trans (Cert.P3.final m c), hk⟩
  · obtain ⟨h, hk⟩ := h c
    obtain ⟨a0, a1⟩ := hagree c
    exact ⟨h.trans ((Cert.Reference3Ideal.Read.val_main_v10_eq _ _).trans ((Cert.P3.ref _ _).trans (congr (congrArg _ a0) a1))), hk⟩

/-- The same for the gradient of the feed-forward input. -/
theorem algebraic4 : letI := Cert.Kernel4Ideal.Gen.facts; letI := Cert.Reference4Ideal.Gen.facts; Cert.algebraic_Kernel4Ideal_Reference4Ideal := by
  intro m g m' g' _ hagree
  refine ⟨fun c => Cert.P4.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), (θ_run _ _ _).mono (fun r h c => ?_) (Cert.Kernel4Ideal.Value.run_blocks m g),
    (θ_run _ _ _).mono (fun r h c => ?_) (Cert.Reference4Ideal.Value.run m' g')⟩
  · obtain ⟨h, hk⟩ := h c
    exact ⟨h.trans (Cert.P4.final m c), hk⟩
  · obtain ⟨h, hk⟩ := h c
    obtain ⟨a0, a1⟩ := hagree c
    exact ⟨h.trans ((Cert.Reference4Ideal.Read.val_main_v10_eq _ _).trans ((Cert.P4.ref _ _).trans (congr (congrArg _ a0) a1))), hk⟩

/-- The same for the second feed-forward weight's gradient. -/
theorem algebraic5 : letI := Cert.Kernel5Ideal.Gen.facts; letI := Cert.Reference5Ideal.Gen.facts; Cert.algebraic_Kernel5Ideal_Reference5Ideal := by
  intro m g m' g' _ hagree
  refine ⟨fun c => Cert.P5.prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), (θ_run _ _ _).mono (fun r h c => ?_) (Cert.Kernel5Ideal.Value.run_blocks m g),
    (θ_run _ _ _).mono (fun r h c => ?_) (Cert.Reference5Ideal.Value.run m' g')⟩
  · obtain ⟨h, hk⟩ := h c
    exact ⟨h.trans (Cert.P5.final m c), hk⟩
  · obtain ⟨h, hk⟩ := h c
    obtain ⟨a0, a1⟩ := hagree c
    exact ⟨h.trans ((Cert.Reference5Ideal.Read.val_main_v9_eq _ _).trans ((Cert.P5.ref _ _).trans (congr (congrArg _ a0) a1))), hk⟩

/-- The same for the feed-forward hidden values. -/
theorem algebraic6 : letI := Cert.Kernel6Ideal.Gen.facts; letI := Cert.Reference6Ideal.Gen.facts; Cert.algebraic_Kernel6Ideal_Reference6Ideal := by
  intro m g m' g' _ hagree
  refine ⟨fun c => Cert.P6.prod (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), (θ_run _ _ _).mono (fun r h c => ?_) (Cert.Kernel6Ideal.Value.run_blocks m g),
    (θ_run _ _ _).mono (fun r h c => ?_) (Cert.Reference6Ideal.Value.run m' g')⟩
  · obtain ⟨h, hk⟩ := h c
    exact ⟨h.trans (Cert.P6.final m c), hk⟩
  · obtain ⟨h, hk⟩ := h c
    obtain ⟨a0, a1⟩ := hagree c
    exact ⟨h.trans ((Cert.Reference6Ideal.Read.val_main_v7_eq _ _).trans ((Cert.P6.ref _ _).trans (congr (congrArg _ a0) a1))), hk⟩

/-- The same for the feed-forward output. -/
theorem algebraic7 : letI := Cert.Kernel7Ideal.Gen.facts; letI := Cert.Reference7Ideal.Gen.facts; Cert.algebraic_Kernel7Ideal_Reference7Ideal := by
  intro m g m' g' _ hagree
  refine ⟨fun c => Cert.P7.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), (θ_run _ _ _).mono (fun r h c => ?_) (Cert.Kernel7Ideal.Value.run_blocks m g),
    (θ_run _ _ _).mono (fun r h c => ?_) (Cert.Reference7Ideal.Value.run m' g')⟩
  · obtain ⟨h, hk⟩ := h c
    exact ⟨h.trans (Cert.P7.final m c), hk⟩
  · obtain ⟨h, hk⟩ := h c
    obtain ⟨a0, a1⟩ := hagree c
    exact ⟨h.trans ((Cert.Reference7Ideal.Read.val_main_v6_eq _ _).trans ((Cert.P7.ref _ _).trans (congr (congrArg _ a0) a1))), hk⟩

theorem algebraic8 : letI := Cert.Kernel8Ideal.Gen.facts; letI := Cert.Reference8Ideal.Gen.facts; Cert.algebraic_Kernel8Ideal_Reference8Ideal := by
  intro m g m' g' _ hagree
  refine ⟨fun c => Cert.P8.prod (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), (θ_run _ _ _).mono (fun r h c => ?_) (Cert.Kernel8Ideal.Value.run_blocks m g),
    (θ_run _ _ _).mono (fun r h c => ?_) (Cert.Reference8Ideal.Value.run m' g')⟩
  · obtain ⟨h, hk⟩ := h c
    exact ⟨h.trans (Cert.P8.final m c), hk⟩
  · obtain ⟨h, hk⟩ := h c
    obtain ⟨a0, a1⟩ := hagree c
    exact ⟨h.trans ((Cert.Reference8Ideal.Read.val_main_v6_eq _ _).trans ((Cert.P8.ref _ _).trans (congr (congrArg _ a0) a1))), hk⟩

theorem algebraic9 : letI := Cert.Kernel9Ideal.Gen.facts; letI := Cert.Reference9Ideal.Gen.facts; Cert.algebraic_Kernel9Ideal_Reference9Ideal := by
  intro m g m' g' _ hagree
  refine ⟨fun c => Cert.P9.prod (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), (θ_run _ _ _).mono (fun r h c => ?_) (Cert.Kernel9Ideal.Value.run_blocks m g),
    (θ_run _ _ _).mono (fun r h c => ?_) (Cert.Reference9Ideal.Value.run m' g')⟩
  · obtain ⟨h, hk⟩ := h c
    exact ⟨h.trans (Cert.P9.final m c), hk⟩
  · obtain ⟨h, hk⟩ := h c
    obtain ⟨a0, a1⟩ := hagree c
    exact ⟨h.trans ((Cert.Reference9Ideal.Read.val_main_v6_eq _ _).trans ((Cert.P9.ref _ _).trans (congr (congrArg _ a0) a1))), hk⟩

theorem algebraic10 : letI := Cert.Kernel10Ideal.Gen.facts; letI := Cert.Reference10Ideal.Gen.facts; Cert.algebraic_Kernel10Ideal_Reference10Ideal := by
  intro m g m' g' _ hagree
  refine ⟨fun c => Cert.P10.prod (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), (θ_run _ _ _).mono (fun r h c => ?_) (Cert.Kernel10Ideal.Value.run_blocks m g),
    (θ_run _ _ _).mono (fun r h c => ?_) (Cert.Reference10Ideal.Value.run m' g')⟩
  · obtain ⟨h, hk⟩ := h c
    exact ⟨h.trans (Cert.P10.final m c), hk⟩
  · obtain ⟨h, hk⟩ := h c
    obtain ⟨a0, a1⟩ := hagree c
    exact ⟨h.trans ((Cert.Reference10Ideal.Read.val_main_v9_eq _ _).trans ((Cert.P10.ref _ _).trans (congr (congrArg _ a0) a1))), hk⟩

theorem algebraic11 : letI := Cert.Kernel11Ideal.Gen.facts; letI := Cert.Reference11Ideal.Gen.facts; Cert.algebraic_Kernel11Ideal_Reference11Ideal := by
  intro m g m' g' _ hagree
  refine ⟨fun c => Cert.P11.prod (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), (θ_run _ _ _).mono (fun r h c => ?_) (Cert.Kernel11Ideal.Value.run_blocks m g),
    (θ_run _ _ _).mono (fun r h c => ?_) (Cert.Reference11Ideal.Value.run m' g')⟩
  · obtain ⟨h, hk⟩ := h c
    exact ⟨h.trans (Cert.P11.final m c), hk⟩
  · obtain ⟨h, hk⟩ := h c
    obtain ⟨a0, a1⟩ := hagree c
    exact ⟨h.trans ((Cert.Reference11Ideal.Read.val_main_v8_eq _ _).trans ((Cert.P11.ref _ _).trans (congr (congrArg _ a0) a1))), hk⟩

theorem algebraic12 : letI := Cert.Kernel12Ideal.Gen.facts; letI := Cert.Reference12Ideal.Gen.facts; Cert.algebraic_Kernel12Ideal_Reference12Ideal := by
  intro m g m' g' _ hagree
  refine ⟨fun c => Cert.P12.prod (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), (θ_run _ _ _).mono (fun r h c => ?_) (Cert.Kernel12Ideal.Value.run_blocks m g),
    (θ_run _ _ _).mono (fun r h c => ?_) (Cert.Reference12Ideal.Value.run m' g')⟩
  · obtain ⟨h, hk⟩ := h c
    exact ⟨h.trans (Cert.P12.final m c), hk⟩
  · obtain ⟨h, hk⟩ := h c
    obtain ⟨a0, a1⟩ := hagree c
    exact ⟨h.trans ((Cert.Reference12Ideal.Read.val_main_v9_eq _ _).trans ((Cert.P12.ref _ _).trans (congr (congrArg _ a0) a1))), hk⟩

theorem algebraic13 : letI := Cert.Kernel13Ideal.Gen.facts; letI := Cert.Reference13Ideal.Gen.facts; Cert.algebraic_Kernel13Ideal_Reference13Ideal := by
  intro m g m' g' _ hagree
  refine ⟨fun c => Cert.P13.prod (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), (θ_run _ _ _).mono (fun r h c => ?_) (Cert.Kernel13Ideal.Value.run_blocks m g),
    (θ_run _ _ _).mono (fun r h c => ?_) (Cert.Reference13Ideal.Value.run m' g')⟩
  · obtain ⟨h, hk⟩ := h c
    exact ⟨h.trans (Cert.P13.final m c), hk⟩
  · obtain ⟨h, hk⟩ := h c
    obtain ⟨a0, a1⟩ := hagree c
    exact ⟨h.trans ((Cert.Reference13Ideal.Read.val_main_v12_eq _ _).trans ((Cert.P13.ref _ _).trans (congr (congrArg _ a0) a1))), hk⟩

theorem algebraic14 : letI := Cert.Kernel14Ideal.Gen.facts; letI := Cert.Reference14Ideal.Gen.facts; Cert.algebraic_Kernel14Ideal_Reference14Ideal := by
  intro m g m' g' _ hagree
  refine ⟨fun c => Cert.P14.prod (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), (θ_run _ _ _).mono (fun r h c => ?_) (Cert.Kernel14Ideal.Value.run_blocks m g),
    (θ_run _ _ _).mono (fun r h c => ?_) (Cert.Reference14Ideal.Value.run m' g')⟩
  · obtain ⟨h, hk⟩ := h c
    exact ⟨h.trans (Cert.P14.final m c), hk⟩
  · obtain ⟨h, hk⟩ := h c
    obtain ⟨a0, a1⟩ := hagree c
    exact ⟨h.trans ((Cert.Reference14Ideal.Read.val_main_v12_eq _ _).trans ((Cert.P14.ref _ _).trans (congr (congrArg _ a0) a1))), hk⟩

theorem algebraic15 : letI := Cert.Kernel15Ideal.Gen.facts; letI := Cert.Reference15Ideal.Gen.facts; Cert.algebraic_Kernel15Ideal_Reference15Ideal := by
  intro m g m' g' _ hagree
  refine ⟨fun c => Cert.P15.prod (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), (θ_run _ _ _).mono (fun r h c => ?_) (Cert.Kernel15Ideal.Value.run_blocks m g),
    (θ_run _ _ _).mono (fun r h c => ?_) (Cert.Reference15Ideal.Value.run m' g')⟩
  · obtain ⟨h, hk⟩ := h c
    exact ⟨h.trans (Cert.P15.final m c), hk⟩
  · obtain ⟨h, hk⟩ := h c
    obtain ⟨a0, a1⟩ := hagree c
    exact ⟨h.trans ((Cert.Reference15Ideal.Read.val_main_v5_eq _ _).trans ((Cert.P15.ref _ _).trans (congr (congrArg _ a0) a1))), hk⟩

theorem algebraic16 : letI := Cert.Kernel16Ideal.Gen.facts; letI := Cert.Reference16Ideal.Gen.facts; Cert.algebraic_Kernel16Ideal_Reference16Ideal := by
  intro m g m' g' _ hagree
  refine ⟨fun c => Cert.P16.prod (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), (θ_run _ _ _).mono (fun r h c => ?_) (Cert.Kernel16Ideal.Value.run_blocks m g),
    (θ_run _ _ _).mono (fun r h c => ?_) (Cert.Reference16Ideal.Value.run m' g')⟩
  · obtain ⟨h, hk⟩ := h c
    exact ⟨h.trans (Cert.P16.final m c), hk⟩
  · obtain ⟨h, hk⟩ := h c
    obtain ⟨a0, a1⟩ := hagree c
    exact ⟨h.trans ((Cert.Reference16Ideal.Read.val_main_v7_eq _ _).trans ((Cert.P16.ref _ _).trans (congr (congrArg _ a0) a1))), hk⟩

theorem algebraic17 : letI := Cert.Kernel17Ideal.Gen.facts; letI := Cert.Reference17Ideal.Gen.facts; Cert.algebraic_Kernel17Ideal_Reference17Ideal := by
  intro m g m' g' _ hagree
  refine ⟨fun c => Cert.P17.prod (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), (θ_run _ _ _).mono (fun r h c => ?_) (Cert.Kernel17Ideal.Value.run_blocks m g),
    (θ_run _ _ _).mono (fun r h c => ?_) (Cert.Reference17Ideal.Value.run m' g')⟩
  · obtain ⟨h, hk⟩ := h c
    exact ⟨h.trans (Cert.P17.final m c), hk⟩
  · obtain ⟨h, hk⟩ := h c
    obtain ⟨a0, a1⟩ := hagree c
    exact ⟨h.trans ((Cert.Reference17Ideal.Read.val_main_v7_eq _ _).trans ((Cert.P17.ref _ _).trans (congr (congrArg _ a0) a1))), hk⟩

theorem algebraic18 : letI := Cert.Kernel18Ideal.Gen.facts; letI := Cert.Reference18Ideal.Gen.facts; Cert.algebraic_Kernel18Ideal_Reference18Ideal := by
  intro m g m' g' _ hagree
  refine ⟨fun c => Cert.P18.prod (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)), (θ_run _ _ _).mono (fun r h c => ?_) (Cert.Kernel18Ideal.Value.run_blocks m g),
    (θ_run _ _ _).mono (fun r h c => ?_) (Cert.Reference18Ideal.Value.run m' g')⟩
  · obtain ⟨h, hk⟩ := h c
    exact ⟨h.trans (Cert.P18.final m c), hk⟩
  · obtain ⟨h, hk⟩ := h c
    obtain ⟨a0, a1⟩ := hagree c
    exact ⟨h.trans ((Cert.Reference18Ideal.Read.val_main_v4_eq _ _).trans ((Cert.P18.ref _ _).trans (congr (congrArg _ a0) a1))), hk⟩

theorem algebraic19 : letI := Cert.Kernel19Ideal.Gen.facts; letI := Cert.Reference19Ideal.Gen.facts; Cert.algebraic_Kernel19Ideal_Reference19Ideal := by
  intro m g m' g' _ hagree
  refine ⟨fun c => Cert.P19.prod (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), (θ_run _ _ _).mono (fun r h c => ?_) (Cert.Kernel19Ideal.Value.run_blocks m g),
    (θ_run _ _ _).mono (fun r h c => ?_) (Cert.Reference19Ideal.Value.run m' g')⟩
  · obtain ⟨h, hk⟩ := h c
    exact ⟨h.trans (Cert.P19.final m c), hk⟩
  · obtain ⟨h, hk⟩ := h c
    obtain ⟨a0, a1⟩ := hagree c
    exact ⟨h.trans ((Cert.Reference19Ideal.Read.val_main_v7_eq _ _).trans ((Cert.P19.ref _ _).trans (congr (congrArg _ a0) a1))), hk⟩

theorem algebraic20 : letI := Cert.Kernel20Ideal.Gen.facts; letI := Cert.Reference20Ideal.Gen.facts; Cert.algebraic_Kernel20Ideal_Reference20Ideal := by
  intro m g m' g' _ hagree
  refine ⟨fun c => Cert.P20.prod (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)), (θ_run _ _ _).mono (fun r h c => ?_) (Cert.Kernel20Ideal.Value.run_blocks m g),
    (θ_run _ _ _).mono (fun r h c => ?_) (Cert.Reference20Ideal.Value.run m' g')⟩
  · obtain ⟨h, hk⟩ := h c
    exact ⟨h.trans (Cert.P20.final m c), hk⟩
  · obtain ⟨h, hk⟩ := h c
    obtain ⟨a0, a1⟩ := hagree c
    exact ⟨h.trans ((Cert.Reference20Ideal.Read.val_main_v7_eq _ _).trans ((Cert.P20.ref _ _).trans (congr (congrArg _ a0) a1))), hk⟩

theorem algebraic21 : letI := Cert.Kernel21Ideal.Gen.facts; letI := Cert.Reference21Ideal.Gen.facts; Cert.algebraic_Kernel21Ideal_Reference21Ideal := by
  intro m g m' g' _ hagree
  refine ⟨fun c => Cert.P21.prod (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), (θ_run _ _ _).mono (fun r h c => ?_) (Cert.Kernel21Ideal.Value.run_blocks m g),
    (θ_run _ _ _).mono (fun r h c => ?_) (Cert.Reference21Ideal.Value.run m' g')⟩
  · obtain ⟨h, hk⟩ := h c
    exact ⟨h.trans (Cert.P21.final m c), hk⟩
  · obtain ⟨h, hk⟩ := h c
    obtain ⟨a0, a1⟩ := hagree c
    exact ⟨h.trans ((Cert.Reference21Ideal.Read.val_main_v7_eq _ _).trans ((Cert.P21.ref _ _).trans (congr (congrArg _ a0) a1))), hk⟩

theorem algebraic22 : letI := Cert.Kernel22Ideal.Gen.facts; letI := Cert.Reference22Ideal.Gen.facts; Cert.algebraic_Kernel22Ideal_Reference22Ideal := by
  intro m g m' g' _ hagree
  refine ⟨fun c => Cert.P22.prod (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), (θ_run _ _ _).mono (fun r h c => ?_) (Cert.Kernel22Ideal.Value.run_blocks m g),
    (θ_run _ _ _).mono (fun r h c => ?_) (Cert.Reference22Ideal.Value.run m' g')⟩
  · obtain ⟨h, hk⟩ := h c
    exact ⟨h.trans (Cert.P22.final m c), hk⟩
  · obtain ⟨h, hk⟩ := h c
    obtain ⟨a0, a1⟩ := hagree c
    exact ⟨h.trans ((Cert.Reference22Ideal.Read.val_main_v10_eq _ _).trans ((Cert.P22.ref _ _).trans (congr (congrArg _ a0) a1))), hk⟩

theorem algebraic23 : letI := Cert.Kernel23Ideal.Gen.facts; letI := Cert.Reference23Ideal.Gen.facts; Cert.algebraic_Kernel23Ideal_Reference23Ideal := by
  intro m g m' g' _ hagree
  refine ⟨fun c => Cert.P23.prod (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), (θ_run _ _ _).mono (fun r h c => ?_) (Cert.Kernel23Ideal.Value.run_blocks m g),
    (θ_run _ _ _).mono (fun r h c => ?_) (Cert.Reference23Ideal.Value.run m' g')⟩
  · obtain ⟨h, hk⟩ := h c
    exact ⟨h.trans (Cert.P23.final m c), hk⟩
  · obtain ⟨h, hk⟩ := h c
    obtain ⟨a0, a1⟩ := hagree c
    exact ⟨h.trans ((Cert.Reference23Ideal.Read.val_main_v10_eq _ _).trans ((Cert.P23.ref _ _).trans (congr (congrArg _ a0) a1))), hk⟩

theorem algebraic24 : letI := Cert.Kernel24Ideal.Gen.facts; letI := Cert.Reference24Ideal.Gen.facts; Cert.algebraic_Kernel24Ideal_Reference24Ideal :=
  Cert.P24.equal

theorem algebraic25 : letI := Cert.Kernel25Ideal.Gen.facts; letI := Cert.Reference25Ideal.Gen.facts; Cert.algebraic_Kernel25Ideal_Reference25Ideal :=
  Cert.P25.equal

theorem algebraic26 : letI := Cert.Kernel26Ideal.Gen.facts; letI := Cert.Reference26Ideal.Gen.facts; letI := Cert.P26.facts; Cert.algebraic_Kernel26Ideal_Reference26Ideal_pre_finite_attend :=
  Cert.P26.equal

theorem algebraic27 : letI := Cert.Kernel27Ideal.Gen.facts; letI := Cert.Reference27Ideal.Gen.facts; Cert.algebraic_Kernel27Ideal_Reference27Ideal :=
  Cert.P27.equal

theorem algebraic28 : letI := Cert.Kernel28Ideal.Gen.facts; letI := Cert.Reference28Ideal.Gen.facts; Cert.algebraic_Kernel28Ideal_Reference28Ideal :=
  Cert.P28.equal

theorem algebraic29 : letI := Cert.Kernel29Ideal.Gen.facts; letI := Cert.Reference29Ideal.Gen.facts; Cert.algebraic_Kernel29Ideal_Reference29Ideal :=
  Cert.P29.equal

theorem algebraic30 : letI := Cert.Kernel30Ideal.Gen.facts; letI := Cert.Reference30Ideal.Gen.facts; Cert.algebraic_Kernel30Ideal_Reference30Ideal :=
  Cert.P30.equal

theorem algebraic31 : letI := Cert.Kernel31Ideal.Gen.facts; letI := Cert.Reference31Ideal.Gen.facts; Cert.algebraic_Kernel31Ideal_Reference31Ideal :=
  Cert.P31.equal

theorem algebraic32 : letI := Cert.Kernel32Ideal.Gen.facts; letI := Cert.Reference32Ideal.Gen.facts; Cert.algebraic_Kernel32Ideal_Reference32Ideal :=
  Cert.P32.equal

theorem algebraic33 : letI := Cert.Kernel33Ideal.Gen.facts; letI := Cert.Reference33Ideal.Gen.facts; Cert.algebraic_Kernel33Ideal_Reference33Ideal :=
  Cert.P33.equal

theorem algebraic34 : letI := Cert.Kernel34Ideal.Gen.facts; letI := Cert.Reference34Ideal.Gen.facts; Cert.algebraic_Kernel34Ideal_Reference34Ideal :=
  Cert.P34.equal

theorem algebraic35 : letI := Cert.Kernel35Ideal.Gen.facts; letI := Cert.Reference35Ideal.Gen.facts; Cert.algebraic_Kernel35Ideal_Reference35Ideal :=
  Cert.P35.equal

theorem algebraic36 : letI := Cert.Kernel36Ideal.Gen.facts; letI := Cert.Reference36Ideal.Gen.facts; Cert.algebraic_Kernel36Ideal_Reference36Ideal :=
  Cert.P36.equal

theorem algebraic37 : letI := Cert.Kernel37Ideal.Gen.facts; letI := Cert.Reference37Ideal.Gen.facts; Cert.algebraic_Kernel37Ideal_Reference37Ideal :=
  Cert.P37.equal

theorem algebraic38 : letI := Cert.Kernel38Ideal.Gen.facts; letI := Cert.Reference38Ideal.Gen.facts; Cert.algebraic_Kernel38Ideal_Reference38Ideal :=
  Cert.P38.equal

theorem reference_frame2 : letI := Cert.Reference2Ideal.Gen.facts; Cert.quiescent_Reference2Ideal := by
  intro m g _
  exact (θ_run _ _ _).mono (fun r h => ⟨fun c => by obtain ⟨-, h⟩ := h c; exact h, sem_eq_zero_of_no_sems (by decide) r.2⟩)
    (Cert.Reference2Ideal.Value.run m g)

theorem reference_frame3 : letI := Cert.Reference3Ideal.Gen.facts; Cert.quiescent_Reference3Ideal := by
  intro m g _
  exact (θ_run _ _ _).mono (fun r h => ⟨fun c => by obtain ⟨-, h⟩ := h c; exact h, sem_eq_zero_of_no_sems (by decide) r.2⟩)
    (Cert.Reference3Ideal.Value.run m g)

theorem reference_frame4 : letI := Cert.Reference4Ideal.Gen.facts; Cert.quiescent_Reference4Ideal := by
  intro m g _
  exact (θ_run _ _ _).mono (fun r h => ⟨fun c => by obtain ⟨-, h⟩ := h c; exact h, sem_eq_zero_of_no_sems (by decide) r.2⟩)
    (Cert.Reference4Ideal.Value.run m g)

theorem reference_frame5 : letI := Cert.Reference5Ideal.Gen.facts; Cert.quiescent_Reference5Ideal := by
  intro m g _
  exact (θ_run _ _ _).mono (fun r h => ⟨fun c => by obtain ⟨-, h⟩ := h c; exact h, sem_eq_zero_of_no_sems (by decide) r.2⟩)
    (Cert.Reference5Ideal.Value.run m g)

theorem reference_frame6 : letI := Cert.Reference6Ideal.Gen.facts; Cert.quiescent_Reference6Ideal := by
  intro m g _
  exact (θ_run _ _ _).mono (fun r h => ⟨fun c => by obtain ⟨-, h⟩ := h c; exact h, sem_eq_zero_of_no_sems (by decide) r.2⟩)
    (Cert.Reference6Ideal.Value.run m g)

theorem reference_frame7 : letI := Cert.Reference7Ideal.Gen.facts; Cert.quiescent_Reference7Ideal := by
  intro m g _
  exact (θ_run _ _ _).mono (fun r h => ⟨fun c => by obtain ⟨-, h⟩ := h c; exact h, sem_eq_zero_of_no_sems (by decide) r.2⟩)
    (Cert.Reference7Ideal.Value.run m g)

theorem reference_frame8 : letI := Cert.Reference8Ideal.Gen.facts; Cert.quiescent_Reference8Ideal := by
  intro m g _
  exact (θ_run _ _ _).mono (fun r h => ⟨fun c => by obtain ⟨-, h⟩ := h c; exact h, sem_eq_zero_of_no_sems (by decide) r.2⟩)
    (Cert.Reference8Ideal.Value.run m g)

theorem reference_frame9 : letI := Cert.Reference9Ideal.Gen.facts; Cert.quiescent_Reference9Ideal := by
  intro m g _
  exact (θ_run _ _ _).mono (fun r h => ⟨fun c => by obtain ⟨-, h⟩ := h c; exact h, sem_eq_zero_of_no_sems (by decide) r.2⟩)
    (Cert.Reference9Ideal.Value.run m g)

theorem reference_frame10 : letI := Cert.Reference10Ideal.Gen.facts; Cert.quiescent_Reference10Ideal := by
  intro m g _
  exact (θ_run _ _ _).mono (fun r h => ⟨fun c => by obtain ⟨-, h⟩ := h c; exact h, sem_eq_zero_of_no_sems (by decide) r.2⟩)
    (Cert.Reference10Ideal.Value.run m g)

theorem reference_frame11 : letI := Cert.Reference11Ideal.Gen.facts; Cert.quiescent_Reference11Ideal := by
  intro m g _
  exact (θ_run _ _ _).mono (fun r h => ⟨fun c => by obtain ⟨-, h⟩ := h c; exact h, sem_eq_zero_of_no_sems (by decide) r.2⟩)
    (Cert.Reference11Ideal.Value.run m g)

theorem reference_frame12 : letI := Cert.Reference12Ideal.Gen.facts; Cert.quiescent_Reference12Ideal := by
  intro m g _
  exact (θ_run _ _ _).mono (fun r h => ⟨fun c => by obtain ⟨-, h⟩ := h c; exact h, sem_eq_zero_of_no_sems (by decide) r.2⟩)
    (Cert.Reference12Ideal.Value.run m g)

theorem reference_frame13 : letI := Cert.Reference13Ideal.Gen.facts; Cert.quiescent_Reference13Ideal := by
  intro m g _
  exact (θ_run _ _ _).mono (fun r h => ⟨fun c => by obtain ⟨-, h⟩ := h c; exact h, sem_eq_zero_of_no_sems (by decide) r.2⟩)
    (Cert.Reference13Ideal.Value.run m g)

theorem reference_frame14 : letI := Cert.Reference14Ideal.Gen.facts; Cert.quiescent_Reference14Ideal := by
  intro m g _
  exact (θ_run _ _ _).mono (fun r h => ⟨fun c => by obtain ⟨-, h⟩ := h c; exact h, sem_eq_zero_of_no_sems (by decide) r.2⟩)
    (Cert.Reference14Ideal.Value.run m g)

theorem reference_frame15 : letI := Cert.Reference15Ideal.Gen.facts; Cert.quiescent_Reference15Ideal := by
  intro m g _
  exact (θ_run _ _ _).mono (fun r h => ⟨fun c => by obtain ⟨-, h⟩ := h c; exact h, sem_eq_zero_of_no_sems (by decide) r.2⟩)
    (Cert.Reference15Ideal.Value.run m g)

theorem reference_frame16 : letI := Cert.Reference16Ideal.Gen.facts; Cert.quiescent_Reference16Ideal := by
  intro m g _
  exact (θ_run _ _ _).mono (fun r h => ⟨fun c => by obtain ⟨-, h⟩ := h c; exact h, sem_eq_zero_of_no_sems (by decide) r.2⟩)
    (Cert.Reference16Ideal.Value.run m g)

theorem reference_frame17 : letI := Cert.Reference17Ideal.Gen.facts; Cert.quiescent_Reference17Ideal := by
  intro m g _
  exact (θ_run _ _ _).mono (fun r h => ⟨fun c => by obtain ⟨-, h⟩ := h c; exact h, sem_eq_zero_of_no_sems (by decide) r.2⟩)
    (Cert.Reference17Ideal.Value.run m g)

theorem reference_frame18 : letI := Cert.Reference18Ideal.Gen.facts; Cert.quiescent_Reference18Ideal := by
  intro m g _
  exact (θ_run _ _ _).mono (fun r h => ⟨fun c => by obtain ⟨-, h⟩ := h c; exact h, sem_eq_zero_of_no_sems (by decide) r.2⟩)
    (Cert.Reference18Ideal.Value.run m g)

theorem reference_frame19 : letI := Cert.Reference19Ideal.Gen.facts; Cert.quiescent_Reference19Ideal := by
  intro m g _
  exact (θ_run _ _ _).mono (fun r h => ⟨fun c => by obtain ⟨-, h⟩ := h c; exact h, sem_eq_zero_of_no_sems (by decide) r.2⟩)
    (Cert.Reference19Ideal.Value.run m g)

theorem reference_frame20 : letI := Cert.Reference20Ideal.Gen.facts; Cert.quiescent_Reference20Ideal := by
  intro m g _
  exact (θ_run _ _ _).mono (fun r h => ⟨fun c => by obtain ⟨-, h⟩ := h c; exact h, sem_eq_zero_of_no_sems (by decide) r.2⟩)
    (Cert.Reference20Ideal.Value.run m g)

theorem reference_frame21 : letI := Cert.Reference21Ideal.Gen.facts; Cert.quiescent_Reference21Ideal := by
  intro m g _
  exact (θ_run _ _ _).mono (fun r h => ⟨fun c => by obtain ⟨-, h⟩ := h c; exact h, sem_eq_zero_of_no_sems (by decide) r.2⟩)
    (Cert.Reference21Ideal.Value.run m g)

theorem reference_frame22 : letI := Cert.Reference22Ideal.Gen.facts; Cert.quiescent_Reference22Ideal := by
  intro m g _
  exact (θ_run _ _ _).mono (fun r h => ⟨fun c => by obtain ⟨-, h⟩ := h c; exact h, sem_eq_zero_of_no_sems (by decide) r.2⟩)
    (Cert.Reference22Ideal.Value.run m g)

theorem reference_frame23 : letI := Cert.Reference23Ideal.Gen.facts; Cert.quiescent_Reference23Ideal := by
  intro m g _
  exact (θ_run _ _ _).mono (fun r h => ⟨fun c => by obtain ⟨-, h⟩ := h c; exact h, sem_eq_zero_of_no_sems (by decide) r.2⟩)
    (Cert.Reference23Ideal.Value.run m g)

theorem reference_frame24 : letI := Cert.Reference24Ideal.Gen.facts; Cert.quiescent_Reference24Ideal := by
  intro m g _
  exact (θ_run _ _ _).mono (fun r h => ⟨fun c => by obtain ⟨-, h⟩ := h c; exact h, sem_eq_zero_of_no_sems (by decide) r.2⟩)
    (Cert.Reference24Ideal.Value.run m g)

theorem reference_frame25 : letI := Cert.Reference25Ideal.Gen.facts; Cert.quiescent_Reference25Ideal := by
  intro m g _
  exact (θ_run _ _ _).mono (fun r h => ⟨fun c => by obtain ⟨-, h⟩ := h c; exact h, sem_eq_zero_of_no_sems (by decide) r.2⟩)
    (Cert.Reference25Ideal.Value.run m g)

theorem reference_frame26 : letI := Cert.Reference26Ideal.Gen.facts; Cert.quiescent_Reference26Ideal := by
  intro m g _
  exact (θ_run _ _ _).mono (fun r h => ⟨fun c => by obtain ⟨-, -, h⟩ := h c; exact h, sem_eq_zero_of_no_sems (by decide) r.2⟩)
    (Cert.Reference26Ideal.Value.run m g)

theorem reference_frame26_finite : letI := Cert.Reference26Ideal.Gen.facts; letI := Cert.P26.facts; Cert.quiescent_Reference26Ideal_pre_finite_attend := by
  intro m g _
  exact (θ_run _ _ _).mono (fun r h => ⟨fun c => by obtain ⟨-, -, h⟩ := h c; exact h, sem_eq_zero_of_no_sems (by decide) r.2⟩)
    (Cert.Reference26Ideal.Value.run m g)

theorem reference_frame27 : letI := Cert.Reference27Ideal.Gen.facts; Cert.quiescent_Reference27Ideal := by
  intro m g _
  exact (θ_run _ _ _).mono (fun r h => ⟨fun c => by obtain ⟨-, h⟩ := h c; exact h, sem_eq_zero_of_no_sems (by decide) r.2⟩)
    (Cert.Reference27Ideal.Value.run m g)

theorem reference_frame28 : letI := Cert.Reference28Ideal.Gen.facts; Cert.quiescent_Reference28Ideal := by
  intro m g _
  exact (θ_run _ _ _).mono (fun r h => ⟨fun c => by obtain ⟨-, h⟩ := h c; exact h, sem_eq_zero_of_no_sems (by decide) r.2⟩)
    (Cert.Reference28Ideal.Value.run m g)

theorem reference_frame29 : letI := Cert.Reference29Ideal.Gen.facts; Cert.quiescent_Reference29Ideal := by
  intro m g _
  exact (θ_run _ _ _).mono (fun r h => ⟨fun c => by obtain ⟨-, h⟩ := h c; exact h, sem_eq_zero_of_no_sems (by decide) r.2⟩)
    (Cert.Reference29Ideal.Value.run m g)

theorem reference_frame30 : letI := Cert.Reference30Ideal.Gen.facts; Cert.quiescent_Reference30Ideal := by
  intro m g _
  exact (θ_run _ _ _).mono (fun r h => ⟨fun c => by obtain ⟨-, h⟩ := h c; exact h, sem_eq_zero_of_no_sems (by decide) r.2⟩)
    (Cert.Reference30Ideal.Value.run m g)

theorem reference_frame31 : letI := Cert.Reference31Ideal.Gen.facts; Cert.quiescent_Reference31Ideal := by
  intro m g _
  exact (θ_run _ _ _).mono (fun r h => ⟨fun c => by obtain ⟨-, h⟩ := h c; exact h, sem_eq_zero_of_no_sems (by decide) r.2⟩)
    (Cert.Reference31Ideal.Value.run m g)

theorem reference_frame32 : letI := Cert.Reference32Ideal.Gen.facts; Cert.quiescent_Reference32Ideal := by
  intro m g _
  exact (θ_run _ _ _).mono (fun r h => ⟨fun c => by obtain ⟨-, -, h⟩ := h c; exact h, sem_eq_zero_of_no_sems (by decide) r.2⟩)
    (Cert.Reference32Ideal.Value.run m g)

theorem reference_frame33 : letI := Cert.Reference33Ideal.Gen.facts; Cert.quiescent_Reference33Ideal := by
  intro m g _
  exact (θ_run _ _ _).mono (fun r h => ⟨fun c => by obtain ⟨-, -, -, -, h⟩ := h c; exact h, sem_eq_zero_of_no_sems (by decide) r.2⟩)
    (Cert.Reference33Ideal.Value.run m g)

theorem reference_frame34 : letI := Cert.Reference34Ideal.Gen.facts; Cert.quiescent_Reference34Ideal := by
  intro m g _
  exact (θ_run _ _ _).mono (fun r h => ⟨fun c => by obtain ⟨-, -, h⟩ := h c; exact h, sem_eq_zero_of_no_sems (by decide) r.2⟩)
    (Cert.Reference34Ideal.Value.run m g)

theorem reference_frame35 : letI := Cert.Reference35Ideal.Gen.facts; Cert.quiescent_Reference35Ideal := by
  intro m g _
  exact (θ_run _ _ _).mono (fun r h => ⟨fun c => by obtain ⟨-, -, h⟩ := h c; exact h, sem_eq_zero_of_no_sems (by decide) r.2⟩)
    (Cert.Reference35Ideal.Value.run m g)

theorem reference_frame36 : letI := Cert.Reference36Ideal.Gen.facts; Cert.quiescent_Reference36Ideal := by
  intro m g _
  exact (θ_run _ _ _).mono (fun r h => ⟨fun c => by obtain ⟨-, -, h⟩ := h c; exact h, sem_eq_zero_of_no_sems (by decide) r.2⟩)
    (Cert.Reference36Ideal.Value.run m g)

theorem reference_frame37 : letI := Cert.Reference37Ideal.Gen.facts; Cert.quiescent_Reference37Ideal := by
  intro m g _
  exact (θ_run _ _ _).mono (fun r h => ⟨fun c => by obtain ⟨-, -, h⟩ := h c; exact h, sem_eq_zero_of_no_sems (by decide) r.2⟩)
    (Cert.Reference37Ideal.Value.run m g)

theorem reference_frame38 : letI := Cert.Reference38Ideal.Gen.facts; Cert.quiescent_Reference38Ideal := by
  intro m g _
  exact (θ_run _ _ _).mono (fun r h => ⟨fun c => by obtain ⟨-, -, h⟩ := h c; exact h, sem_eq_zero_of_no_sems (by decide) r.2⟩)
    (Cert.Reference38Ideal.Value.run m g)

theorem reference_frame2_finite : letI := Cert.Reference2Ideal.Gen.facts; letI := Cert.P2.facts; Cert.quiescent_Reference2Ideal_pre_finite := by
  intro m g _
  exact (θ_run _ _ _).mono (fun r h => ⟨fun c => by obtain ⟨-, h⟩ := h c; exact h, sem_eq_zero_of_no_sems (by decide) r.2⟩)
    (Cert.Reference2Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.P2.facts, Cert.P26.facts,
    fun m ρ _ => Cert.Kernel.Gen.frame m ρ, fun m ρ _ => Cert.KernelIdeal.Gen.frame m ρ, reference_frame,
    fun m ρ _ => Cert.Kernel2.Gen.frame m ρ, fun m ρ _ => Cert.Kernel2Ideal.Gen.frame m ρ, fun m ρ _ => Cert.Kernel2Ideal.Gen.frame m ρ, reference_frame2, reference_frame2_finite,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, reference_frame5,
    fun m ρ _ => Cert.Kernel6.Gen.frame m ρ, fun m ρ _ => Cert.Kernel6Ideal.Gen.frame m ρ, reference_frame6,
    fun m ρ _ => Cert.Kernel7.Gen.frame m ρ, fun m ρ _ => Cert.Kernel7Ideal.Gen.frame m ρ, reference_frame7,
    fun m ρ _ => Cert.Kernel8.Gen.frame m ρ, fun m ρ _ => Cert.Kernel8Ideal.Gen.frame m ρ, reference_frame8,
    fun m ρ _ => Cert.Kernel9.Gen.frame m ρ, fun m ρ _ => Cert.Kernel9Ideal.Gen.frame m ρ, reference_frame9,
    fun m ρ _ => Cert.Kernel10.Gen.frame m ρ, fun m ρ _ => Cert.Kernel10Ideal.Gen.frame m ρ, reference_frame10,
    fun m ρ _ => Cert.Kernel11.Gen.frame m ρ, fun m ρ _ => Cert.Kernel11Ideal.Gen.frame m ρ, reference_frame11,
    fun m ρ _ => Cert.Kernel12.Gen.frame m ρ, fun m ρ _ => Cert.Kernel12Ideal.Gen.frame m ρ, reference_frame12,
    fun m ρ _ => Cert.Kernel13.Gen.frame m ρ, fun m ρ _ => Cert.Kernel13Ideal.Gen.frame m ρ, reference_frame13,
    fun m ρ _ => Cert.Kernel14.Gen.frame m ρ, fun m ρ _ => Cert.Kernel14Ideal.Gen.frame m ρ, reference_frame14,
    fun m ρ _ => Cert.Kernel15.Gen.frame m ρ, fun m ρ _ => Cert.Kernel15Ideal.Gen.frame m ρ, reference_frame15,
    fun m ρ _ => Cert.Kernel16.Gen.frame m ρ, fun m ρ _ => Cert.Kernel16Ideal.Gen.frame m ρ, reference_frame16,
    fun m ρ _ => Cert.Kernel17.Gen.frame m ρ, fun m ρ _ => Cert.Kernel17Ideal.Gen.frame m ρ, reference_frame17,
    fun m ρ _ => Cert.Kernel18.Gen.frame m ρ, fun m ρ _ => Cert.Kernel18Ideal.Gen.frame m ρ, reference_frame18,
    fun m ρ _ => Cert.Kernel19.Gen.frame m ρ, fun m ρ _ => Cert.Kernel19Ideal.Gen.frame m ρ, reference_frame19,
    fun m ρ _ => Cert.Kernel20.Gen.frame m ρ, fun m ρ _ => Cert.Kernel20Ideal.Gen.frame m ρ, reference_frame20,
    fun m ρ _ => Cert.Kernel21.Gen.frame m ρ, fun m ρ _ => Cert.Kernel21Ideal.Gen.frame m ρ, reference_frame21,
    fun m ρ _ => Cert.Kernel22.Gen.frame m ρ, fun m ρ _ => Cert.Kernel22Ideal.Gen.frame m ρ, reference_frame22,
    fun m ρ _ => Cert.Kernel23.Gen.frame m ρ, fun m ρ _ => Cert.Kernel23Ideal.Gen.frame m ρ, reference_frame23,
    fun m ρ _ => Cert.Kernel24.Gen.frame m ρ, fun m ρ _ => Cert.Kernel24Ideal.Gen.frame m ρ, reference_frame24,
    fun m ρ _ => Cert.Kernel25.Gen.frame m ρ, fun m ρ _ => Cert.Kernel25Ideal.Gen.frame m ρ, reference_frame25,
    fun m ρ _ => Cert.Kernel26.Gen.frame m ρ, fun m ρ _ => Cert.Kernel26Ideal.Gen.frame m ρ, fun m ρ _ => Cert.Kernel26Ideal.Gen.frame m ρ, reference_frame26, reference_frame26_finite,
    fun m ρ _ => Cert.Kernel27.Gen.frame m ρ, fun m ρ _ => Cert.Kernel27Ideal.Gen.frame m ρ, reference_frame27,
    fun m ρ _ => Cert.Kernel28.Gen.frame m ρ, fun m ρ _ => Cert.Kernel28Ideal.Gen.frame m ρ, reference_frame28,
    fun m ρ _ => Cert.Kernel29.Gen.frame m ρ, fun m ρ _ => Cert.Kernel29Ideal.Gen.frame m ρ, reference_frame29,
    fun m ρ _ => Cert.Kernel30.Gen.frame m ρ, fun m ρ _ => Cert.Kernel30Ideal.Gen.frame m ρ, reference_frame30,
    fun m ρ _ => Cert.Kernel31.Gen.frame m ρ, fun m ρ _ => Cert.Kernel31Ideal.Gen.frame m ρ, reference_frame31,
    fun m ρ _ => Cert.Kernel32.Gen.frame m ρ, fun m ρ _ => Cert.Kernel32Ideal.Gen.frame m ρ, reference_frame32,
    fun m ρ _ => Cert.Kernel33.Gen.frame m ρ, fun m ρ _ => Cert.Kernel33Ideal.Gen.frame m ρ, reference_frame33,
    fun m ρ _ => Cert.Kernel34.Gen.frame m ρ, fun m ρ _ => Cert.Kernel34Ideal.Gen.frame m ρ, reference_frame34,
    fun m ρ _ => Cert.Kernel35.Gen.frame m ρ, fun m ρ _ => Cert.Kernel35Ideal.Gen.frame m ρ, reference_frame35,
    fun m ρ _ => Cert.Kernel36.Gen.frame m ρ, fun m ρ _ => Cert.Kernel36Ideal.Gen.frame m ρ, reference_frame36,
    fun m ρ _ => Cert.Kernel37.Gen.frame m ρ, fun m ρ _ => Cert.Kernel37Ideal.Gen.frame m ρ, reference_frame37,
    fun m ρ _ => Cert.Kernel38.Gen.frame m ρ, fun m ρ _ => Cert.Kernel38Ideal.Gen.frame m ρ, reference_frame38,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38⟩

end Cert.Proof

end
